-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_NormGate (m : (ℓ : Loc Cert.NormGate.nD Cert.NormGate.τ Cert.NormGate.sig) → Buf (Elt Bits) ℓ) : Prop :=
  True

def Pre_NormGateIdeal (m : (ℓ : Loc Cert.NormGateIdeal.nD Cert.NormGateIdeal.τ Cert.NormGateIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite [hPre_finite : Cert.Pre_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2)
      ∧ r.2.mem ((c.tc : Thread Cert.NormGate.nD Cert.NormGate.τ).loc Cert.NormGate.main_arg3) = m ((c.tc : Thread Cert.NormGate.nD Cert.NormGate.τ).loc Cert.NormGate.main_arg3)
      ∧ r.2.mem ((c.tc : Thread Cert.NormGate.nD Cert.NormGate.τ).loc Cert.NormGate.main_arg4) = m ((c.tc : Thread Cert.NormGate.nD Cert.NormGate.τ).loc Cert.NormGate.main_arg4))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
      ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
      ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def quiescent_RouterRefIdeal_pre_finite [hRouterRefIdeal : Cert.RouterRefIdeal.Facts] [hPre_finite : Cert.Pre_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3))
      ∧ r.2.sem = fun _ => 0)

def preserves_Kernel_KernelIdeal : Prop :=
  IdealRules.bf16_pair.PackStatement Cert.KernelIdeal.S512x1024
  ∧ IdealRules.bf16_pair.Statement Cert.KernelIdeal.S1024x1024 Cert.KernelIdeal.S512x1024

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_NormGate_NormGateIdeal : Prop :=
  True

def algebraic_NormGateIdeal_NormRefIdeal [hNormGateIdeal : Cert.NormGateIdeal.Facts] [hNormRefIdeal : Cert.NormRefIdeal.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormGateIdeal m →
    (∀ c : Dev Cert.NormGateIdeal.nD,
      m' ((c.tc : Thread Cert.NormRefIdeal.nD Cert.NormRefIdeal.τ).loc Cert.NormRefIdeal.main_arg0) = m ((c.tc : Thread Cert.NormGateIdeal.nD Cert.NormGateIdeal.τ).loc Cert.NormGateIdeal.main_arg0)
      ∧ m' ((c.tc : Thread Cert.NormRefIdeal.nD Cert.NormRefIdeal.τ).loc Cert.NormRefIdeal.main_arg1) = m ((c.tc : Thread Cert.NormGateIdeal.nD Cert.NormGateIdeal.τ).loc Cert.NormGateIdeal.main_arg1)
      ∧ m' ((c.tc : Thread Cert.NormRefIdeal.nD Cert.NormRefIdeal.τ).loc Cert.NormRefIdeal.main_arg2) = m ((c.tc : Thread Cert.NormGateIdeal.nD Cert.NormGateIdeal.τ).loc Cert.NormGateIdeal.main_arg2)
      ∧ m' ((c.tc : Thread Cert.NormRefIdeal.nD Cert.NormRefIdeal.τ).loc Cert.NormRefIdeal.main_arg3) = m ((c.tc : Thread Cert.NormGateIdeal.nD Cert.NormGateIdeal.τ).loc Cert.NormGateIdeal.main_arg3)
      ∧ m' ((c.tc : Thread Cert.NormRefIdeal.nD Cert.NormRefIdeal.τ).loc Cert.NormRefIdeal.main_arg4) = m ((c.tc : Thread Cert.NormGateIdeal.nD Cert.NormGateIdeal.τ).loc Cert.NormGateIdeal.main_arg4)) →
    ∃ (v0 : (c : Dev Cert.NormGateIdeal.nD) → Buf (Elt Ideal) ((c.tc : Thread Cert.NormGateIdeal.nD Cert.NormGateIdeal.τ).loc Cert.NormGateIdeal.main_v4_0)) (v1 : (c : Dev Cert.NormGateIdeal.nD) → Buf (Elt Ideal) ((c.tc : Thread Cert.NormGateIdeal.nD Cert.NormGateIdeal.τ).loc Cert.NormGateIdeal.main_v4_1)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v4_0) = v0 c
          ∧ r.2.mem ((c.tc : Thread Cert.NormGateIdeal.nD Cert.NormGateIdeal.τ).loc Cert.NormGateIdeal.main_v4_1) = v1 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
          ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
          ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v24) = v0 c
          ∧ r.2.mem ((c.tc : Thread Cert.NormRefIdeal.nD Cert.NormRefIdeal.τ).loc Cert.NormRefIdeal.main_v23) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Router_RouterIdeal : Prop :=
  True

def algebraic_RouterIdeal_RouterRefIdeal_pre_finite [hRouterIdeal : Cert.RouterIdeal.Facts] [hRouterRefIdeal : Cert.RouterRefIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v2_0)) (v1 : (c : Dev Cert.RouterIdeal.nD) → Buf (Elt Ideal) ((c.tc : Thread Cert.RouterIdeal.nD Cert.RouterIdeal.τ).loc Cert.RouterIdeal.main_v2_1)) (v2 : (c : Dev Cert.RouterIdeal.nD) → Buf (Elt Ideal) ((c.tc : Thread Cert.RouterIdeal.nD Cert.RouterIdeal.τ).loc Cert.RouterIdeal.main_v2_2)) (v3 : (c : Dev Cert.RouterIdeal.nD) → Buf (Elt Ideal) ((c.tc : Thread Cert.RouterIdeal.nD Cert.RouterIdeal.τ).loc Cert.RouterIdeal.main_v2_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_0) = v0 c
          ∧ r.2.mem ((c.tc : Thread Cert.RouterIdeal.nD Cert.RouterIdeal.τ).loc Cert.RouterIdeal.main_v2_1) = v1 c
          ∧ r.2.mem ((c.tc : Thread Cert.RouterIdeal.nD Cert.RouterIdeal.τ).loc Cert.RouterIdeal.main_v2_2) = v2 c
          ∧ r.2.mem ((c.tc : Thread Cert.RouterIdeal.nD Cert.RouterIdeal.τ).loc Cert.RouterIdeal.main_v2_3) = v3 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v30) = v0 c
          ∧ r.2.mem ((c.tc : Thread Cert.RouterRefIdeal.nD Cert.RouterRefIdeal.τ).loc Cert.RouterRefIdeal.main_v42) = v1 c
          ∧ r.2.mem ((c.tc : Thread Cert.RouterRefIdeal.nD Cert.RouterRefIdeal.τ).loc Cert.RouterRefIdeal.main_v43) = v2 c
          ∧ r.2.mem ((c.tc : Thread Cert.RouterRefIdeal.nD Cert.RouterRefIdeal.τ).loc Cert.RouterRefIdeal.main_v44) = v3 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hNormGate : Cert.NormGate.Facts) (hNormGateIdeal : Cert.NormGateIdeal.Facts) (hNormRefIdeal : Cert.NormRefIdeal.Facts) (hRouter : Cert.Router.Facts) (hRouterIdeal : Cert.RouterIdeal.Facts) (hRouterRefIdeal : Cert.RouterRefIdeal.Facts) (hPre_routed : Cert.Pre_routed.Facts) (hPre_finite : Cert.Pre_finite.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_NormGate (hNormGate := hNormGate)
    ∧ quiescent_NormGateIdeal (hNormGateIdeal := hNormGateIdeal)
    ∧ quiescent_NormRefIdeal (hNormRefIdeal := hNormRefIdeal)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterRefIdeal (hRouterRefIdeal := hRouterRefIdeal)
    ∧ quiescent_RouterRefIdeal_pre_finite (hRouterRefIdeal := hRouterRefIdeal) (hPre_finite := hPre_finite)
    ∧ preserves_Kernel_KernelIdeal
    ∧ algebraic_KernelIdeal_ReferenceIdeal (hKernelIdeal := hKernelIdeal) (hReferenceIdeal := hReferenceIdeal) (hPre_routed := hPre_routed)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal (hOutProjIdeal := hOutProjIdeal) (hOutRefIdeal := hOutRefIdeal)
    ∧ preserves_NormGate_NormGateIdeal
    ∧ algebraic_NormGateIdeal_NormRefIdeal (hNormGateIdeal := hNormGateIdeal) (hNormRefIdeal := hNormRefIdeal)
    ∧ preserves_Router_RouterIdeal
    ∧ algebraic_RouterIdeal_RouterRefIdeal_pre_finite (hRouterIdeal := hRouterIdeal) (hRouterRefIdeal := hRouterRefIdeal) (hPre_finite := hPre_finite)
-- ==== Pre_finite.lean ====
abbrev S16384x4096 : Shape := ⟨2, ![16384, 4096]⟩
abbrev S1x4096 : Shape := ⟨2, ![1, 4096]⟩
abbrev S4096x32 : Shape := ⟨2, ![4096, 32]⟩
abbrev S1x32 : Shape := ⟨2, ![1, 32]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S16384x4096 .f32) (main_arg1 : FVec F S1x4096 .f32) (main_arg2 : FVec F S4096x32 .f32) (main_arg3 : FVec F S1x32 .f32) : IVec S_ 1 :=
  let main_v0 : FVec F S1x4096 .f32 := Host.absf main_arg1
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_cst_2 : FVec F S_ .f32 := constant S_ .f32 0xFF800000#32
  let main_v9 : FVec F S1x32 .f32 := broadcastInDim S1x32 ![] bcast_S_S1x32 main_cst_2
  let main_v10 : IVec S1x32 1 := cmpf .ogt main_arg3 main_v9
  let main_c_3 : IVec S_ 1 := constantI S_ 1 1#1
  let main_v11 : IVec S_ 1 := (fun x v => Host.reduce IntOp.andi x v reducesTo_S1x32_S_d0_1 h_S_) main_v10 main_c_3
  let main_v12 : IVec S_ 1 := andi main_v8 main_v11
  main_v12
-- ==== Pre_routed.lean ====
abbrev S160 : Shape := ⟨1, ![160]⟩
abbrev S1 : Shape := ⟨1, ![1]⟩
abbrev S81920x2048 : Shape := ⟨2, ![81920, 2048]⟩
abbrev S32x4096x1024 : Shape := ⟨3, ![32, 4096, 1024]⟩
abbrev S32x1024 : Shape := ⟨2, ![32, 1024]⟩
abbrev S32x1024x4096 : Shape := ⟨3, ![32, 1024, 4096]⟩
abbrev S32x4096 : Shape := ⟨2, ![32, 4096]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : IVec S160 32) (main_arg1 : IVec S160 32) (main_arg2 : IVec S1 32) (main_arg3 : IVec S81920x2048 32) (main_arg4 : FVec F S32x4096x1024 .f32) (main_arg5 : FVec F S32x1024 .f32) (main_arg6 : FVec F S32x4096x1024 .f32) (main_arg7 : FVec F S32x1024 .f32) (main_arg8 : FVec F S32x1024x4096 .f32) (main_arg9 : FVec F S32x4096 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_c_2 : IVec S_ 32 := constantI S_ 32 0#32
  let main_v6 : IVec S160 32 := broadcastInDim S160 ![] bcast_S_S160 main_c_2
  let main_v7 : IVec S160 1 := cmpi .sge main_arg1 main_v6
  let main_c_3 : IVec S_ 32 := constantI S_ 32 160#32
  let main_v8 : IVec S160 32 := broadcastInDim S160 ![] bcast_S_S160 main_c_3
  let main_v9 : IVec S160 1 := cmpi .slt main_arg1 main_v8
  let main_v10 : IVec S160 1 := andi main_v7 main_v9
  let main_c_4 : IVec S_ 1 := constantI S_ 1 1#1
  let main_v11 : IVec S_ 1 := (fun x v => Host.reduce IntOp.andi x v reducesTo_S160_S_d0 h_S_) main_v10 main_c_4
  let main_v12 : IVec S_ 1 := andi main_v5 main_v11
  main_v12
-- ==== Kernel.lean ====
abbrev S160 : Shape := ⟨1, ![160]⟩
abbrev S1 : Shape := ⟨1, ![1]⟩
abbrev S81920x2048 : Shape := ⟨2, ![81920, 2048]⟩
abbrev S32x4096x1024 : Shape := ⟨3, ![32, 4096, 1024]⟩
abbrev S32x1024 : Shape := ⟨2, ![32, 1024]⟩
abbrev S32x1024x4096 : Shape := ⟨3, ![32, 1024, 4096]⟩
abbrev S32x4096 : Shape := ⟨2, ![32, 4096]⟩
abbrev S32x1x1024 : Shape := ⟨3, ![32, 1, 1024]⟩
abbrev S32x1x4096 : Shape := ⟨3, ![32, 1, 4096]⟩
abbrev S163840x2048 : Shape := ⟨2, ![163840, 2048]⟩
abbrev S512x2048 : Shape := ⟨2, ![512, 2048]⟩
abbrev S1x4096x512 : Shape := ⟨3, ![1, 4096, 512]⟩
abbrev S1x1x512 : Shape := ⟨3, ![1, 1, 512]⟩
abbrev S1x1024x1024 : Shape := ⟨3, ![1, 1024, 1024]⟩
abbrev S1x1x1024 : Shape := ⟨3, ![1, 1, 1024]⟩
abbrev S1024x1024 : Shape := ⟨2, ![1024, 1024]⟩
abbrev S512x4096 : Shape := ⟨2, ![512, 4096]⟩
abbrev S2x512x512 : Shape := ⟨3, ![2, 512, 512]⟩
abbrev S4096x512 : Shape := ⟨2, ![4096, 512]⟩
abbrev S512x512 : Shape := ⟨2, ![512, 512]⟩
abbrev S1x512 : Shape := ⟨2, ![1, 512]⟩
abbrev S1x512x512 : Shape := ⟨3, ![1, 512, 512]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 14
  | .vmem => 22
  | .smem => 3
  | _ => 0

abbrev bufTy : (tb : Table) → Fin (tcTables nBuf tb) → BufTy
  | .hbm, ⟨0, _⟩ => ⟨S81920x2048, .i32⟩
  | .hbm, ⟨1, _⟩ => ⟨S32x4096x1024, .f32⟩
  | .hbm, ⟨2, _⟩ => ⟨S32x1024, .f32⟩
  | .hbm, ⟨3, _⟩ => ⟨S32x4096x1024, .f32⟩
  | .hbm, ⟨4, _⟩ => ⟨S32x1024, .f32⟩
  | .hbm, ⟨5, _⟩ => ⟨S32x1024x4096, .f32⟩
  | .hbm, ⟨6, _⟩ => ⟨S32x4096, .f32⟩
  | .hbm, ⟨7, _⟩ => ⟨S32x4096x1024, .bf16⟩
  | .hbm, ⟨8, _⟩ => ⟨S32x1x1024, .f32⟩
  | .hbm, ⟨9, _⟩ => ⟨S32x4096x1024, .bf16⟩
  | .hbm, ⟨10, _⟩ => ⟨S32x1x1024, .f32⟩
  | .hbm, ⟨11, _⟩ => ⟨S32x1024x4096, .bf16⟩
  | .hbm, ⟨12, _⟩ => ⟨S32x1x4096, .f32⟩
  | .hbm, ⟨13, _⟩ => ⟨S163840x2048, .bf16⟩
  | .local _ .vmem, ⟨0, _⟩ => ⟨S512x2048, .i32⟩
  | .local _ .vmem, ⟨1, _⟩ => ⟨S512x2048, .i32⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .bf16⟩
  | .local _ .vmem, ⟨19, _⟩ => ⟨S1024x1024, .bf16⟩
  | .local _ .vmem, ⟨20, _⟩ => ⟨S512x4096, .bf16⟩
  | .local _ .vmem, ⟨21, _⟩ => ⟨S2x512x512, .bf16⟩
  | .local _ .smem, ⟨0, _⟩ => ⟨S160, .i32⟩
  | .local _ .smem, ⟨1, _⟩ => ⟨S160, .i32⟩
  | .local _ .smem, ⟨2, _⟩ => ⟨S1, .i32⟩
  | _, _ => ⟨S81920x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![160, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let c2_i32 : BitVec 32 := 2#32
  let v0 : BitVec 1 := Scalar.cmpi .sge arg1 c2_i32
  let arg0 : BitVec 32 := BitVec.ofNat 32 (i 0).val
  let c1_i32 : BitVec 32 := 1#32
  let v1 : BitVec 32 := Scalar.addi arg0 c1_i32
  let c159_i32 : BitVec 32 := 159#32
  let v2 : BitVec 32 := Scalar.minsi v1 c159_i32
  let v3 : BitVec 32 := Scalar.select v0 v2 arg0
  let v4 : Index := Scalar.indexCast v3
  ![v4.toNat]
def k0_off2 (i : grid0.Coords) : Fin 1 → Nat :=
  let arg0 : BitVec 32 := BitVec.ofNat 32 (i 0).val
  let v0 : Index := Scalar.indexCast arg0
  ![v0.toNat]
def k0_off3 (i : grid0.Coords) : Fin 3 → Nat :=
  let arg1 : BitVec 32 := BitVec.ofNat 32 (i 1).val
  let v48 : Index := Scalar.indexCast arg1
  let c0_26 : Index := 0#32
  let c0_27 : Index := 0#32
  ![v48.toNat, 0, 0]
def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c2_i32 : BitVec 32 := 2#32
  let v6 : BitVec 1 := Scalar.cmpi .slt arg1 c2_i32
  let v7 : BitVec 1 := Scalar.andi v1 v6
  let v8 : BitVec 32 := Scalar.extui v7
  let c0_i32_1 : BitVec 32 := 0#32
  let v9 : BitVec 1 := Scalar.cmpi .ne v8 c0_i32_1
  v9

def k0_chk1 (i : grid0.Coords) (v0 : BitVec 32) : Prop :=
  (∀ (k0_h2 : k0_cond2 i v0 = 1#1), ∀ a, (k0_off3 i) a + S1x512x512.size a ≤ S2x512x512.size a) ∧
  (∀ (k0_h2 : k0_cond2 i v0 = 1#1), ∀ (hinb : ∀ a, (k0_off3 i) a + S1x512x512.size a ≤ S2x512x512.size a), (Rect.unit (s := S2x512x512) (k0_off3 i) S1x512x512.size hinb).PackedRows (EltTy.packing .bf16))
theorem k0_off3_inb : ∀ (i : grid0.Coords) (v0 : BitVec 32) (k0_hw1 : k0_chk1 i v0), ∀ (k0_h2 : k0_cond2 i v0 = 1#1), ∀ a, (k0_off3 i) a + S1x512x512.size a ≤ S2x512x512.size a := fun i v0 k0_hw1 k0_h2 => k0_hw1.1 k0_h2
theorem k0_off3_packedbf16 : ∀ (i : grid0.Coords) (v0 : BitVec 32) (k0_hw1 : k0_chk1 i v0), ∀ (k0_h2 : k0_cond2 i v0 = 1#1), (Rect.unit (s := S2x512x512) (k0_off3 i) S1x512x512.size (k0_off3_inb i v0 k0_hw1 k0_h2)).PackedRows (EltTy.packing .bf16) := fun i v0 k0_hw1 k0_h2 => k0_hw1.2 k0_h2 (k0_off3_inb i v0 k0_hw1 k0_h2)

def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c2_i32_2 : BitVec 32 := 2#32
  let v10 : BitVec 1 := Scalar.cmpi .sge arg1 c2_i32_2
  let v11 : BitVec 1 := Scalar.andi v1 v10
  let v12 : BitVec 32 := Scalar.extui v11
  let c0_i32_3 : BitVec 32 := 0#32
  let v13 : BitVec 1 := Scalar.cmpi .ne v12 c0_i32_3
  v13

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v14 : BitVec 1 := Scalar.xori v1 v_true
  let arg1 : BitVec 32 := BitVec.ofNat 32 (i 1).val
  let c2_i32_4 : BitVec 32 := 2#32
  let v15 : BitVec 1 := Scalar.cmpi .sge arg1 c2_i32_4
  let v16 : BitVec 1 := Scalar.andi v14 v15
  let v17 : BitVec 32 := Scalar.extui v16
  let c0_i32_5 : BitVec 32 := 0#32
  let v18 : BitVec 1 := Scalar.cmpi .ne v17 c0_i32_5
  v18

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let c1_i32 : BitVec 32 := 1#32
  let v1 : BitVec 32 := Scalar.addi arg0 c1_i32
  let c159_i32 : BitVec 32 := 159#32
  let v2 : BitVec 32 := Scalar.minsi v1 c159_i32
  let v3 : BitVec 32 := Scalar.select v0 v2 arg0
  let v4 : Index := Scalar.indexCast v3
  let v5 : BitVec 32 := pf.at 1 (Rect.unit (s := S160) ![v4.toNat] S1.size (k0_off1_inb i)) numel1_S1
  let c0_i32 : BitVec 32 := 0#32
  let c0_i32_0 : BitVec 32 := 0#32
  ![v5.toNat, c0_i32.toNat]

def cc0_transform_1 (k0_off2_inb : ∀ i : grid0.Coords, ∀ a, (k0_off2 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off2_inb i)) numel1_S1
  let c0 : Index := 0#32
  let v2 : BitVec 32 := pf.at 2 (Rect.unit (s := S1) ![0] S1.size inb_S1_S1_0) numel1_S1
  let v3 : BitVec 1 := Scalar.cmpi .slt arg0 v2
  let c1_i32 : BitVec 32 := 1#32
  let v4 : BitVec 32 := Scalar.minsi arg1 c1_i32
  let c1_i32_0 : BitVec 32 := 1#32
  let v5 : BitVec 32 := Scalar.select v3 v4 c1_i32_0
  let c0_i32 : BitVec 32 := 0#32
  let c0_i32_1 : BitVec 32 := 0#32
  ![v1.toNat, c0_i32.toNat, v5.toNat]

def cc0_transform_2 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let c1_i32 : BitVec 32 := 1#32
  let v1 : BitVec 32 := Scalar.addi arg0 c1_i32
  let c159_i32 : BitVec 32 := 159#32
  let v2 : BitVec 32 := Scalar.minsi v1 c159_i32
  let v3 : BitVec 32 := Scalar.select v0 v2 arg0
  let v4 : Index := Scalar.indexCast v3
  let v5 : BitVec 32 := pf.at 0 (Rect.unit (s := S160) ![v4.toNat] S1.size (k0_off1_inb i)) numel1_S1
  let c2_i32_0 : BitVec 32 := 2#32
  let v6 : BitVec 1 := Scalar.cmpi .sge arg1 c2_i32_0
  let c1_i32_1 : BitVec 32 := 1#32
  let v7 : BitVec 32 := Scalar.addi arg0 c1_i32_1
  let c159_i32_2 : BitVec 32 := 159#32
  let v8 : BitVec 32 := Scalar.minsi v7 c159_i32_2
  let v9 : BitVec 32 := Scalar.select v6 v8 arg0
  let c2_i32_3 : BitVec 32 := 2#32
  let v10 : BitVec 1 := Scalar.cmpi .sge arg1 c2_i32_3
  let c0_i32 : BitVec 32 := 0#32
  let v11 : BitVec 32 := Scalar.select v10 c0_i32 arg1
  let c0 : Index := 0#32
  let v12 : BitVec 32 := pf.at 2 (Rect.unit (s := S1) ![0] S1.size inb_S1_S1_0) numel1_S1
  let v13 : BitVec 1 := Scalar.cmpi .slt v9 v12
  let c1_i32_4 : BitVec 32 := 1#32
  let v14 : BitVec 32 := Scalar.minsi v11 c1_i32_4
  let c1_i32_5 : BitVec 32 := 1#32
  let v15 : BitVec 32 := Scalar.select v13 v14 c1_i32_5
  let c0_i32_6 : BitVec 32 := 0#32
  let c0_i32_7 : BitVec 32 := 0#32
  ![v5.toNat, c0_i32_6.toNat, v15.toNat]

def cc0_transform_3 (k0_off2_inb : ∀ i : grid0.Coords, ∀ a, (k0_off2 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off2_inb i)) numel1_S1
  let c0 : Index := 0#32
  let v2 : BitVec 32 := pf.at 2 (Rect.unit (s := S1) ![0] S1.size inb_S1_S1_0) numel1_S1
  let v3 : BitVec 1 := Scalar.cmpi .slt arg0 v2
  let c1_i32 : BitVec 32 := 1#32
  let v4 : BitVec 32 := Scalar.minsi arg1 c1_i32
  let c1_i32_0 : BitVec 32 := 1#32
  let v5 : BitVec 32 := Scalar.select v3 v4 c1_i32_0
  let c0_i32 : BitVec 32 := 0#32
  let c0_i32_1 : BitVec 32 := 0#32
  ![v1.toNat, c0_i32.toNat, v5.toNat]

def cc0_transform_4 (k0_off2_inb : ∀ i : grid0.Coords, ∀ a, (k0_off2 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off2_inb i)) numel1_S1
  let c0 : Index := 0#32
  let v2 : BitVec 32 := pf.at 2 (Rect.unit (s := S1) ![0] S1.size inb_S1_S1_0) numel1_S1
  let v3 : BitVec 1 := Scalar.cmpi .slt arg0 v2
  let c1_i32 : BitVec 32 := 1#32
  let v4 : BitVec 32 := Scalar.minsi arg1 c1_i32
  let c1_i32_0 : BitVec 32 := 1#32
  let v5 : BitVec 32 := Scalar.select v3 v4 c1_i32_0
  let c0_i32 : BitVec 32 := 0#32
  let c0_i32_1 : BitVec 32 := 0#32
  ![v1.toNat, c0_i32.toNat, v5.toNat]

def cc0_transform_5 (k0_off2_inb : ∀ i : grid0.Coords, ∀ a, (k0_off2 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off2_inb i)) numel1_S1
  let c0 : Index := 0#32
  let v2 : BitVec 32 := pf.at 2 (Rect.unit (s := S1) ![0] S1.size inb_S1_S1_0) numel1_S1
  let v3 : BitVec 1 := Scalar.cmpi .slt arg0 v2
  let c2_i32 : BitVec 32 := 2#32
  let v4 : BitVec 32 := Scalar.subi arg1 c2_i32
  let c0_i32 : BitVec 32 := 0#32
  let v5 : BitVec 32 := Scalar.maxsi v4 c0_i32
  let c1_i32 : BitVec 32 := 1#32
  let v6 : BitVec 32 := Scalar.select v3 v5 c1_i32
  let c0_i32_0 : BitVec 32 := 0#32
  let c0_i32_1 : BitVec 32 := 0#32
  ![v1.toNat, c0_i32_0.toNat, v6.toNat]

def cc0_transform_6 (k0_off2_inb : ∀ i : grid0.Coords, ∀ a, (k0_off2 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off2_inb i)) numel1_S1
  let c0 : Index := 0#32
  let v2 : BitVec 32 := pf.at 2 (Rect.unit (s := S1) ![0] S1.size inb_S1_S1_0) numel1_S1
  let v3 : BitVec 1 := Scalar.cmpi .slt arg0 v2
  let c2_i32 : BitVec 32 := 2#32
  let v4 : BitVec 32 := Scalar.subi arg1 c2_i32
  let c0_i32 : BitVec 32 := 0#32
  let v5 : BitVec 32 := Scalar.maxsi v4 c0_i32
  let c1_i32 : BitVec 32 := 1#32
  let v6 : BitVec 32 := Scalar.select v3 v5 c1_i32
  let c2_i32_0 : BitVec 32 := 2#32
  let v7 : BitVec 32 := Scalar.addi c2_i32_0 v6
  let c0_i32_1 : BitVec 32 := 0#32
  let c0_i32_2 : BitVec 32 := 0#32
  ![v1.toNat, c0_i32_1.toNat, v7.toNat]

def cc0_transform_7 (k0_off2_inb : ∀ i : grid0.Coords, ∀ a, (k0_off2 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off2_inb i)) numel1_S1
  let c0 : Index := 0#32
  let v2 : BitVec 32 := pf.at 2 (Rect.unit (s := S1) ![0] S1.size inb_S1_S1_0) numel1_S1
  let v3 : BitVec 1 := Scalar.cmpi .slt arg0 v2
  let c2_i32 : BitVec 32 := 2#32
  let v4 : BitVec 32 := Scalar.subi arg1 c2_i32
  let c0_i32 : BitVec 32 := 0#32
  let v5 : BitVec 32 := Scalar.maxsi v4 c0_i32
  let c1_i32 : BitVec 32 := 1#32
  let v6 : BitVec 32 := Scalar.select v3 v5 c1_i32
  let c0_i32_0 : BitVec 32 := 0#32
  let c0_i32_1 : BitVec 32 := 0#32
  ![v1.toNat, c0_i32_0.toNat, v6.toNat]

def cc0_transform_8 (k0_off2_inb : ∀ i : grid0.Coords, ∀ a, (k0_off2 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off2_inb i)) numel1_S1
  let c0 : Index := 0#32
  let v2 : BitVec 32 := pf.at 2 (Rect.unit (s := S1) ![0] S1.size inb_S1_S1_0) numel1_S1
  let v3 : BitVec 1 := Scalar.cmpi .slt arg0 v2
  let c2_i32 : BitVec 32 := 2#32
  let v4 : BitVec 32 := Scalar.subi arg1 c2_i32
  let c0_i32 : BitVec 32 := 0#32
  let v5 : BitVec 32 := Scalar.maxsi v4 c0_i32
  let c1_i32 : BitVec 32 := 1#32
  let v6 : BitVec 32 := Scalar.select v3 v5 c1_i32
  let c2_i32_0 : BitVec 32 := 2#32
  let v7 : BitVec 32 := Scalar.addi c2_i32_0 v6
  let c0_i32_1 : BitVec 32 := 0#32
  let c0_i32_2 : BitVec 32 := 0#32
  ![v1.toNat, c0_i32_1.toNat, v7.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F]
-- ==== ReferenceIdeal.lean ====
abbrev S160 : Shape := ⟨1, ![160]⟩
abbrev S1 : Shape := ⟨1, ![1]⟩
abbrev S81920x2048 : Shape := ⟨2, ![81920, 2048]⟩
abbrev S32x4096x1024 : Shape := ⟨3, ![32, 4096, 1024]⟩
abbrev S32x1024 : Shape := ⟨2, ![32, 1024]⟩
abbrev S32x1024x4096 : Shape := ⟨3, ![32, 1024, 4096]⟩
abbrev S32x4096 : Shape := ⟨2, ![32, 4096]⟩
abbrev S81920x2048x2 : Shape := ⟨3, ![81920, 2048, 2]⟩
abbrev S81920x2048x1 : Shape := ⟨3, ![81920, 2048, 1]⟩
abbrev S81920x4096 : Shape := ⟨2, ![81920, 4096]⟩
abbrev S160x512x4096 : Shape := ⟨3, ![160, 512, 4096]⟩
abbrev S_ : Shape := ⟨0, ![]⟩
abbrev S160x1 : Shape := ⟨2, ![160, 1]⟩
abbrev S160x4096x1024 : Shape := ⟨3, ![160, 4096, 1024]⟩
abbrev S160x512x1024 : Shape := ⟨3, ![160, 512, 1024]⟩
abbrev S160x1024 : Shape := ⟨2, ![160, 1024]⟩
abbrev S160x1x1024 : Shape := ⟨3, ![160, 1, 1024]⟩
abbrev S160x1024x4096 : Shape := ⟨3, ![160, 1024, 4096]⟩
abbrev S160x4096 : Shape := ⟨2, ![160, 4096]⟩
abbrev S160x1x4096 : Shape := ⟨3, ![160, 1, 4096]⟩
abbrev S160x1x1 : Shape := ⟨3, ![160, 1, 1]⟩
abbrev S163840x2048 : Shape := ⟨2, ![163840, 2048]⟩

abbrev nBuf : Space → Nat
  | .hbm => 135
  | .vmem => 0
  | .smem => 0
  | _ => 0

abbrev hbmTy0_0 (i : Nat) : BufTy := match i % 128 with
  | 0 => ⟨S160, .i32⟩
  | 1 => ⟨S160, .i32⟩
  | 2 => ⟨S1, .i32⟩
  | 3 => ⟨S81920x2048, .i32⟩
  | 4 => ⟨S32x4096x1024, .f32⟩
  | 5 => ⟨S32x1024, .f32⟩
  | 6 => ⟨S32x4096x1024, .f32⟩
  | 7 => ⟨S32x1024, .f32⟩
  | 8 => ⟨S32x1024x4096, .f32⟩
  | 9 => ⟨S32x4096, .f32⟩
  | 10 => ⟨S81920x2048x2, .bf16⟩
  | 11 => ⟨S81920x2048x1, .bf16⟩
  | 12 => ⟨S81920x2048, .bf16⟩
  | 13 => ⟨S81920x2048x1, .bf16⟩
  | 14 => ⟨S81920x2048, .bf16⟩
  | 15 => ⟨S81920x4096, .bf16⟩
  | 16 => ⟨S160x512x4096, .bf16⟩
  | 17 => ⟨S_, .i32⟩
  | 18 => ⟨S160, .i32⟩
  | 19 => ⟨S160, .i1⟩
  | 20 => ⟨S_, .i32⟩
  | 21 => ⟨S160, .i32⟩
  | 22 => ⟨S160, .i32⟩
  | 23 => ⟨S160, .i32⟩
  | 24 => ⟨S160x1, .i32⟩
  | 25 => ⟨S160x512x4096, .bf16⟩
  | 26 => ⟨S32x4096x1024, .bf16⟩
  | 27 => ⟨S_, .i32⟩
  | 28 => ⟨S160, .i32⟩
  | 29 => ⟨S160, .i1⟩
  | 30 => ⟨S_, .i32⟩
  | 31 => ⟨S160, .i32⟩
  | 32 => ⟨S160, .i32⟩
  | 33 => ⟨S160, .i32⟩
  | 34 => ⟨S160x1, .i32⟩
  | 35 => ⟨S160x4096x1024, .bf16⟩
  | 36 => ⟨S160x512x1024, .f32⟩
  | 37 => ⟨S_, .i32⟩
  | 38 => ⟨S160, .i32⟩
  | 39 => ⟨S160, .i1⟩
  | 40 => ⟨S_, .i32⟩
  | 41 => ⟨S160, .i32⟩
  | 42 => ⟨S160, .i32⟩
  | 43 => ⟨S160, .i32⟩
  | 44 => ⟨S160x1, .i32⟩
  | 45 => ⟨S160x1024, .f32⟩
  | 46 => ⟨S160x1x1024, .f32⟩
  | 47 => ⟨S160x512x1024, .f32⟩
  | 48 => ⟨S160x512x1024, .f32⟩
  | 49 => ⟨S32x4096x1024, .bf16⟩
  | 50 => ⟨S_, .i32⟩
  | 51 => ⟨S160, .i32⟩
  | 52 => ⟨S160, .i1⟩
  | 53 => ⟨S_, .i32⟩
  | 54 => ⟨S160, .i32⟩
  | 55 => ⟨S160, .i32⟩
  | 56 => ⟨S160, .i32⟩
  | 57 => ⟨S160x1, .i32⟩
  | 58 => ⟨S160x4096x1024, .bf16⟩
  | 59 => ⟨S160x512x1024, .f32⟩
  | 60 => ⟨S_, .i32⟩
  | 61 => ⟨S160, .i32⟩
  | 62 => ⟨S160, .i1⟩
  | 63 => ⟨S_, .i32⟩
  | 64 => ⟨S160, .i32⟩
  | 65 => ⟨S160, .i32⟩
  | 66 => ⟨S160, .i32⟩
  | 67 => ⟨S160x1, .i32⟩
  | 68 => ⟨S160x1024, .f32⟩
  | 69 => ⟨S160x1x1024, .f32⟩
  | 70 => ⟨S160x512x1024, .f32⟩
  | 71 => ⟨S160x512x1024, .f32⟩
  | 72 => ⟨S_, .f32⟩
  | 73 => ⟨S160x512x1024, .f32⟩
  | 74 => ⟨S160x512x1024, .f32⟩
  | 75 => ⟨S_, .f32⟩
  | 76 => ⟨S_, .f32⟩
  | 77 => ⟨S_, .f32⟩
  | 78 => ⟨S160x512x1024, .f32⟩
  | 79 => ⟨S160x512x1024, .f32⟩
  | 80 => ⟨S_, .f32⟩
  | 81 => ⟨S160x512x1024, .f32⟩
  | 82 => ⟨S160x512x1024, .f32⟩
  | 83 => ⟨S_, .f32⟩
  | 84 => ⟨S160x512x1024, .f32⟩
  | 85 => ⟨S160x512x1024, .f32⟩
  | 86 => ⟨S160x512x1024, .f32⟩
  | 87 => ⟨S160x512x1024, .f32⟩
  | 88 => ⟨S_, .f32⟩
  | 89 => ⟨S160x512x1024, .f32⟩
  | 90 => ⟨S160x512x1024, .f32⟩
  | 91 => ⟨S_, .f32⟩
  | 92 => ⟨S160x512x1024, .f32⟩
  | 93 => ⟨S160x512x1024, .f32⟩
  | 94 => ⟨S160x512x1024, .f32⟩
  | 95 => ⟨S_, .f32⟩
  | 96 => ⟨S160x512x1024, .f32⟩
  | 97 => ⟨S160x512x1024, .f32⟩
  | 98 => ⟨S160x512x1024, .f32⟩
  | 99 => ⟨S160x512x1024, .bf16⟩
  | 100 => ⟨S32x1024x4096, .bf16⟩
  | 101 => ⟨S_, .i32⟩
  | 102 => ⟨S160, .i32⟩
  | 103 => ⟨S160, .i1⟩
  | 104 => ⟨S_, .i32⟩
  | 105 => ⟨S160, .i32⟩
  | 106 => ⟨S160, .i32⟩
  | 107 => ⟨S160, .i32⟩
  | 108 => ⟨S160x1, .i32⟩
  | 109 => ⟨S160x1024x4096, .bf16⟩
  | 110 => ⟨S160x512x4096, .f32⟩
  | 111 => ⟨S_, .i32⟩
  | 112 => ⟨S160, .i32⟩
  | 113 => ⟨S160, .i1⟩
  | 114 => ⟨S_, .i32⟩
  | 115 => ⟨S160, .i32⟩
  | 116 => ⟨S160, .i32⟩
  | 117 => ⟨S160, .i32⟩
  | 118 => ⟨S160x1, .i32⟩
  | 119 => ⟨S160x4096, .f32⟩
  | 120 => ⟨S160x1x4096, .f32⟩
  | 121 => ⟨S160x512x4096, .f32⟩
  | 122 => ⟨S160x512x4096, .f32⟩
  | 123 => ⟨S160, .i32⟩
  | 124 => ⟨S_, .i32⟩
  | 125 => ⟨S160, .i32⟩
  | 126 => ⟨S160, .i1⟩
  | 127 => ⟨S160x1x1, .i1⟩
  | _ => ⟨S160, .i32⟩

abbrev hbmTy0_1 (i : Nat) : BufTy := match i % 128 with
  | 0 => ⟨S_, .f32⟩
  | 1 => ⟨S_, .f32⟩
  | 2 => ⟨S160x512x4096, .i1⟩
  | 3 => ⟨S160x512x4096, .f32⟩
  | 4 => ⟨S160x512x4096, .f32⟩
  | 5 => ⟨S160x512x4096, .bf16⟩
  | 6 => ⟨S163840x2048, .bf16⟩
  | _ => ⟨S160, .i32⟩

abbrev hbmTy (i : Nat) : BufTy := match i / 128 with
  | 0 => hbmTy0_0 i
  | 1 => hbmTy0_1 i
  | _ => ⟨S160, .i32⟩

abbrev bufTy : (tb : Table) → Fin (tcTables nBuf tb) → BufTy
  | .hbm, ⟨i, _⟩ => hbmTy i
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_cst_10 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_15 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_c_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_19 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]
-- ==== InProj.lean ====
abbrev S16384x4096 : Shape := ⟨2, ![16384, 4096]⟩
abbrev S4096x14352 : Shape := ⟨2, ![4096, 14352]⟩
abbrev S4096x6144 : Shape := ⟨2, ![4096, 6144]⟩
abbrev S4096x8192 : Shape := ⟨2, ![4096, 8192]⟩
abbrev S4096x14336 : Shape := ⟨2, ![4096, 14336]⟩
abbrev S16384x14336 : Shape := ⟨2, ![16384, 14336]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x14352, .f32⟩
  | .hbm, ⟨2, _⟩ => ⟨S4096x6144, .f32⟩
  | .hbm, ⟨3, _⟩ => ⟨S4096x6144, .bf16⟩
  | .hbm, ⟨4, _⟩ => ⟨S4096x8192, .f32⟩
  | .hbm, ⟨5, _⟩ => ⟨S4096x8192, .bf16⟩
  | .hbm, ⟨6, _⟩ => ⟨S4096x14336, .bf16⟩
  | .hbm, ⟨7, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S16384x4096 : Shape := ⟨2, ![16384, 4096]⟩
abbrev S4096x14352 : Shape := ⟨2, ![4096, 14352]⟩
abbrev S16384x14352 : Shape := ⟨2, ![16384, 14352]⟩
abbrev S16384x6144 : Shape := ⟨2, ![16384, 6144]⟩
abbrev S16384x8192 : Shape := ⟨2, ![16384, 8192]⟩
abbrev S16384x14336 : Shape := ⟨2, ![16384, 14336]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14352, .f32⟩
  | .hbm, ⟨2, _⟩ => ⟨S16384x4096, .f32⟩
  | .hbm, ⟨3, _⟩ => ⟨S16384x14352, .f32⟩
  | .hbm, ⟨4, _⟩ => ⟨S16384x6144, .f32⟩
  | .hbm, ⟨5, _⟩ => ⟨S16384x8192, .f32⟩
  | .hbm, ⟨6, _⟩ => ⟨S16384x14336, .f32⟩
  | .hbm, ⟨7, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== NormGate.lean ====
abbrev S16384x4096 : Shape := ⟨2, ![16384, 4096]⟩
abbrev S1x4096 : Shape := ⟨2, ![1, 4096]⟩
abbrev S4096x14352 : Shape := ⟨2, ![4096, 14352]⟩
abbrev S16x1024 : Shape := ⟨2, ![16, 1024]⟩
abbrev S1x1024 : Shape := ⟨2, ![1, 1024]⟩
abbrev S4096x16 : Shape := ⟨2, ![4096, 16]⟩
abbrev S_ : Shape := ⟨0, ![]⟩
abbrev S4096x128 : Shape := ⟨2, ![4096, 128]⟩
abbrev S128x1024 : Shape := ⟨2, ![128, 1024]⟩
abbrev S16384x1024 : Shape := ⟨2, ![16384, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩

abbrev nBuf : Space → Nat
  | .hbm => 15
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x14352, .f32⟩
  | .hbm, ⟨3, _⟩ => ⟨S16x1024, .f32⟩
  | .hbm, ⟨4, _⟩ => ⟨S1x1024, .f32⟩
  | .hbm, ⟨5, _⟩ => ⟨S4096x16, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S4096x128, .bf16⟩
  | .hbm, ⟨10, _⟩ => ⟨S_, .i32⟩
  | .hbm, ⟨11, _⟩ => ⟨S_, .f32⟩
  | .hbm, ⟨12, _⟩ => ⟨S128x1024, .f32⟩
  | .hbm, ⟨13, _⟩ => ⟨S16384x4096, .bf16⟩
  | .hbm, ⟨14, _⟩ => ⟨S16384x1024, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x128, .bf16⟩
  | .local _ .vmem, ⟨4, _⟩ => ⟨S128x1024, .f32⟩
  | .local _ .vmem, ⟨5, _⟩ => ⟨S1x1024, .f32⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S16384x4096 : Shape := ⟨2, ![16384, 4096]⟩
abbrev S1x4096 : Shape := ⟨2, ![1, 4096]⟩
abbrev S4096x14352 : Shape := ⟨2, ![4096, 14352]⟩
abbrev S16x1024 : Shape := ⟨2, ![16, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x14352 : Shape := ⟨2, ![16384, 14352]⟩
abbrev S16384x16 : Shape := ⟨2, ![16384, 16]⟩
abbrev S16384x1024 : Shape := ⟨2, ![16384, 1024]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x14352, .f32⟩
  | .hbm, ⟨3, _⟩ => ⟨S16x1024, .f32⟩
  | .hbm, ⟨4, _⟩ => ⟨S1x1024, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x14352, .f32⟩
  | .hbm, ⟨23, _⟩ => ⟨S16384x16, .f32⟩
  | .hbm, ⟨24, _⟩ => ⟨S16384x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .i1⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Router.lean ====
abbrev S16384x4096 : Shape := ⟨2, ![16384, 4096]⟩
abbrev S1x4096 : Shape := ⟨2, ![1, 4096]⟩
abbrev S4096x32 : Shape := ⟨2, ![4096, 32]⟩
abbrev S1x32 : Shape := ⟨2, ![1, 32]⟩
abbrev S_ : Shape := ⟨0, ![]⟩
abbrev S4096x128 : Shape := ⟨2, ![4096, 128]⟩
abbrev S1x128 : Shape := ⟨2, ![1, 128]⟩
abbrev S16384x128 : Shape := ⟨2, ![16384, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128 : Shape := ⟨1, ![128]⟩

abbrev nBuf : Space → Nat
  | .hbm => 14
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x32, .f32⟩
  | .hbm, ⟨3, _⟩ => ⟨S1x32, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S16384x128, .i32⟩
  | .hbm, ⟨11, _⟩ => ⟨S16384x128, .f32⟩
  | .hbm, ⟨12, _⟩ => ⟨S16384x128, .i32⟩
  | .hbm, ⟨13, _⟩ => ⟨S1x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x128, .f32⟩
  | .local _ .vmem, ⟨4, _⟩ => ⟨S1x128, .f32⟩
  | .local _ .vmem, ⟨5, _⟩ => ⟨S512x128, .i32⟩
  | .local _ .vmem, ⟨6, _⟩ => ⟨S512x128, .i32⟩
  | .local _ .vmem, ⟨7, _⟩ => ⟨S512x128, .f32⟩
  | .local _ .vmem, ⟨8, _⟩ => ⟨S512x128, .f32⟩
  | .local _ .vmem, ⟨9, _⟩ => ⟨S512x128, .i32⟩
  | .local _ .vmem, ⟨10, _⟩ => ⟨S512x128, .i32⟩
  | .local _ .vmem, ⟨11, _⟩ => ⟨S1x128, .f32⟩
  | .local _ .vmem, ⟨12, _⟩ => ⟨S1x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RouterRefIdeal.lean ====
abbrev S16384x4096 : Shape := ⟨2, ![16384, 4096]⟩
abbrev S1x4096 : Shape := ⟨2, ![1, 4096]⟩
abbrev S4096x32 : Shape := ⟨2, ![4096, 32]⟩
abbrev S1x32 : Shape := ⟨2, ![1, 32]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x32 : Shape := ⟨2, ![16384, 32]⟩
abbrev S32 : Shape := ⟨1, ![32]⟩
abbrev S16384x4 : Shape := ⟨2, ![16384, 4]⟩
abbrev S16384x4x1 : Shape := ⟨3, ![16384, 4, 1]⟩
abbrev S1x1x32 : Shape := ⟨3, ![1, 1, 32]⟩
abbrev S16384x4x32 : Shape := ⟨3, ![16384, 4, 32]⟩
abbrev S16384x1x32 : Shape := ⟨3, ![16384, 1, 32]⟩
abbrev S16384x128 : Shape := ⟨2, ![16384, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x32, .f32⟩
  | .hbm, ⟨3, _⟩ => ⟨S1x32, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x32, .f32⟩
  | .hbm, ⟨22, _⟩ => ⟨S32, .f32⟩
  | .hbm, ⟨23, _⟩ => ⟨S1x32, .f32⟩
  | .hbm, ⟨24, _⟩ => ⟨S16384x32, .f32⟩
  | .hbm, ⟨25, _⟩ => ⟨S16384x32, .f32⟩
  | .hbm, ⟨26, _⟩ => ⟨S16384x4, .f32⟩
  | .hbm, ⟨27, _⟩ => ⟨S16384x4, .i32⟩
  | .hbm, ⟨28, _⟩ => ⟨S16384x4x1, .i32⟩
  | .hbm, ⟨29, _⟩ => ⟨S1x1x32, .i32⟩
  | .hbm, ⟨30, _⟩ => ⟨S16384x4x32, .i32⟩
  | .hbm, ⟨31, _⟩ => ⟨S16384x4x32, .i32⟩
  | .hbm, ⟨32, _⟩ => ⟨S16384x4x32, .i1⟩
  | .hbm, ⟨33, _⟩ => ⟨S16384x4x32, .f32⟩
  | .hbm, ⟨34, _⟩ => ⟨S_, .f32⟩
  | .hbm, ⟨35, _⟩ => ⟨S16384x32, .f32⟩
  | .hbm, ⟨36, _⟩ => ⟨S_, .f32⟩
  | .hbm, ⟨37, _⟩ => ⟨S_, .f32⟩
  | .hbm, ⟨38, _⟩ => ⟨S16384x32, .f32⟩
  | .hbm, ⟨39, _⟩ => ⟨S16384x32, .f32⟩
  | .hbm, ⟨40, _⟩ => ⟨S16384x1x32, .f32⟩
  | .hbm, ⟨41, _⟩ => ⟨S16384x4x32, .f32⟩
  | .hbm, ⟨42, _⟩ => ⟨S16384x4x32, .f32⟩
  | .hbm, ⟨43, _⟩ => ⟨S_, .f32⟩
  | .hbm, ⟨44, _⟩ => ⟨S16384x4, .f32⟩
  | .hbm, ⟨45, _⟩ => ⟨S16384x4, .i32⟩
  | .hbm, ⟨46, _⟩ => ⟨S_, .f32⟩
  | .hbm, ⟨47, _⟩ => ⟨S32, .f32⟩
  | .hbm, ⟨48, _⟩ => ⟨S1x32, .f32⟩
  | .hbm, ⟨49, _⟩ => ⟨S_, .i32⟩
  | .hbm, ⟨50, _⟩ => ⟨S_, .i32⟩
  | .hbm, ⟨51, _⟩ => ⟨S16384x128, .i32⟩
  | .hbm, ⟨52, _⟩ => ⟨S_, .f32⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S16384x1, .f32⟩
  | .hbm, ⟨58, _⟩ => ⟨S16384x4, .f32⟩
  | .hbm, ⟨59, _⟩ => ⟨S16384x4, .f32⟩
  | .hbm, ⟨60, _⟩ => ⟨S16384x4, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x4, .f32⟩
  | .hbm, ⟨65, _⟩ => ⟨S16384x4, .f32⟩
  | .hbm, ⟨66, _⟩ => ⟨S_, .i32⟩
  | .hbm, ⟨67, _⟩ => ⟨S_, .f32⟩
  | .hbm, ⟨68, _⟩ => ⟨S16384x128, .f32⟩
  | .hbm, ⟨69, _⟩ => ⟨S_, .i32⟩
  | .hbm, ⟨70, _⟩ => ⟨S_, .i32⟩
  | .hbm, ⟨71, _⟩ => ⟨S16384x128, .i32⟩
  | .hbm, ⟨72, _⟩ => ⟨S_, .i32⟩
  | .hbm, ⟨73, _⟩ => ⟨S_, .f32⟩
  | .hbm, ⟨74, _⟩ => ⟨S1x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_values : Ref sig .tc := ⟨.hbm, 26, rfl⟩
abbrev main_indices : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_call1_call0_cst : Ref sig .tc := ⟨.hbm, 36, rfl⟩
abbrev main_call1_call0_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_call2_v0 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_call3_v0 : Ref sig .tc := ⟨.hbm, 67, rfl⟩
abbrev main_v42 : Ref sig .tc := ⟨.hbm, 68, rfl⟩
abbrev main_c_9 : Ref sig .tc := ⟨.hbm, 69, rfl⟩
abbrev main_call4_v0 : Ref sig .tc := ⟨.hbm, 70, rfl⟩
abbrev main_v43 : Ref sig .tc := ⟨.hbm, 71, rfl⟩
abbrev main_c_10 : Ref sig .tc := ⟨.hbm, 72, rfl⟩
abbrev main_call5_v0 : Ref sig .tc := ⟨.hbm, 73, rfl⟩
abbrev main_v44 : Ref sig .tc := ⟨.hbm, 74, rfl⟩

abbrev nD : Nat := 1
abbrev τ : Topo := Topo.v7x

variable {F : FTy → Type} [FloatOps F]
-- ==== Proof.Body.lean ====
/- The pipeline body of the grouped expert feed-forward kernel, step by step: what one grid point leaves in the
   scratch buffers and in the output's staging buffer, in each of the cases the body distinguishes. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Value
public import Idealize.ShloMosaic.Lib.Pipeline.Frame
public import Idealize.ShloMosaic.Lib.VecWindow
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The word the body reads from the one-word table. -/
abbrev nuWord (M4 : Memref sig .tc .smem S1 .i32) (c : Dev nD) (f : Buf (Elt F) (M4.view.loc (c.tc : Thread nD τ))) : BitVec 32 :=
  View.readAt (Elt F) M4.view (Rect.unit (s := S1) ![0] S1.size inb_S1_S1_0).toLoadRect f (Shape.Idx.first (numel1_S1.symm ▸ Nat.one_pos))

/-- The expert's input block as the body rebuilds it from the packed block: left half low halves, right half high halves. -/
def XB (X5 : Vec F S512x2048 .i32) : Vec F S512x4096 .bf16 :=
  View.canon (Val := Elt F)
    [⟨Rect.unit (s := S512x4096) ![0, 2048] S512x2048.size inb_S512x4096_S512x2048_0_2048, k0_pay2 X5⟩,
     ⟨Rect.unit (s := S512x4096) ![0, 0] S512x2048.size inb_S512x4096_S512x2048_0_0, k0_pay1 X5⟩]

/-- The two halves cover the block. -/
theorem XB_cover (w1 w2 : Vec F S512x2048 .bf16) (y : S512x4096.Idx) :
    ∃ p ∈ [(⟨Rect.unit (s := S512x4096) ![0, 2048] S512x2048.size inb_S512x4096_S512x2048_0_2048, w2⟩ : View.Piece (Elt F) S512x4096 .bf16),
     ⟨Rect.unit (s := S512x4096) ![0, 0] S512x2048.size inb_S512x4096_S512x2048_0_0, w1⟩], y ∈ p.1.set := by
  have h0 : (y 0).val < 512 := (y 0).isLt
  have h1 : (y 1).val < 4096 := (y 1).isLt
  by_cases h : (y 1).val < 2048
  · refine ⟨_, List.mem_cons_of_mem _ (List.mem_cons_self ..), ?_⟩
    rw [Rect.mem_set_unit]
    refine Fin.forall_fin_two.mpr ⟨⟨Nat.zero_le _, ?_⟩, ⟨Nat.zero_le _, ?_⟩⟩
    · show (y 0).val < 0 + 512; omega
    · show (y 1).val < 0 + 2048; omega
  · refine ⟨_, List.mem_cons_self .., ?_⟩
    rw [Rect.mem_set_unit]
    refine Fin.forall_fin_two.mpr ⟨⟨Nat.zero_le _, ?_⟩, ⟨?_, ?_⟩⟩
    · show (y 0).val < 0 + 512; omega
    · show 2048 ≤ (y 1).val; omega
    · show (y 1).val < 2048 + 2048; omega

/-- A slice of the kept hidden values. -/
abbrev hidAt (Y : Vec F S2x512x512 .bf16) (off : Fin 3 → ℕ) (h : ∀ a, off a + S1x512x512.size a ≤ S2x512x512.size a) : Vec F S1x512x512 .bf16 :=
  VecWindow.window (s := S2x512x512) Y off S1x512x512.size h

/-- What the third and fourth point of an active tile store. -/
def outVal (X10 X11 : Vec F S1x1024x1024 .bf16) (X12 X13 : Vec F S1x1x1024 .f32) (X16 : Vec F S2x512x512 .bf16) : Vec F S1024x1024 .bf16 :=
  k0_pay4
    (k0_pay8 X12 (VecWindow.window (s := S2x512x512) X16 ![0, 0, 0] S1x512x512.size inb_S2x512x512_S1x512x512_0_0_0)
      (VecWindow.window (s := S1x1024x1024) X10 ![0, 0, 0] S1x512x1024.size inb_S1x1024x1024_S1x512x1024_0_0_0)
      (VecWindow.window (s := S2x512x512) X16 ![1, 0, 0] S1x512x512.size inb_S2x512x512_S1x512x512_1_0_0)
      (VecWindow.window (s := S1x1024x1024) X10 ![0, 512, 0] S1x512x1024.size inb_S1x1024x1024_S1x512x1024_0_512_0))
    (k0_pay9 X13 (VecWindow.window (s := S2x512x512) X16 ![0, 0, 0] S1x512x512.size inb_S2x512x512_S1x512x512_0_0_0)
      (VecWindow.window (s := S1x1024x1024) X11 ![0, 0, 0] S1x512x1024.size inb_S1x1024x1024_S1x512x1024_0_0_0)
      (VecWindow.window (s := S2x512x512) X16 ![1, 0, 0] S1x512x512.size inb_S2x512x512_S1x512x512_1_0_0)
      (VecWindow.window (s := S1x1024x1024) X11 ![0, 512, 0] S1x512x1024.size inb_S1x1024x1024_S1x512x1024_0_512_0))

theorem outVal_congr {X10 X11 : Vec F S1x1024x1024 .bf16} {a12 a13 X12 X13 : Vec F S1x1x1024 .f32} {X16 : Vec F S2x512x512 .bf16}
    (h12 : a12 = X12) (h13 : a13 = X13) :
    outVal X10 X11 a12 a13 X16 = outVal X10 X11 X12 X13 X16 := by
  subst h12 h13; rfl

theorem pay3_congr {a b : Vec F S512x4096 .bf16} {a6 b6 : Vec F S1x4096x512 .bf16} {a8 b8 : Vec F S1x1x512 .f32}
    {a7 b7 : Vec F S1x4096x512 .bf16} {a9 b9 : Vec F S1x1x512 .f32}
    (h : a = b) (h6 : a6 = b6) (h8 : a8 = b8) (h7 : a7 = b7) (h9 : a9 = b9) :
    k0_pay3 a a6 a8 a7 a9 = k0_pay3 b b6 b8 b7 b9 := by
  subst h h6 h8 h7 h9; rfl

/-- The rebuilt block read back from the scratch buffer. -/
theorem XB_read {sig' : RefSig} {κ : Kind} {sp : Space} (v : View sig' κ sp S512x4096 .bf16) (f : v.ty.Contents (Elt F))
    (a X5 : Vec F S512x2048 .i32) (h : a = X5) :
    v.read (Elt F) (v.writes (Elt F) f
      [⟨Rect.unit (s := S512x4096) ![0, 2048] S512x2048.size inb_S512x4096_S512x2048_0_2048, k0_pay2 a⟩,
       ⟨Rect.unit (s := S512x4096) ![0, 0] S512x2048.size inb_S512x4096_S512x2048_0_0, k0_pay1 a⟩]) = XB X5 := by
  subst h
  exact View.read_writes_eq_canon v f _ (XB_cover _ _)

theorem XB_cov {sig' : RefSig} {κ : Kind} {sp : Space} (v : View sig' κ sp S512x4096 .bf16)
    (a X5 : Vec F S512x2048 .i32) (h : a = X5) :
    v.readCov (Val := Elt F)
      [⟨Rect.unit (s := S512x4096) ![0, 2048] S512x2048.size inb_S512x4096_S512x2048_0_2048, k0_pay2 a⟩,
       ⟨Rect.unit (s := S512x4096) ![0, 0] S512x2048.size inb_S512x4096_S512x2048_0_0, k0_pay1 a⟩]
      (Rect.unit (s := S512x4096) ![0, 0] S512x4096.size inb_S512x4096_S512x4096_0_0).toLoadRect = XB X5 :=
  (View.readAt_full v _ _).trans (XB_read v _ a X5 h)

/-- One store into the hidden values' buffer. -/
theorem put_read {sig' : RefSig} {κ : Kind} {sp : Space} (v : View sig' κ sp S2x512x512 .bf16) (f : v.ty.Contents (Elt F))
    (off : Fin 3 → ℕ) (inb : ∀ a, off a + S1x512x512.size a ≤ S2x512x512.size a) (a b : Vec F S1x512x512 .bf16) (h : a = b) :
    v.read (Elt F) (v.writes (Elt F) f [⟨Rect.unit (s := S2x512x512) off S1x512x512.size inb, a⟩])
      = VecWindow.put (s := S2x512x512) (v.read (Elt F) f) off S1x512x512.size b := by
  subst h
  rw [View.read_writes_cons_put v f inb a [] rfl, View.writes_nil]

set_option maxHeartbeats 4000000 in
/-- First point of an active tile. -/
theorem body_first (c : Dev nD) (E : Set ℕ) (i : grid0.Coords) (arg2 : Memref sig .tc .smem S160 .i32) (harg2 : arg2.IsWhole) (arg3 : Memref sig .tc .smem S160 .i32) (harg3 : arg3.IsWhole) (arg4 : Memref sig .tc .smem S1 .i32) (harg4 : arg4.IsWhole) (arg5 : Memref sig .tc .vmem S512x2048 .i32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1024x1024 .bf16) (harg14 : arg14.IsWhole) (arg15 : Memref sig .tc .vmem S512x4096 .bf16) (harg15 : arg15.IsWhole) (arg16 : Memref sig .tc .vmem S2x512x512 .bf16) (harg16 : arg16.IsWhole)
    (q4 : PosShare TreeShare) (X4 : Vec F S1 .i32) (X5 : Vec F S512x2048 .i32) (X6 : Vec F S1x4096x512 .bf16) (X7 : Vec F S1x4096x512 .bf16) (X8 : Vec F S1x1x512 .f32) (X9 : Vec F S1x1x512 .f32) (X15 : Vec F S512x4096 .bf16) (X16 : Vec F S2x512x512 .bf16)
    (hchk : k0_chk1 i (X4 (Shape.Idx.first (numel1_S1.symm ▸ Nat.one_pos)))) (h1 : Scalar.cmpi .ne (Scalar.extui (Scalar.andi (Scalar.cmpi .slt (BitVec.ofNat 32 (i 0).val) (X4 (Shape.Idx.first (numel1_S1.symm ▸ Nat.one_pos)))) (Scalar.cmpi .eq (BitVec.ofNat 32 (i 1).val) 0#32))) 0#32 = 1#1) (h2 : k0_cond2 i (X4 (Shape.Idx.first (numel1_S1.symm ▸ Nat.one_pos))) = 1#1) (h3 : ¬ k0_cond3 i (X4 (Shape.Idx.first (numel1_S1.symm ▸ Nat.one_pos))) = 1#1) (h4 : ¬ k0_cond4 i (X4 (Shape.Idx.first (numel1_S1.symm ▸ Nat.one_pos))) = 1#1)
    (K : PUnit → sProp 𝕄) :
    iprop((owns (c.tc : Thread nD τ) arg4 q4 X4 ∗ owns (c.tc : Thread nD τ) arg5 fullShare X5 ∗ owns (c.tc : Thread nD τ) arg6 fullShare X6 ∗ owns (c.tc : Thread nD τ) arg7 fullShare X7 ∗ owns (c.tc : Thread nD τ) arg8 fullShare X8 ∗ owns (c.tc : Thread nD τ) arg9 fullShare X9 ∗ owns (c.tc : Thread nD τ) arg15 fullShare X15 ∗ owns (c.tc : Thread nD τ) arg16 fullShare X16) ∗ ((owns (c.tc : Thread nD τ) arg4 q4 X4 ∗ owns (c.tc : Thread nD τ) arg5 fullShare X5 ∗ owns (c.tc : Thread nD τ) arg6 fullShare X6 ∗ owns (c.tc : Thread nD τ) arg7 fullShare X7 ∗ owns (c.tc : Thread nD τ) arg8 fullShare X8 ∗ owns (c.tc : Thread nD τ) arg9 fullShare X9 ∗ owns (c.tc : Thread nD τ) arg15 fullShare (XB X5) ∗ owns (c.tc : Thread nD τ) arg16 fullShare (VecWindow.put (s := S2x512x512) X16 (k0_off3 i) S1x512x512.size (k0_pay3 (XB X5) X6 X8 X7 X9))) -∗ K ⟨⟩))
      ⊢ wp frame (wpE (defs₀ (F := F)) Variants.none (c.tc : Thread nD τ) none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_experts_eq_skeleton]; unfold cc0_experts_skel
  try simp only [k0_part1_eq_skeleton]; unfold k0_part1_skel
  unfold owns
  iintro ⟨⟨⟨%f4, %e4, H4⟩, ⟨%f5, %e5, H5⟩, ⟨%f6, %e6, H6⟩, ⟨%f7, %e7, H7⟩, ⟨%f8, %e8, H8⟩, ⟨%f9, %e9, H9⟩, ⟨%f15, %e15, H15⟩, ⟨%f16, %e16, H16⟩⟩, HK⟩
  subst e4; subst e5; subst e6; subst e7; subst e8; subst e9; subst e15; subst e16
  have e4 : arg4.view.read (Elt F) f4 (Shape.Idx.first (numel1_S1.symm ▸ Nat.one_pos)) = nuWord arg4 c f4 :=
    (congrFun (View.readAt_full arg4.view f4 inb_S1_S1_0) _).symm
  rw [e4] at hchk h1 h2 h3 h4
  sl_exec
  sl_step
  iapply HK
  isplitl [H4]
  · iexists _; isplitr; swap; iexact H4; ipureintro; rfl
  isplitl [H5]
  · iexists _; isplitr; swap; iexact H5; ipureintro; rfl
  isplitl [H6]
  · iexists _; isplitr; swap; iexact H6; ipureintro; rfl
  isplitl [H7]
  · iexists _; isplitr; swap; iexact H7; ipureintro; rfl
  isplitl [H8]
  · iexists _; isplitr; swap; iexact H8; ipureintro; rfl
  isplitl [H9]
  · iexists _; isplitr; swap; iexact H9; ipureintro; rfl
  isplitl [H15]
  · iexists _; isplitr; swap; iexact H15; ipureintro; unfold body_first.sl.H15_2; exact XB_read arg15.view f15 _ _ (View.readAt_full arg5.view f5 _)
  iexists _; isplitr; swap; iexact H16; ipureintro; unfold body_first.sl.v19 body_first.sl.H15_2; exact put_read arg16.view f16 _ _ _ _ (pay3_congr (XB_cov arg15.view _ _ (View.readAt_full arg5.view f5 _)) (View.readAt_full arg6.view f6 _) (View.readAt_full arg8.view f8 _) (View.readAt_full arg7.view f7 _) (View.readAt_full arg9.view f9 _))

set_option maxHeartbeats 4000000 in
/-- Second point of an active tile. -/
theorem body_second (c : Dev nD) (E : Set ℕ) (i : grid0.Coords) (arg2 : Memref sig .tc .smem S160 .i32) (harg2 : arg2.IsWhole) (arg3 : Memref sig .tc .smem S160 .i32) (harg3 : arg3.IsWhole) (arg4 : Memref sig .tc .smem S1 .i32) (harg4 : arg4.IsWhole) (arg5 : Memref sig .tc .vmem S512x2048 .i32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1024x1024 .bf16) (harg14 : arg14.IsWhole) (arg15 : Memref sig .tc .vmem S512x4096 .bf16) (harg15 : arg15.IsWhole) (arg16 : Memref sig .tc .vmem S2x512x512 .bf16) (harg16 : arg16.IsWhole)
    (q4 : PosShare TreeShare) (X4 : Vec F S1 .i32) (X6 : Vec F S1x4096x512 .bf16) (X7 : Vec F S1x4096x512 .bf16) (X8 : Vec F S1x1x512 .f32) (X9 : Vec F S1x1x512 .f32) (X15 : Vec F S512x4096 .bf16) (X16 : Vec F S2x512x512 .bf16)
    (hchk : k0_chk1 i (X4 (Shape.Idx.first (numel1_S1.symm ▸ Nat.one_pos)))) (h1 : ¬ Scalar.cmpi .ne (Scalar.extui (Scalar.andi (Scalar.cmpi .slt (BitVec.ofNat 32 (i 0).val) (X4 (Shape.Idx.first (numel1_S1.symm ▸ Nat.one_pos)))) (Scalar.cmpi .eq (BitVec.ofNat 32 (i 1).val) 0#32))) 0#32 = 1#1) (h2 : k0_cond2 i (X4 (Shape.Idx.first (numel1_S1.symm ▸ Nat.one_pos))) = 1#1) (h3 : ¬ k0_cond3 i (X4 (Shape.Idx.first (numel1_S1.symm ▸ Nat.one_pos))) = 1#1) (h4 : ¬ k0_cond4 i (X4 (Shape.Idx.first (numel1_S1.symm ▸ Nat.one_pos))) = 1#1)
    (K : PUnit → sProp 𝕄) :
    iprop((owns (c.tc : Thread nD τ) arg4 q4 X4 ∗ owns (c.tc : Thread nD τ) arg6 fullShare X6 ∗ owns (c.tc : Thread nD τ) arg7 fullShare X7 ∗ owns (c.tc : Thread nD τ) arg8 fullShare X8 ∗ owns (c.tc : Thread nD τ) arg9 fullShare X9 ∗ owns (c.tc : Thread nD τ) arg15 fullShare X15 ∗ owns (c.tc : Thread nD τ) arg16 fullShare X16) ∗ ((owns (c.tc : Thread nD τ) arg4 q4 X4 ∗ owns (c.tc : Thread nD τ) arg6 fullShare X6 ∗ owns (c.tc : Thread nD τ) arg7 fullShare X7 ∗ owns (c.tc : Thread nD τ) arg8 fullShare X8 ∗ owns (c.tc : Thread nD τ) arg9 fullShare X9 ∗ owns (c.tc : Thread nD τ) arg15 fullShare X15 ∗ owns (c.tc : Thread nD τ) arg16 fullShare (VecWindow.put (s := S2x512x512) X16 (k0_off3 i) S1x512x512.size (k0_pay3 X15 X6 X8 X7 X9))) -∗ K ⟨⟩))
      ⊢ wp frame (wpE (defs₀ (F := F)) Variants.none (c.tc : Thread nD τ) none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_experts_eq_skeleton]; unfold cc0_experts_skel
  try simp only [k0_part1_eq_skeleton]; unfold k0_part1_skel
  unfold owns
  iintro ⟨⟨⟨%f4, %e4, H4⟩, ⟨%f6, %e6, H6⟩, ⟨%f7, %e7, H7⟩, ⟨%f8, %e8, H8⟩, ⟨%f9, %e9, H9⟩, ⟨%f15, %e15, H15⟩, ⟨%f16, %e16, H16⟩⟩, HK⟩
  subst e4; subst e6; subst e7; subst e8; subst e9; subst e15; subst e16
  have e4 : arg4.view.read (Elt F) f4 (Shape.Idx.first (numel1_S1.symm ▸ Nat.one_pos)) = nuWord arg4 c f4 :=
    (congrFun (View.readAt_full arg4.view f4 inb_S1_S1_0) _).symm
  rw [e4] at hchk h1 h2 h3 h4
  sl_exec
  sl_step
  iapply HK
  isplitl [H4]
  · iexists _; isplitr; swap; iexact H4; ipureintro; rfl
  isplitl [H6]
  · iexists _; isplitr; swap; iexact H6; ipureintro; rfl
  isplitl [H7]
  · iexists _; isplitr; swap; iexact H7; ipureintro; rfl
  isplitl [H8]
  · iexists _; isplitr; swap; iexact H8; ipureintro; rfl
  isplitl [H9]
  · iexists _; isplitr; swap; iexact H9; ipureintro; rfl
  isplitl [H15]
  · iexists _; isplitr; swap; iexact H15; ipureintro; rfl
  iexists _; isplitr; swap; iexact H16; ipureintro; exact put_read arg16.view f16 _ _ _ _ (pay3_congr (View.readAt_full arg15.view f15 _) (View.readAt_full arg6.view f6 _) (View.readAt_full arg8.view f8 _) (View.readAt_full arg7.view f7 _) (View.readAt_full arg9.view f9 _))

set_option maxHeartbeats 4000000 in
/-- Third and fourth point of an active tile. -/
theorem body_late (c : Dev nD) (E : Set ℕ) (i : grid0.Coords) (arg2 : Memref sig .tc .smem S160 .i32) (harg2 : arg2.IsWhole) (arg3 : Memref sig .tc .smem S160 .i32) (harg3 : arg3.IsWhole) (arg4 : Memref sig .tc .smem S1 .i32) (harg4 : arg4.IsWhole) (arg5 : Memref sig .tc .vmem S512x2048 .i32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1024x1024 .bf16) (harg14 : arg14.IsWhole) (arg15 : Memref sig .tc .vmem S512x4096 .bf16) (harg15 : arg15.IsWhole) (arg16 : Memref sig .tc .vmem S2x512x512 .bf16) (harg16 : arg16.IsWhole)
    (q4 : PosShare TreeShare) (X4 : Vec F S1 .i32) (X10 : Vec F S1x1024x1024 .bf16) (X11 : Vec F S1x1024x1024 .bf16) (X12 : Vec F S1x1x1024 .f32) (X13 : Vec F S1x1x1024 .f32) (X14 : Vec F S1024x1024 .bf16) (X16 : Vec F S2x512x512 .bf16)
    (hchk : k0_chk1 i (X4 (Shape.Idx.first (numel1_S1.symm ▸ Nat.one_pos)))) (h1 : ¬ Scalar.cmpi .ne (Scalar.extui (Scalar.andi (Scalar.cmpi .slt (BitVec.ofNat 32 (i 0).val) (X4 (Shape.Idx.first (numel1_S1.symm ▸ Nat.one_pos)))) (Scalar.cmpi .eq (BitVec.ofNat 32 (i 1).val) 0#32))) 0#32 = 1#1) (h2 : ¬ k0_cond2 i (X4 (Shape.Idx.first (numel1_S1.symm ▸ Nat.one_pos))) = 1#1) (h3 : k0_cond3 i (X4 (Shape.Idx.first (numel1_S1.symm ▸ Nat.one_pos))) = 1#1) (h4 : ¬ k0_cond4 i (X4 (Shape.Idx.first (numel1_S1.symm ▸ Nat.one_pos))) = 1#1)
    (K : PUnit → sProp 𝕄) :
    iprop((owns (c.tc : Thread nD τ) arg4 q4 X4 ∗ owns (c.tc : Thread nD τ) arg10 fullShare X10 ∗ owns (c.tc : Thread nD τ) arg11 fullShare X11 ∗ owns (c.tc : Thread nD τ) arg12 fullShare X12 ∗ owns (c.tc : Thread nD τ) arg13 fullShare X13 ∗ owns (c.tc : Thread nD τ) arg14 fullShare X14 ∗ owns (c.tc : Thread nD τ) arg16 fullShare X16) ∗ ((owns (c.tc : Thread nD τ) arg4 q4 X4 ∗ owns (c.tc : Thread nD τ) arg10 fullShare X10 ∗ owns (c.tc : Thread nD τ) arg11 fullShare X11 ∗ owns (c.tc : Thread nD τ) arg12 fullShare X12 ∗ owns (c.tc : Thread nD τ) arg13 fullShare X13 ∗ owns (c.tc : Thread nD τ) arg14 fullShare (outVal X10 X11 X12 X13 X16) ∗ owns (c.tc : Thread nD τ) arg16 fullShare X16) -∗ K ⟨⟩))
      ⊢ wp frame (wpE (defs₀ (F := F)) Variants.none (c.tc : Thread nD τ) none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_experts_eq_skeleton]; unfold cc0_experts_skel
  try simp only [k0_part1_eq_skeleton]; unfold k0_part1_skel
  unfold owns
  iintro ⟨⟨⟨%f4, %e4, H4⟩, ⟨%f10, %e10, H10⟩, ⟨%f11, %e11, H11⟩, ⟨%f12, %e12, H12⟩, ⟨%f13, %e13, H13⟩, ⟨%f14, %e14, H14⟩, ⟨%f16, %e16, H16⟩⟩, HK⟩
  subst e4; subst e10; subst e11; subst e12; subst e13; subst e14; subst e16
  have e4 : arg4.view.read (Elt F) f4 (Shape.Idx.first (numel1_S1.symm ▸ Nat.one_pos)) = nuWord arg4 c f4 :=
    (congrFun (View.readAt_full arg4.view f4 inb_S1_S1_0) _).symm
  rw [e4] at hchk h1 h2 h3 h4
  sl_exec
  sl_step
  iapply HK
  isplitl [H4]
  · iexists _; isplitr; swap; iexact H4; ipureintro; rfl
  isplitl [H10]
  · iexists _; isplitr; swap; iexact H10; ipureintro; rfl
  isplitl [H11]
  · iexists _; isplitr; swap; iexact H11; ipureintro; rfl
  isplitl [H12]
  · iexists _; isplitr; swap; iexact H12; ipureintro; rfl
  isplitl [H13]
  · iexists _; isplitr; swap; iexact H13; ipureintro; rfl
  isplitl [H14]
  · iexists _; isplitr; swap; iexact H14; ipureintro; exact (View.read_writes_full arg14.view f14 _ _ _).trans (outVal_congr (View.readAt_full arg12.view f12 _) (View.readAt_full arg13.view f13 _))
  iexists _; isplitr; swap; iexact H16; ipureintro; rfl

set_option maxHeartbeats 4000000 in
/-- First and second point of an inactive tile. -/
theorem body_skip (c : Dev nD) (E : Set ℕ) (i : grid0.Coords) (arg2 : Memref sig .tc .smem S160 .i32) (harg2 : arg2.IsWhole) (arg3 : Memref sig .tc .smem S160 .i32) (harg3 : arg3.IsWhole) (arg4 : Memref sig .tc .smem S1 .i32) (harg4 : arg4.IsWhole) (arg5 : Memref sig .tc .vmem S512x2048 .i32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1024x1024 .bf16) (harg14 : arg14.IsWhole) (arg15 : Memref sig .tc .vmem S512x4096 .bf16) (harg15 : arg15.IsWhole) (arg16 : Memref sig .tc .vmem S2x512x512 .bf16) (harg16 : arg16.IsWhole)
    (q4 : PosShare TreeShare) (X4 : Vec F S1 .i32)
    (hchk : k0_chk1 i (X4 (Shape.Idx.first (numel1_S1.symm ▸ Nat.one_pos)))) (h1 : ¬ Scalar.cmpi .ne (Scalar.extui (Scalar.andi (Scalar.cmpi .slt (BitVec.ofNat 32 (i 0).val) (X4 (Shape.Idx.first (numel1_S1.symm ▸ Nat.one_pos)))) (Scalar.cmpi .eq (BitVec.ofNat 32 (i 1).val) 0#32))) 0#32 = 1#1) (h2 : ¬ k0_cond2 i (X4 (Shape.Idx.first (numel1_S1.symm ▸ Nat.one_pos))) = 1#1) (h3 : ¬ k0_cond3 i (X4 (Shape.Idx.first (numel1_S1.symm ▸ Nat.one_pos))) = 1#1) (h4 : ¬ k0_cond4 i (X4 (Shape.Idx.first (numel1_S1.symm ▸ Nat.one_pos))) = 1#1)
    (K : PUnit → sProp 𝕄) :
    iprop((owns (c.tc : Thread nD τ) arg4 q4 X4) ∗ ((owns (c.tc : Thread nD τ) arg4 q4 X4) -∗ K ⟨⟩))
      ⊢ wp frame (wpE (defs₀ (F := F)) Variants.none (c.tc : Thread nD τ) none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_experts_eq_skeleton]; unfold cc0_experts_skel
  try simp only [k0_part1_eq_skeleton]; unfold k0_part1_skel
  unfold owns
  iintro ⟨⟨⟨%f4, %e4, H4⟩⟩, HK⟩
  subst e4
  have e4 : arg4.view.read (Elt F) f4 (Shape.Idx.first (numel1_S1.symm ▸ Nat.one_pos)) = nuWord arg4 c f4 :=
    (congrFun (View.readAt_full arg4.view f4 inb_S1_S1_0) _).symm
  rw [e4] at hchk h1 h2 h3 h4
  sl_exec
  sl_step
  iapply HK
  iexists _; isplitr; swap; iexact H4; ipureintro; rfl

set_option maxHeartbeats 4000000 in
/-- Third and fourth point of an inactive tile. -/
theorem body_zero (c : Dev nD) (E : Set ℕ) (i : grid0.Coords) (arg2 : Memref sig .tc .smem S160 .i32) (harg2 : arg2.IsWhole) (arg3 : Memref sig .tc .smem S160 .i32) (harg3 : arg3.IsWhole) (arg4 : Memref sig .tc .smem S1 .i32) (harg4 : arg4.IsWhole) (arg5 : Memref sig .tc .vmem S512x2048 .i32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1024x1024 .bf16) (harg14 : arg14.IsWhole) (arg15 : Memref sig .tc .vmem S512x4096 .bf16) (harg15 : arg15.IsWhole) (arg16 : Memref sig .tc .vmem S2x512x512 .bf16) (harg16 : arg16.IsWhole)
    (q4 : PosShare TreeShare) (X4 : Vec F S1 .i32) (X14 : Vec F S1024x1024 .bf16)
    (hchk : k0_chk1 i (X4 (Shape.Idx.first (numel1_S1.symm ▸ Nat.one_pos)))) (h1 : ¬ Scalar.cmpi .ne (Scalar.extui (Scalar.andi (Scalar.cmpi .slt (BitVec.ofNat 32 (i 0).val) (X4 (Shape.Idx.first (numel1_S1.symm ▸ Nat.one_pos)))) (Scalar.cmpi .eq (BitVec.ofNat 32 (i 1).val) 0#32))) 0#32 = 1#1) (h2 : ¬ k0_cond2 i (X4 (Shape.Idx.first (numel1_S1.symm ▸ Nat.one_pos))) = 1#1) (h3 : ¬ k0_cond3 i (X4 (Shape.Idx.first (numel1_S1.symm ▸ Nat.one_pos))) = 1#1) (h4 : k0_cond4 i (X4 (Shape.Idx.first (numel1_S1.symm ▸ Nat.one_pos))) = 1#1)
    (K : PUnit → sProp 𝕄) :
    iprop((owns (c.tc : Thread nD τ) arg4 q4 X4 ∗ owns (c.tc : Thread nD τ) arg14 fullShare X14) ∗ ((owns (c.tc : Thread nD τ) arg4 q4 X4 ∗ owns (c.tc : Thread nD τ) arg14 fullShare k0_pay5) -∗ K ⟨⟩))
      ⊢ wp frame (wpE (defs₀ (F := F)) Variants.none (c.tc : Thread nD τ) none) E (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_experts_eq_skeleton]; unfold cc0_experts_skel
  try simp only [k0_part1_eq_skeleton]; unfold k0_part1_skel
  unfold owns
  iintro ⟨⟨⟨%f4, %e4, H4⟩, ⟨%f14, %e14, H14⟩⟩, HK⟩
  subst e4; subst e14
  have e4 : arg4.view.read (Elt F) f4 (Shape.Idx.first (numel1_S1.symm ▸ Nat.one_pos)) = nuWord arg4 c f4 :=
    (congrFun (View.readAt_full arg4.view f4 inb_S1_S1_0) _).symm
  rw [e4] at hchk h1 h2 h3 h4
  sl_exec
  sl_step
  iapply HK
  isplitl [H4]
  · iexists _; isplitr; swap; iexact H4; ipureintro; rfl
  iexists _; isplitr; swap; iexact H14; ipureintro; exact View.read_writes_full _ _ _ _ _

end Cert.KernelIdeal.Body

end
-- ==== Proof.Maps.lean ====
/- The window index maps in closed form, the body's branch conditions by grid point, and the side condition on the
   routing tables from the bounds of their words. -/
module

public import proofs.«01_k».proof.Proof.Gen.KernelIdeal
public import proofs.«01_k».proof.Proof.Gen.KernelIdeal.Launch
public import Idealize.ShloMosaic.Lib.Affine

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- Tile `i` is one of the `nu` tiles in use. -/
def act (nu : BitVec 32) (i : ℕ) : Prop := Scalar.cmpi .slt (BitVec.ofNat 32 i) nu = 1#1

instance (nu : BitVec 32) (i : ℕ) : Decidable (act nu i) := by unfold act; infer_instance

/-- Position `i` of a table of 160 words. -/
def ix160 (i : ℕ) (h : i < 160) : S160.Idx := fun a : Fin 1 => ⟨i, by
  have : a = 0 := Subsingleton.elim _ _
  subst this
  exact h⟩
/-- The only position of a one word table. -/
def ix1 : S1.Idx := fun a : Fin 1 => ⟨0, by
  have : a = 0 := Subsingleton.elim _ _
  subst this
  exact Nat.one_pos⟩
/-- Tile `i`'s expert in the first table. -/
def teW (pf : pre0.Contents (Elt F)) (i : ℕ) (h : i < 160) : BitVec 32 := pf 0 (ix160 i h)
/-- Tile `i`'s row block in the second table. -/
def tbW (pf : pre0.Contents (Elt F)) (i : ℕ) (h : i < 160) : BitVec 32 := pf 1 (ix160 i h)
/-- The number of tiles in use. -/
def nuW (pf : pre0.Contents (Elt F)) : BitVec 32 := pf 2 ix1

theorem one_idx (x y : S160.Idx) (h : (x (0 : Fin 1)).val = (y (0 : Fin 1)).val) : x = y :=
  funext fun a : Fin 1 => by
    have : a = 0 := Subsingleton.elim _ _
    subst this
    exact Fin.ext h

theorem one_idx1 (x y : S1.Idx) : x = y :=
  funext fun a : Fin 1 => by
    have : a = 0 := Subsingleton.elim _ _
    subst this
    have h1 : (x (0 : Fin 1)).val < 1 := (x (0 : Fin 1)).isLt
    have h2 : (y (0 : Fin 1)).val < 1 := (y (0 : Fin 1)).isLt
    exact Fin.ext (by omega)

theorem at0 (pf : pre0.Contents (Elt F)) (off : Fin 1 → ℕ) (inb : ∀ a, off a + S1.size a ≤ S160.size a) (h1) (j : ℕ) (hj : j < 160) (h : off = ![j]) :
    pf.at 0 (Rect.unit (s := S160) off S1.size inb) h1 = teW pf j hj := by
  subst h
  exact congrArg (pf 0) (one_idx _ _ (by
    have := (Shape.Idx.first (s := (Rect.unit (s := S160) ![j] S1.size inb).shape) (h1.symm ▸ Nat.one_pos) (0 : Fin 1)).isLt
    change ((Shape.Idx.first (s := (Rect.unit (s := S160) ![j] S1.size inb).shape) (h1.symm ▸ Nat.one_pos)) (0 : Fin 1)).val < 1 at this
    change j + 1 * ((Shape.Idx.first (s := (Rect.unit (s := S160) ![j] S1.size inb).shape) (h1.symm ▸ Nat.one_pos)) (0 : Fin 1)).val = j
    omega))

theorem at1 (pf : pre0.Contents (Elt F)) (off : Fin 1 → ℕ) (inb : ∀ a, off a + S1.size a ≤ S160.size a) (h1) (j : ℕ) (hj : j < 160) (h : off = ![j]) :
    pf.at 1 (Rect.unit (s := S160) off S1.size inb) h1 = tbW pf j hj := by
  subst h
  exact congrArg (pf 1) (one_idx _ _ (by
    have := (Shape.Idx.first (s := (Rect.unit (s := S160) ![j] S1.size inb).shape) (h1.symm ▸ Nat.one_pos) (0 : Fin 1)).isLt
    change ((Shape.Idx.first (s := (Rect.unit (s := S160) ![j] S1.size inb).shape) (h1.symm ▸ Nat.one_pos)) (0 : Fin 1)).val < 1 at this
    change j + 1 * ((Shape.Idx.first (s := (Rect.unit (s := S160) ![j] S1.size inb).shape) (h1.symm ▸ Nat.one_pos)) (0 : Fin 1)).val = j
    omega))

theorem at2 (pf : pre0.Contents (Elt F)) (inb : ∀ a, (![0] : Fin 1 → ℕ) a + S1.size a ≤ S1.size a) (h1) :
    pf.at 2 (Rect.unit (s := S1) ![0] S1.size inb) h1 = nuW pf :=
  congrArg (pf 2) (one_idx1 _ _)

theorem bit_cases (B : BitVec 1) : B = 0#1 ∨ B = 1#1 := by
  have h : B.toNat < 2 := B.isLt
  rcases Nat.lt_or_ge B.toNat 1 with h0 | h0
  · left; apply BitVec.eq_of_toNat_eq; show B.toNat = 0; omega
  · right; apply BitVec.eq_of_toNat_eq; show B.toNat = 1; omega

theorem sel_min (B : BitVec 1) (s : ℕ) (h : s < 4) :
    (Scalar.select B (Scalar.minsi (BitVec.ofNat 32 s) 1#32) 1#32 : BitVec 32).toNat = if B = 1#1 then min s 1 else 1 := by
  rcases bit_cases B with rfl | rfl <;> rcases (show s = 0 ∨ s = 1 ∨ s = 2 ∨ s = 3 by omega) with rfl | rfl | rfl | rfl <;> decide

theorem sel_max (B : BitVec 1) (s : ℕ) (h : s < 4) :
    (Scalar.select B (Scalar.maxsi (Scalar.subi (BitVec.ofNat 32 s) 2#32) 0#32) 1#32 : BitVec 32).toNat = if B = 1#1 then s - 2 else 1 := by
  rcases bit_cases B with rfl | rfl <;> rcases (show s = 0 ∨ s = 1 ∨ s = 2 ∨ s = 3 by omega) with rfl | rfl | rfl | rfl <;> decide

theorem sel_max2 (B : BitVec 1) (s : ℕ) (h : s < 4) :
    (Scalar.addi 2#32 (Scalar.select B (Scalar.maxsi (Scalar.subi (BitVec.ofNat 32 s) 2#32) 0#32) 1#32 : BitVec 32)).toNat = 2 + if B = 1#1 then s - 2 else 1 := by
  rcases bit_cases B with rfl | rfl <;> rcases (show s = 0 ∨ s = 1 ∨ s = 2 ∨ s = 3 by omega) with rfl | rfl | rfl | rfl <;> decide

theorem sel_ahead_le (B : BitVec 1) (s : ℕ) (h : s < 4) :
    (Scalar.select B (Scalar.minsi (Scalar.select (Scalar.cmpi .sge (BitVec.ofNat 32 s) 2#32) 0#32 (BitVec.ofNat 32 s) : BitVec 32) 1#32) 1#32 : BitVec 32).toNat ≤ 1 := by
  rcases bit_cases B with rfl | rfl <;> rcases (show s = 0 ∨ s = 1 ∨ s = 2 ∨ s = 3 by omega) with rfl | rfl | rfl | rfl <;> decide

theorem sel_ahead_low (i s : ℕ) (h : s < 2) (x C' : BitVec 32) :
    (Scalar.select (Scalar.cmpi .slt (Scalar.select (Scalar.cmpi .sge (BitVec.ofNat 32 s) 2#32) x (BitVec.ofNat 32 i) : BitVec 32) C')
      (Scalar.minsi (Scalar.select (Scalar.cmpi .sge (BitVec.ofNat 32 s) 2#32) 0#32 (BitVec.ofNat 32 s) : BitVec 32) 1#32) 1#32 : BitVec 32).toNat
      = if Scalar.cmpi .slt (BitVec.ofNat 32 i) C' = 1#1 then s else 1 := by
  rcases (show s = 0 ∨ s = 1 by omega) with rfl | rfl
  · show (Scalar.select (Scalar.cmpi .slt (BitVec.ofNat 32 i) C') _ _ : BitVec 32).toNat = _
    rcases bit_cases (Scalar.cmpi .slt (BitVec.ofNat 32 i) C') with e | e <;> rw [e] <;> decide
  · show (Scalar.select (Scalar.cmpi .slt (BitVec.ofNat 32 i) C') _ _ : BitVec 32).toNat = _
    rcases bit_cases (Scalar.cmpi .slt (BitVec.ofNat 32 i) C') with e | e <;> rw [e] <;> decide

theorem idx9 (s : ℕ) (h : s < 4) : (Scalar.maxsi (Scalar.subi (BitVec.ofNat 32 s) 2#32) 0#32 : BitVec 32).toNat = s - 2 := by
  rcases (show s = 0 ∨ s = 1 ∨ s = 2 ∨ s = 3 by omega) with rfl | rfl | rfl | rfl <;> decide

/-- The tile whose rows a step looks ahead to. -/
theorem ltA (i : grid0.Coords) : (if (i 1).val ≥ 2 then min ((i 0).val + 1) 159 else (i 0).val) < 160 := by
  have : (i 0).val < 160 := (i 0).isLt
  split <;> omega

theorem T0 (pf : pre0.Contents (Elt F)) (i : grid0.Coords) :
    cc0_transform_0 k0_off1_inb numel1_S1 pf i = ![(tbW pf _ (ltA i)).toNat, 0] := by
  show ![(pf.at 1 (Rect.unit (s := S160) (k0_off1 i) S1.size (k0_off1_inb i)) numel1_S1).toNat, 0] = _
  rw [at1 pf _ (k0_off1_inb i) numel1_S1 _ (ltA i) (k0_off1_eq i)]

theorem T2 (pf : pre0.Contents (Elt F)) (i : grid0.Coords) :
    ∃ x C : BitVec 32, C = nuW pf ∧ cc0_transform_2 k0_off1_inb numel1_S1 inb_S1_S1_0 pf i = ![(teW pf _ (ltA i)).toNat, 0,
      (Scalar.select (Scalar.cmpi .slt (Scalar.select (Scalar.cmpi .sge (BitVec.ofNat 32 (i 1).val) 2#32) x (BitVec.ofNat 32 (i 0).val) : BitVec 32) C)
      (Scalar.minsi (Scalar.select (Scalar.cmpi .sge (BitVec.ofNat 32 (i 1).val) 2#32) 0#32 (BitVec.ofNat 32 (i 1).val) : BitVec 32) 1#32) 1#32 : BitVec 32).toNat] := by
  refine ⟨Scalar.minsi (Scalar.addi (BitVec.ofNat 32 (i 0).val) 1#32) 159#32, _, at2 pf inb_S1_S1_0 numel1_S1, ?_⟩
  rw [← at0 pf _ (k0_off1_inb i) numel1_S1 _ (ltA i) (k0_off1_eq i)]
  rfl

theorem T1 (pf : pre0.Contents (Elt F)) (i : grid0.Coords) :
    cc0_transform_1 k0_off2_inb numel1_S1 inb_S1_S1_0 pf i = ![(teW pf (i 0).val (i 0).isLt).toNat, 0, if act (nuW pf) (i 0).val then min (i 1).val 1 else 1] := by
  show ![(pf.at 0 (Rect.unit (s := S160) (k0_off2 i) S1.size (k0_off2_inb i)) numel1_S1).toNat, 0,
    (Scalar.select (Scalar.cmpi .slt (BitVec.ofNat 32 (i 0).val) (pf.at 2 (Rect.unit (s := S1) ![0] S1.size inb_S1_S1_0) numel1_S1)) (Scalar.minsi (BitVec.ofNat 32 (i 1).val) 1#32) 1#32 : BitVec 32).toNat] = _
  rw [at0 pf _ (k0_off2_inb i) numel1_S1 _ (i 0).isLt (k0_off2_eq i), at2 pf inb_S1_S1_0 numel1_S1, sel_min _ _ (i 1).isLt]
  rfl

theorem T3 (pf : pre0.Contents (Elt F)) (i : grid0.Coords) :
    cc0_transform_3 k0_off2_inb numel1_S1 inb_S1_S1_0 pf i = ![(teW pf (i 0).val (i 0).isLt).toNat, 0, if act (nuW pf) (i 0).val then min (i 1).val 1 else 1] := by
  show ![(pf.at 0 (Rect.unit (s := S160) (k0_off2 i) S1.size (k0_off2_inb i)) numel1_S1).toNat, 0,
    (Scalar.select (Scalar.cmpi .slt (BitVec.ofNat 32 (i 0).val) (pf.at 2 (Rect.unit (s := S1) ![0] S1.size inb_S1_S1_0) numel1_S1)) (Scalar.minsi (BitVec.ofNat 32 (i 1).val) 1#32) 1#32 : BitVec 32).toNat] = _
  rw [at0 pf _ (k0_off2_inb i) numel1_S1 _ (i 0).isLt (k0_off2_eq i), at2 pf inb_S1_S1_0 numel1_S1, sel_min _ _ (i 1).isLt]
  rfl

theorem T4 (pf : pre0.Contents (Elt F)) (i : grid0.Coords) :
    cc0_transform_4 k0_off2_inb numel1_S1 inb_S1_S1_0 pf i = ![(teW pf (i 0).val (i 0).isLt).toNat, 0, if act (nuW pf) (i 0).val then min (i 1).val 1 else 1] := by
  show ![(pf.at 0 (Rect.unit (s := S160) (k0_off2 i) S1.size (k0_off2_inb i)) numel1_S1).toNat, 0,
    (Scalar.select (Scalar.cmpi .slt (BitVec.ofNat 32 (i 0).val) (pf.at 2 (Rect.unit (s := S1) ![0] S1.size inb_S1_S1_0) numel1_S1)) (Scalar.minsi (BitVec.ofNat 32 (i 1).val) 1#32) 1#32 : BitVec 32).toNat] = _
  rw [at0 pf _ (k0_off2_inb i) numel1_S1 _ (i 0).isLt (k0_off2_eq i), at2 pf inb_S1_S1_0 numel1_S1, sel_min _ _ (i 1).isLt]
  rfl

theorem T5 (pf : pre0.Contents (Elt F)) (i : grid0.Coords) :
    cc0_transform_5 k0_off2_inb numel1_S1 inb_S1_S1_0 pf i = ![(teW pf (i 0).val (i 0).isLt).toNat, 0, if act (nuW pf) (i 0).val then (i 1).val - 2 else 1] := by
  show ![(pf.at 0 (Rect.unit (s := S160) (k0_off2 i) S1.size (k0_off2_inb i)) numel1_S1).toNat, 0,
    (Scalar.select (Scalar.cmpi .slt (BitVec.ofNat 32 (i 0).val) (pf.at 2 (Rect.unit (s := S1) ![0] S1.size inb_S1_S1_0) numel1_S1)) (Scalar.maxsi (Scalar.subi (BitVec.ofNat 32 (i 1).val) 2#32) 0#32) 1#32 : BitVec 32).toNat] = _
  rw [at0 pf _ (k0_off2_inb i) numel1_S1 _ (i 0).isLt (k0_off2_eq i), at2 pf inb_S1_S1_0 numel1_S1, sel_max _ _ (i 1).isLt]
  rfl

theorem T7 (pf : pre0.Contents (Elt F)) (i : grid0.Coords) :
    cc0_transform_7 k0_off2_inb numel1_S1 inb_S1_S1_0 pf i = ![(teW pf (i 0).val (i 0).isLt).toNat, 0, if act (nuW pf) (i 0).val then (i 1).val - 2 else 1] := by
  show ![(pf.at 0 (Rect.unit (s := S160) (k0_off2 i) S1.size (k0_off2_inb i)) numel1_S1).toNat, 0,
    (Scalar.select (Scalar.cmpi .slt (BitVec.ofNat 32 (i 0).val) (pf.at 2 (Rect.unit (s := S1) ![0] S1.size inb_S1_S1_0) numel1_S1)) (Scalar.maxsi (Scalar.subi (BitVec.ofNat 32 (i 1).val) 2#32) 0#32) 1#32 : BitVec 32).toNat] = _
  rw [at0 pf _ (k0_off2_inb i) numel1_S1 _ (i 0).isLt (k0_off2_eq i), at2 pf inb_S1_S1_0 numel1_S1, sel_max _ _ (i 1).isLt]
  rfl

theorem T6 (pf : pre0.Contents (Elt F)) (i : grid0.Coords) :
    cc0_transform_6 k0_off2_inb numel1_S1 inb_S1_S1_0 pf i = ![(teW pf (i 0).val (i 0).isLt).toNat, 0, 2 + if act (nuW pf) (i 0).val then (i 1).val - 2 else 1] := by
  show ![(pf.at 0 (Rect.unit (s := S160) (k0_off2 i) S1.size (k0_off2_inb i)) numel1_S1).toNat, 0,
    (Scalar.addi 2#32 (Scalar.select (Scalar.cmpi .slt (BitVec.ofNat 32 (i 0).val) (pf.at 2 (Rect.unit (s := S1) ![0] S1.size inb_S1_S1_0) numel1_S1)) (Scalar.maxsi (Scalar.subi (BitVec.ofNat 32 (i 1).val) 2#32) 0#32) 1#32 : BitVec 32)).toNat] = _
  rw [at0 pf _ (k0_off2_inb i) numel1_S1 _ (i 0).isLt (k0_off2_eq i), at2 pf inb_S1_S1_0 numel1_S1, sel_max2 _ _ (i 1).isLt]
  rfl

theorem T8 (pf : pre0.Contents (Elt F)) (i : grid0.Coords) :
    cc0_transform_8 k0_off2_inb numel1_S1 inb_S1_S1_0 pf i = ![(teW pf (i 0).val (i 0).isLt).toNat, 0, 2 + if act (nuW pf) (i 0).val then (i 1).val - 2 else 1] := by
  show ![(pf.at 0 (Rect.unit (s := S160) (k0_off2 i) S1.size (k0_off2_inb i)) numel1_S1).toNat, 0,
    (Scalar.addi 2#32 (Scalar.select (Scalar.cmpi .slt (BitVec.ofNat 32 (i 0).val) (pf.at 2 (Rect.unit (s := S1) ![0] S1.size inb_S1_S1_0) numel1_S1)) (Scalar.maxsi (Scalar.subi (BitVec.ofNat 32 (i 1).val) 2#32) 0#32) 1#32 : BitVec 32)).toNat] = _
  rw [at0 pf _ (k0_off2_inb i) numel1_S1 _ (i 0).isLt (k0_off2_eq i), at2 pf inb_S1_S1_0 numel1_S1, sel_max2 _ _ (i 1).isLt]
  rfl

theorem T9 (i : grid0.Coords) : cc0_transform_9 i = ![(i 0).val, (i 1).val - 2] := by
  have h0 : (i 0).val < 160 := (i 0).isLt
  show ![(BitVec.ofNat 32 (i 0).val).toNat, (Scalar.maxsi (Scalar.subi (BitVec.ofNat 32 (i 1).val) 2#32) 0#32 : BitVec 32).toNat] = _
  rw [idx9 _ (i 1).isLt, BitVec.toNat_ofNat, Nat.mod_eq_of_lt (by omega)]

/-- The side condition on the routing tables, from the bounds of their words. -/
theorem ok_of_bounds (pf : pre0.Contents (Elt F)) (he : ∀ i h, (teW pf i h).toNat < 32) (hb : ∀ i h, (tbW pf i h).toNat < 160) : ok0 pf := by
  refine ⟨fun i => ⟨?_, .inl rfl⟩, fun i => ⟨?_, .inr (Affine.block_words_dvd (of_decide_eq_true rfl) (by decide))⟩,
    fun i => ⟨?_, .inr (Affine.block_words_dvd (of_decide_eq_true rfl) (by decide))⟩, fun i => ⟨?_, .inl rfl⟩, fun i => ⟨?_, .inl rfl⟩,
    fun i => ⟨?_, .inr (Affine.block_words_dvd (of_decide_eq_true rfl) (by decide))⟩,
    fun i => ⟨?_, .inr (Affine.block_words_dvd (of_decide_eq_true rfl) (by decide))⟩, fun i => ⟨?_, .inl rfl⟩, fun i => ⟨?_, .inl rfl⟩⟩
  · rw [T0]
    have := hb _ (ltA i)
    refine Fin.forall_fin_two.2 ⟨?_, ?_⟩
    · show (_ + 1) * 512 ≤ 81920
      simp only [Matrix.cons_val_zero]; omega
    · show (0 + 1) * 2048 ≤ 2048
      omega
  · rw [T1]
    have := he _ (i 0).isLt
    refine Fin.forall_fin_succ.2 ⟨?_, Fin.forall_fin_two.2 ⟨?_, ?_⟩⟩
    · show (_ + 1) * 1 ≤ 32
      simp only [Matrix.cons_val_zero]; omega
    · show (0 + 1) * 4096 ≤ 4096
      omega
    · show (_ + 1) * 512 ≤ 1024
      have : (i 1).val < 4 := (i 1).isLt
      simp only [Fin.succ_one_eq_two, Matrix.cons_val]; (try split) <;> omega
  · obtain ⟨x, C, -, e⟩ := T2 pf i
    rw [e]
    have := he _ (ltA i)
    have h2 := sel_ahead_le (Scalar.cmpi .slt (Scalar.select (Scalar.cmpi .sge (BitVec.ofNat 32 (i 1).val) 2#32) x (BitVec.ofNat 32 (i 0).val) : BitVec 32) C) _ (i 1).isLt
    refine Fin.forall_fin_succ.2 ⟨?_, Fin.forall_fin_two.2 ⟨?_, ?_⟩⟩
    · show (_ + 1) * 1 ≤ 32
      simp only [Matrix.cons_val_zero]; omega
    · show (0 + 1) * 4096 ≤ 4096
      omega
    · show (_ + 1) * 512 ≤ 1024
      have : (i 1).val < 4 := (i 1).isLt
      simp only [Fin.succ_one_eq_two, Matrix.cons_val]; (try split) <;> omega
  · rw [T3]
    have := he _ (i 0).isLt
    refine Fin.forall_fin_succ.2 ⟨?_, Fin.forall_fin_two.2 ⟨?_, ?_⟩⟩
    · show (_ + 1) * 1 ≤ 32
      simp only [Matrix.cons_val_zero]; omega
    · show (0 + 1) * 1 ≤ 1
      omega
    · show (_ + 1) * 512 ≤ 1024
      have : (i 1).val < 4 := (i 1).isLt
      simp only [Fin.succ_one_eq_two, Matrix.cons_val]; (try split) <;> omega
  · rw [T4]
    have := he _ (i 0).isLt
    refine Fin.forall_fin_succ.2 ⟨?_, Fin.forall_fin_two.2 ⟨?_, ?_⟩⟩
    · show (_ + 1) * 1 ≤ 32
      simp only [Matrix.cons_val_zero]; omega
    · show (0 + 1) * 1 ≤ 1
      omega
    · show (_ + 1) * 512 ≤ 1024
      have : (i 1).val < 4 := (i 1).isLt
      simp only [Fin.succ_one_eq_two, Matrix.cons_val]; (try split) <;> omega
  · rw [T5]
    have := he _ (i 0).isLt
    refine Fin.forall_fin_succ.2 ⟨?_, Fin.forall_fin_two.2 ⟨?_, ?_⟩⟩
    · show (_ + 1) * 1 ≤ 32
      simp only [Matrix.cons_val_zero]; omega
    · show (0 + 1) * 1024 ≤ 1024
      omega
    · show (_ + 1) * 1024 ≤ 4096
      have : (i 1).val < 4 := (i 1).isLt
      simp only [Fin.succ_one_eq_two, Matrix.cons_val]; (try split) <;> omega
  · rw [T6]
    have := he _ (i 0).isLt
    refine Fin.forall_fin_succ.2 ⟨?_, Fin.forall_fin_two.2 ⟨?_, ?_⟩⟩
    · show (_ + 1) * 1 ≤ 32
      simp only [Matrix.cons_val_zero]; omega
    · show (0 + 1) * 1024 ≤ 1024
      omega
    · show (_ + 1) * 1024 ≤ 4096
      have : (i 1).val < 4 := (i 1).isLt
      simp only [Fin.succ_one_eq_two, Matrix.cons_val]; (try split) <;> omega
  · rw [T7]
    have := he _ (i 0).isLt
    refine Fin.forall_fin_succ.2 ⟨?_, Fin.forall_fin_two.2 ⟨?_, ?_⟩⟩
    · show (_ + 1) * 1 ≤ 32
      simp only [Matrix.cons_val_zero]; omega
    · show (0 + 1) * 1 ≤ 1
      omega
    · show (_ + 1) * 1024 ≤ 4096
      have : (i 1).val < 4 := (i 1).isLt
      simp only [Fin.succ_one_eq_two, Matrix.cons_val]; (try split) <;> omega
  · rw [T8]
    have := he _ (i 0).isLt
    refine Fin.forall_fin_succ.2 ⟨?_, Fin.forall_fin_two.2 ⟨?_, ?_⟩⟩
    · show (_ + 1) * 1 ≤ 32
      simp only [Matrix.cons_val_zero]; omega
    · show (0 + 1) * 1 ≤ 1
      omega
    · show (_ + 1) * 1024 ≤ 4096
      have : (i 1).val < 4 := (i 1).isLt
      simp only [Fin.succ_one_eq_two, Matrix.cons_val]; (try split) <;> omega

/-- The rows a step writes of the hidden buffer: the step's own half. -/
theorem off3_eq (i : grid0.Coords) : k0_off3 i = ![(i 1).val, 0, 0] := by
  have h1 : (i 1).val < 4 := (i 1).isLt
  show ![(BitVec.ofNat 32 (i 1).val).toNat, 0, 0] = _
  rw [BitVec.toNat_ofNat, Nat.mod_eq_of_lt (by omega)]

theorem cond1_iff (i : grid0.Coords) (nu : BitVec 32) :
    Scalar.cmpi .ne (Scalar.extui (Scalar.andi (Scalar.cmpi .slt (BitVec.ofNat 32 (i 0).val) nu) (Scalar.cmpi .eq (BitVec.ofNat 32 (i 1).val) 0#32))) 0#32 = 1#1 ↔ act nu (i 0).val ∧ (i 1).val = 0 := by
  unfold act
  have h1 : (i 1).val < 4 := (i 1).isLt
  generalize (i 1).val = s at *
  rcases bit_cases (Scalar.cmpi .slt (BitVec.ofNat 32 (i 0).val) nu) with e | e <;> rw [e] <;>
    rcases (show s = 0 ∨ s = 1 ∨ s = 2 ∨ s = 3 by omega) with rfl | rfl | rfl | rfl <;> decide

theorem cond2_iff (i : grid0.Coords) (nu : BitVec 32) : k0_cond2 i nu = 1#1 ↔ act nu (i 0).val ∧ (i 1).val < 2 := by
  unfold act
  show Scalar.cmpi .ne (Scalar.extui (Scalar.andi (Scalar.cmpi .slt (BitVec.ofNat 32 (i 0).val) nu) (Scalar.cmpi .slt (BitVec.ofNat 32 (i 1).val) 2#32))) 0#32 = 1#1 ↔ _
  have h1 : (i 1).val < 4 := (i 1).isLt
  generalize (i 1).val = s at *
  rcases bit_cases (Scalar.cmpi .slt (BitVec.ofNat 32 (i 0).val) nu) with e | e <;> rw [e] <;>
    rcases (show s = 0 ∨ s = 1 ∨ s = 2 ∨ s = 3 by omega) with rfl | rfl | rfl | rfl <;> decide

theorem cond3_iff (i : grid0.Coords) (nu : BitVec 32) : k0_cond3 i nu = 1#1 ↔ act nu (i 0).val ∧ 2 ≤ (i 1).val := by
  unfold act
  show Scalar.cmpi .ne (Scalar.extui (Scalar.andi (Scalar.cmpi .slt (BitVec.ofNat 32 (i 0).val) nu) (Scalar.cmpi .sge (BitVec.ofNat 32 (i 1).val) 2#32))) 0#32 = 1#1 ↔ _
  have h1 : (i 1).val < 4 := (i 1).isLt
  generalize (i 1).val = s at *
  rcases bit_cases (Scalar.cmpi .slt (BitVec.ofNat 32 (i 0).val) nu) with e | e <;> rw [e] <;>
    rcases (show s = 0 ∨ s = 1 ∨ s = 2 ∨ s = 3 by omega) with rfl | rfl | rfl | rfl <;> decide

theorem cond4_iff (i : grid0.Coords) (nu : BitVec 32) : k0_cond4 i nu = 1#1 ↔ ¬ act nu (i 0).val ∧ 2 ≤ (i 1).val := by
  unfold act
  show Scalar.cmpi .ne (Scalar.extui (Scalar.andi (Scalar.xori (Scalar.cmpi .slt (BitVec.ofNat 32 (i 0).val) nu) 1#1) (Scalar.cmpi .sge (BitVec.ofNat 32 (i 1).val) 2#32))) 0#32 = 1#1 ↔ _
  have h1 : (i 1).val < 4 := (i 1).isLt
  generalize (i 1).val = s at *
  rcases bit_cases (Scalar.cmpi .slt (BitVec.ofNat 32 (i 0).val) nu) with e | e <;> rw [e] <;>
    rcases (show s = 0 ∨ s = 1 ∨ s = 2 ∨ s = 3 by omega) with rfl | rfl | rfl | rfl <;> decide

/-- The side condition the body assumes of the number of tiles in use holds of every word. -/
theorem chk_true (i : grid0.Coords) (nu : BitVec 32) : k0_chk1 i nu := by
  refine ⟨fun h => ?_, fun h hinb => ?_⟩
  · have := ((cond2_iff i nu).1 h).2
    rw [off3_eq]
    refine Fin.forall_fin_succ.2 ⟨?_, Fin.forall_fin_two.2 ⟨?_, ?_⟩⟩
    · show (i 1).val + 1 ≤ 2
      omega
    · show 0 + 512 ≤ 512
      omega
    · show 0 + 512 ≤ 512
      omega
  · refine .inr ⟨of_decide_eq_true rfl, rfl, .inl ⟨?_, (by decide : EltTy.bf16.packing ∣ 512)⟩⟩
    show _ ∣ k0_off3 i 1
    rw [off3_eq]
    exact ⟨0, rfl⟩

end Cert.KernelIdeal.Body

end
-- ==== Proof.Run.lean ====
/- The run of the grouped expert feed-forward kernel: what each grid point finds in the staging and scratch buffers, and
   what the pipeline leaves in memory. -/
module

public import proofs.«01_k».proof.Proof.Body
public import proofs.«01_k».proof.Proof.Maps
public import Idealize.ShloMosaic.Lib.Pipeline.FrameBody
public import Idealize.ShloMosaic.Lib.Pipeline.ArrRel

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of every buffer when the region is entered. -/
abbrev Entry (F : FTy → Type) [FloatOps F] := (c : Dev nD) → (b : Ref sig .tc) → Buf (Elt F) ((c.tc : Thread nD τ).loc b)

section
variable (pf : pre0.Contents (Elt F)) (hok : ok0 pf) (V : Entry F)

/-- The tables the pipeline is pinned at. -/
def adm : (p : Fin 1) → (pcfgs (F := F) p).Adm := fun _ => ⟨pf, hok⟩

/-- The pipeline at the tables. -/
abbrev cfgA := Pipeline.pin (pcfgs (F := F)) (adm pf hok) 0

/-- What window `w` fetches at point `t`. -/
def blk (c : Dev nD) (w : Fin 10) (t : Fin grid0.N) :
    (((cfgA pf hok).win w).xblock (grid0.coords t)).Idx → Elt F ((cfgA pf hok).win w).elt :=
  (((cfgA pf hok).win w).blk t).view.read (Elt F) (V c (Pipeline.arrRef spec0 w))

abbrev bX (c : Dev nD) (t : Fin grid0.N) : Vec F S512x2048 .i32 := blk pf hok V c 0 t
abbrev bG (c : Dev nD) (t : Fin grid0.N) : Vec F S1x4096x512 .bf16 := blk pf hok V c 1 t
abbrev bU (c : Dev nD) (t : Fin grid0.N) : Vec F S1x4096x512 .bf16 := blk pf hok V c 2 t
abbrev bg (c : Dev nD) (t : Fin grid0.N) : Vec F S1x1x512 .f32 := blk pf hok V c 3 t
abbrev bu (c : Dev nD) (t : Fin grid0.N) : Vec F S1x1x512 .f32 := blk pf hok V c 4 t
abbrev bD (c : Dev nD) (t : Fin grid0.N) : Vec F S1x1024x1024 .bf16 := blk pf hok V c 5 t
abbrev bE (c : Dev nD) (t : Fin grid0.N) : Vec F S1x1024x1024 .bf16 := blk pf hok V c 6 t
abbrev bd (c : Dev nD) (t : Fin grid0.N) : Vec F S1x1x1024 .f32 := blk pf hok V c 7 t
abbrev be (c : Dev nD) (t : Fin grid0.N) : Vec F S1x1x1024 .f32 := blk pf hok V c 8 t

/-- Point `k` of tile `i`. -/
def pt (i k : ℕ) (hi : i < 160) (hk : k < 4) : Fin grid0.N := ⟨4 * i + k, by rw [N_0]; omega⟩

/-- The hidden values computed at point `k` of tile `i`. -/
def hid (c : Dev nD) (i k : ℕ) (hi : i < 160) (hk : k < 4) : Vec F S1x512x512 .bf16 :=
  k0_pay3 (XB (bX pf hok V c (pt i 0 hi (by omega)))) (bG pf hok V c (pt i k hi hk)) (bg pf hok V c (pt i k hi hk))
    (bU pf hok V c (pt i k hi hk)) (bu pf hok V c (pt i k hi hk))

/-- What an active tile's later points store, from the two halves of the hidden values. -/
def outV (X10 X11 : Vec F S1x1024x1024 .bf16) (X12 X13 : Vec F S1x1x1024 .f32) (h0 h1 : Vec F S1x512x512 .bf16) : Vec F S1024x1024 .bf16 :=
  k0_pay4
    (k0_pay8 X12 h0
      (VecWindow.window (s := S1x1024x1024) X10 ![0, 0, 0] S1x512x1024.size inb_S1x1024x1024_S1x512x1024_0_0_0) h1
      (VecWindow.window (s := S1x1024x1024) X10 ![0, 512, 0] S1x512x1024.size inb_S1x1024x1024_S1x512x1024_0_512_0))
    (k0_pay9 X13 h0
      (VecWindow.window (s := S1x1024x1024) X11 ![0, 0, 0] S1x512x1024.size inb_S1x1024x1024_S1x512x1024_0_0_0) h1
      (VecWindow.window (s := S1x1024x1024) X11 ![0, 512, 0] S1x512x1024.size inb_S1x1024x1024_S1x512x1024_0_512_0))

theorem outVal_eq (X10 X11 : Vec F S1x1024x1024 .bf16) (X12 X13 : Vec F S1x1x1024 .f32) (X16 : Vec F S2x512x512 .bf16)
    (h0 h1 : Vec F S1x512x512 .bf16)
    (e0 : hidAt X16 ![0, 0, 0] inb_S2x512x512_S1x512x512_0_0_0 = h0) (e1 : hidAt X16 ![1, 0, 0] inb_S2x512x512_S1x512x512_1_0_0 = h1) :
    outVal X10 X11 X12 X13 X16 = outV X10 X11 X12 X13 h0 h1 := by
  subst e0 e1; rfl

/-- What point `k` of tile `i` leaves in the output's staging buffer, from the third point on. -/
def outAt (c : Dev nD) (i k : ℕ) (hi : i < 160) (hk : k < 4) : Vec F S1024x1024 .bf16 :=
  if act (nuW pf) i then
    outV (bD pf hok V c (pt i k hi hk)) (bE pf hok V c (pt i k hi hk)) (bd pf hok V c (pt i k hi hk)) (be pf hok V c (pt i k hi hk))
      (hid pf hok V c i 0 hi (by omega)) (hid pf hok V c i 1 hi (by omega))
  else k0_pay5

theorem pt_of (t : Fin grid0.N) : ∃ (i k : ℕ) (hi : i < 160) (hk : k < 4), t = pt i k hi hk := by
  have h : t.val < 640 := Nat.lt_of_lt_of_eq t.isLt N_0
  exact ⟨t.val / 4, t.val % 4, by omega, by omega, Fin.ext (by show t.val = 4 * (t.val / 4) + t.val % 4; omega)⟩

theorem coord0 (i k : ℕ) (hi : i < 160) (hk : k < 4) : (grid0.coords (pt i k hi hk) 0).val = i := by
  rw [Pipeline.Grid.coords_val (G := grid0) (pt i k hi hk) 0 (S := 4) (B := 160) (by decide) rfl]
  show (4 * i + k) / 4 % 160 = i
  omega

theorem coord1 (i k : ℕ) (hi : i < 160) (hk : k < 4) : (grid0.coords (pt i k hi hk) 1).val = k := by
  rw [Pipeline.Grid.coords_val (G := grid0) (pt i k hi hk) 1 (S := 1) (B := 4) (by decide) rfl]
  show (4 * i + k) / 1 % 4 = k
  omega

/-- What the scratch buffers hold before point `n`. -/
def Inv (c : Dev nD) (n : ℕ) (Y15 : Vec F S512x4096 .bf16) (Y16 : Vec F S2x512x512 .bf16) : Prop :=
  ∀ (i k : ℕ) (hi : i < 160) (hk : k < 4), n = 4 * i + k → act (nuW pf) i →
    (1 ≤ k → Y15 = XB (bX pf hok V c (pt i 0 hi (by omega))) ∧
      hidAt Y16 ![0, 0, 0] inb_S2x512x512_S1x512x512_0_0_0 = hid pf hok V c i 0 hi (by omega)) ∧
    (2 ≤ k → hidAt Y16 ![1, 0, 0] inb_S2x512x512_S1x512x512_1_0_0 = hid pf hok V c i 1 hi (by omega))

theorem Inv_step (c : Dev nD) (i k : ℕ) (hi : i < 160) (hk : k < 4) (Y15 : Vec F S512x4096 .bf16) (Y16 : Vec F S2x512x512 .bf16)
    (h : k < 3 → act (nuW pf) i → (Y15 = XB (bX pf hok V c (pt i 0 hi (by omega))) ∧
      hidAt Y16 ![0, 0, 0] inb_S2x512x512_S1x512x512_0_0_0 = hid pf hok V c i 0 hi (by omega)) ∧
      (1 ≤ k → hidAt Y16 ![1, 0, 0] inb_S2x512x512_S1x512x512_1_0_0 = hid pf hok V c i 1 hi (by omega))) :
    Inv pf hok V c ((pt i k hi hk).val + 1) Y15 Y16 := by
  intro i' k' hi' hk' e ha
  change 4 * i + k + 1 = 4 * i' + k' at e
  by_cases h3 : k < 3
  · obtain rfl : i' = i := by omega
    obtain rfl : k' = k + 1 := by omega
    exact ⟨fun _ => (h h3 ha).1, fun h2 => (h h3 ha).2 (by omega)⟩
  · obtain rfl : k' = 0 := by omega
    exact ⟨fun h => absurd h (by omega), fun h => absurd h (by omega)⟩

/-- The tables, as the body holds them. -/
def Tbl (c : Dev nD) : sProp 𝕄 :=
  iprop((((c.tc : Thread nD τ).loc (pre0.ref 0)) ↦{fullShare.right} pf 0) ∗ (((c.tc : Thread nD τ).loc (pre0.ref 1)) ↦{fullShare.right} pf 1)
    ∗ owns (c.tc : Thread nD τ) (Memref.whole main_arg2) fullShare.right (pf 2))

/-- The body's invariant before point `n`. -/
def PhiA (c : Dev nD) (n : ℕ) : sProp 𝕄 :=
  iprop(∃ Y15 Y16, ⌜Inv pf hok V c n Y15 Y16⌝ ∗ owns (c.tc : Thread nD τ) (Memref.whole cc0_scratch0) fullShare Y15
    ∗ owns (c.tc : Thread nD τ) (Memref.whole cc0_scratch1) fullShare Y16 ∗ (∃ r, prngReg c r) ∗ Tbl pf c)

/-- The proof data of the pipeline. -/
def rd (c : Dev nD) : Pipeline.RDat τ (Elt F) Unit ℕ (UR sig nD τ) ℕ (cfgA pf hok) c where
  A w := V c (Pipeline.arrRef spec0 w)
  after w t Y X := match w with
    | 9 => ∀ i k hi hk, t = pt i k hi hk → 2 ≤ k → X = outAt pf hok V c i k hi hk
    | _ => X = Y
  Φ n := PhiA pf hok V c n.val
  q w := Pipeline.shareOf spec0 w
  owed _ := 0

theorem Inv_first (c : Dev nD) (i : ℕ) (hi : i < 160) (Y16 : Vec F S2x512x512 .bf16) :
    Inv pf hok V c ((pt i 0 hi (by omega)).val + 1) (XB (bX pf hok V c (pt i 0 hi (by omega))))
      (VecWindow.put (s := S2x512x512) Y16 (k0_off3 (grid0.coords (pt i 0 hi (by omega)))) S1x512x512.size (hid pf hok V c i 0 hi (by omega))) := by
  refine Inv_step pf hok V c i 0 hi (by omega) _ _ fun _ _ => ⟨⟨rfl, ?_⟩, fun h => absurd h (by omega)⟩
  rw [off3_eq, coord1]
  exact VecWindow.window_put_same _ _ _ _ _

theorem Inv_second (c : Dev nD) (i : ℕ) (hi : i < 160) (Y15 : Vec F S512x4096 .bf16) (Y16 : Vec F S2x512x512 .bf16)
    (h : Y15 = XB (bX pf hok V c (pt i 0 hi (by omega))) ∧
      hidAt Y16 ![0, 0, 0] inb_S2x512x512_S1x512x512_0_0_0 = hid pf hok V c i 0 hi (by omega)) :
    Inv pf hok V c ((pt i 1 hi (by omega)).val + 1) Y15
      (VecWindow.put (s := S2x512x512) Y16 (k0_off3 (grid0.coords (pt i 1 hi (by omega)))) S1x512x512.size
        (k0_pay3 Y15 (bG pf hok V c (pt i 1 hi (by omega))) (bg pf hok V c (pt i 1 hi (by omega))) (bU pf hok V c (pt i 1 hi (by omega))) (bu pf hok V c (pt i 1 hi (by omega))))) := by
  obtain ⟨h15, h16⟩ := h
  subst h15
  rw [off3_eq, coord1]
  refine Inv_step pf hok V c i 1 hi (by omega) _ _ fun _ _ => ⟨⟨rfl, ?_⟩, fun _ => ?_⟩
  · rw [← h16]
    exact VecWindow.window_put_of_disjoint _ _ _ _ _ _ _ (0 : Fin 3) (.inl (by decide))
  · exact VecWindow.window_put_same _ _ _ _ _

theorem late_out (c : Dev nD) (i k : ℕ) (hi : i < 160) (hk : k < 4) (Y16 : Vec F S2x512x512 .bf16) (ha : act (nuW pf) i)
    (h0 : hidAt Y16 ![0, 0, 0] inb_S2x512x512_S1x512x512_0_0_0 = hid pf hok V c i 0 hi (by omega))
    (h1 : hidAt Y16 ![1, 0, 0] inb_S2x512x512_S1x512x512_1_0_0 = hid pf hok V c i 1 hi (by omega)) :
    outVal (bD pf hok V c (pt i k hi hk)) (bE pf hok V c (pt i k hi hk)) (bd pf hok V c (pt i k hi hk)) (be pf hok V c (pt i k hi hk)) Y16 = outAt pf hok V c i k hi hk := by
  rw [outVal_eq _ _ _ _ _ _ _ h0 h1]
  exact (if_pos ha).symm

set_option maxHeartbeats 8000000 in
/-- Point `k` of tile `i`: what the body leaves of its buffers. -/
theorem step (c : Dev nD) (i k : ℕ) (hi : i < 160) (hk : k < 4) (arg2 : Memref sig .tc .smem S160 .i32) (harg2 : arg2.IsWhole) (arg3 : Memref sig .tc .smem S160 .i32) (harg3 : arg3.IsWhole) (arg4 : Memref sig .tc .smem S1 .i32) (harg4 : arg4.IsWhole) (arg5 : Memref sig .tc .vmem S512x2048 .i32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1024x1024 .bf16) (harg14 : arg14.IsWhole) (arg15 : Memref sig .tc .vmem S512x4096 .bf16) (harg15 : arg15.IsWhole) (arg16 : Memref sig .tc .vmem S2x512x512 .bf16) (harg16 : arg16.IsWhole)
    (Y14 : Vec F S1024x1024 .bf16) (Y15 : Vec F S512x4096 .bf16) (Y16 : Vec F S2x512x512 .bf16) (hI : Inv pf hok V c (pt i k hi hk).val Y15 Y16) (R : sProp 𝕄) :
    iprop((owns (c.tc : Thread nD τ) arg4 fullShare.right (pf 2) ∗ owns (c.tc : Thread nD τ) arg5 fullShare (bX pf hok V c (pt i k hi hk)) ∗ owns (c.tc : Thread nD τ) arg6 fullShare (bG pf hok V c (pt i k hi hk)) ∗ owns (c.tc : Thread nD τ) arg7 fullShare (bU pf hok V c (pt i k hi hk)) ∗ owns (c.tc : Thread nD τ) arg8 fullShare (bg pf hok V c (pt i k hi hk)) ∗ owns (c.tc : Thread nD τ) arg9 fullShare (bu pf hok V c (pt i k hi hk)) ∗ owns (c.tc : Thread nD τ) arg10 fullShare (bD pf hok V c (pt i k hi hk)) ∗ owns (c.tc : Thread nD τ) arg11 fullShare (bE pf hok V c (pt i k hi hk)) ∗ owns (c.tc : Thread nD τ) arg12 fullShare (bd pf hok V c (pt i k hi hk)) ∗ owns (c.tc : Thread nD τ) arg13 fullShare (be pf hok V c (pt i k hi hk)) ∗ owns (c.tc : Thread nD τ) arg14 fullShare Y14 ∗ owns (c.tc : Thread nD τ) arg15 fullShare Y15 ∗ owns (c.tc : Thread nD τ) arg16 fullShare Y16) ∗ R)
      ⊢ wp frame (wpE (defs₀ (F := F)) Variants.none (c.tc : Thread nD τ) none) Set.univ (cc0_experts (grid0.coords (pt i k hi hk)) arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(∃ X14 Y15 Y16, ⌜(2 ≤ k → X14 = outAt pf hok V c i k hi hk) ∧ Inv pf hok V c ((pt i k hi hk).val + 1) Y15 Y16⌝ ∗ (owns (c.tc : Thread nD τ) arg4 fullShare.right (pf 2) ∗ owns (c.tc : Thread nD τ) arg5 fullShare (bX pf hok V c (pt i k hi hk)) ∗ owns (c.tc : Thread nD τ) arg6 fullShare (bG pf hok V c (pt i k hi hk)) ∗ owns (c.tc : Thread nD τ) arg7 fullShare (bU pf hok V c (pt i k hi hk)) ∗ owns (c.tc : Thread nD τ) arg8 fullShare (bg pf hok V c (pt i k hi hk)) ∗ owns (c.tc : Thread nD τ) arg9 fullShare (bu pf hok V c (pt i k hi hk)) ∗ owns (c.tc : Thread nD τ) arg10 fullShare (bD pf hok V c (pt i k hi hk)) ∗ owns (c.tc : Thread nD τ) arg11 fullShare (bE pf hok V c (pt i k hi hk)) ∗ owns (c.tc : Thread nD τ) arg12 fullShare (bd pf hok V c (pt i k hi hk)) ∗ owns (c.tc : Thread nD τ) arg13 fullShare (be pf hok V c (pt i k hi hk)) ∗ owns (c.tc : Thread nD τ) arg14 fullShare X14 ∗ owns (c.tc : Thread nD τ) arg15 fullShare Y15 ∗ owns (c.tc : Thread nD τ) arg16 fullShare Y16) ∗ R)) := by
  have hnu : pf 2 (Shape.Idx.first (numel1_S1.symm ▸ Nat.one_pos)) = nuW pf := congrArg (pf 2) (one_idx1 _ _)
  by_cases ha : act (nuW pf) i
  · rw [← hnu] at ha
    by_cases h0 : k = 0
    · subst h0
      iintro ⟨⟨H4, H5, H6, H7, H8, H9, H10, H11, H12, H13, H14, H15, H16⟩, HR⟩
      iapply (body_first c Set.univ (grid0.coords (pt i 0 hi hk)) arg2 harg2 arg3 harg3 arg4 harg4 arg5 harg5 arg6 harg6 arg7 harg7 arg8 harg8 arg9 harg9 arg10 harg10 arg11 harg11 arg12 harg12 arg13 harg13 arg14 harg14 arg15 harg15 arg16 harg16 fullShare.right (pf 2) (bX pf hok V c (pt i 0 hi hk)) (bG pf hok V c (pt i 0 hi hk)) (bU pf hok V c (pt i 0 hi hk)) (bg pf hok V c (pt i 0 hi hk)) (bu pf hok V c (pt i 0 hi hk)) Y15 Y16 (chk_true _ _) ((cond1_iff _ _).2 ⟨by rw [coord0]; exact ha, coord1 _ _ _ _⟩) ((cond2_iff _ _).2 ⟨by rw [coord0]; exact ha, by rw [coord1]; omega⟩) (fun h => by have := ((cond3_iff _ _).1 h).2; rw [coord1] at this; omega) (fun h => by have := ((cond4_iff _ _).1 h).1; rw [coord0] at this; exact this ha) _)
      isplitl [H4 H5 H6 H7 H8 H9 H15 H16]
      · isplitl [H4]
        · iexact H4
        isplitl [H5]
        · iexact H5
        isplitl [H6]
        · iexact H6
        isplitl [H7]
        · iexact H7
        isplitl [H8]
        · iexact H8
        isplitl [H9]
        · iexact H9
        isplitl [H15]
        · iexact H15
        iexact H16
      iintro ⟨H4, H5, H6, H7, H8, H9, H15, H16⟩
      iexists Y14; iexists (XB (bX pf hok V c (pt i 0 hi hk))); iexists (VecWindow.put (s := S2x512x512) Y16 (k0_off3 (grid0.coords (pt i 0 hi hk))) S1x512x512.size (k0_pay3 (XB (bX pf hok V c (pt i 0 hi hk))) (bG pf hok V c (pt i 0 hi hk)) (bg pf hok V c (pt i 0 hi hk)) (bU pf hok V c (pt i 0 hi hk)) (bu pf hok V c (pt i 0 hi hk))))
      isplitr
      · ipureintro; exact ⟨fun h => absurd h (by omega), Inv_first pf hok V c i hi Y16⟩
      isplitr [HR]
      · isplitl [H4]
        · iexact H4
        isplitl [H5]
        · iexact H5
        isplitl [H6]
        · iexact H6
        isplitl [H7]
        · iexact H7
        isplitl [H8]
        · iexact H8
        isplitl [H9]
        · iexact H9
        isplitl [H10]
        · iexact H10
        isplitl [H11]
        · iexact H11
        isplitl [H12]
        · iexact H12
        isplitl [H13]
        · iexact H13
        isplitl [H14]
        · iexact H14
        isplitl [H15]
        · iexact H15
        iexact H16
      iexact HR
    · by_cases h1 : k = 1
      · subst h1
        have hprev := (hI i 1 hi hk rfl (hnu ▸ ha)).1 (le_refl 1)
        iintro ⟨⟨H4, H5, H6, H7, H8, H9, H10, H11, H12, H13, H14, H15, H16⟩, HR⟩
        iapply (body_second c Set.univ (grid0.coords (pt i 1 hi hk)) arg2 harg2 arg3 harg3 arg4 harg4 arg5 harg5 arg6 harg6 arg7 harg7 arg8 harg8 arg9 harg9 arg10 harg10 arg11 harg11 arg12 harg12 arg13 harg13 arg14 harg14 arg15 harg15 arg16 harg16 fullShare.right (pf 2) (bG pf hok V c (pt i 1 hi hk)) (bU pf hok V c (pt i 1 hi hk)) (bg pf hok V c (pt i 1 hi hk)) (bu pf hok V c (pt i 1 hi hk)) Y15 Y16 (chk_true _ _) (fun h => by have := ((cond1_iff _ _).1 h).2; rw [coord1] at this; omega) ((cond2_iff _ _).2 ⟨by rw [coord0]; exact ha, by rw [coord1]; omega⟩) (fun h => by have := ((cond3_iff _ _).1 h).2; rw [coord1] at this; omega) (fun h => by have := ((cond4_iff _ _).1 h).1; rw [coord0] at this; exact this ha) _)
        isplitl [H4 H6 H7 H8 H9 H15 H16]
        · isplitl [H4]
          · iexact H4
          isplitl [H6]
          · iexact H6
          isplitl [H7]
          · iexact H7
          isplitl [H8]
          · iexact H8
          isplitl [H9]
          · iexact H9
          isplitl [H15]
          · iexact H15
          iexact H16
        iintro ⟨H4, H6, H7, H8, H9, H15, H16⟩
        iexists Y14; iexists Y15; iexists (VecWindow.put (s := S2x512x512) Y16 (k0_off3 (grid0.coords (pt i 1 hi hk))) S1x512x512.size (k0_pay3 Y15 (bG pf hok V c (pt i 1 hi hk)) (bg pf hok V c (pt i 1 hi hk)) (bU pf hok V c (pt i 1 hi hk)) (bu pf hok V c (pt i 1 hi hk))))
        isplitr
        · ipureintro; exact ⟨fun h => absurd h (by omega), Inv_second pf hok V c i hi Y15 Y16 hprev⟩
        isplitr [HR]
        · isplitl [H4]
          · iexact H4
          isplitl [H5]
          · iexact H5
          isplitl [H6]
          · iexact H6
          isplitl [H7]
          · iexact H7
          isplitl [H8]
          · iexact H8
          isplitl [H9]
          · iexact H9
          isplitl [H10]
          · iexact H10
          isplitl [H11]
          · iexact H11
          isplitl [H12]
          · iexact H12
          isplitl [H13]
          · iexact H13
          isplitl [H14]
          · iexact H14
          isplitl [H15]
          · iexact H15
          iexact H16
        iexact HR
      · have hprev := hI i k hi hk rfl (hnu ▸ ha)
        iintro ⟨⟨H4, H5, H6, H7, H8, H9, H10, H11, H12, H13, H14, H15, H16⟩, HR⟩
        iapply (body_late c Set.univ (grid0.coords (pt i k hi hk)) arg2 harg2 arg3 harg3 arg4 harg4 arg5 harg5 arg6 harg6 arg7 harg7 arg8 harg8 arg9 harg9 arg10 harg10 arg11 harg11 arg12 harg12 arg13 harg13 arg14 harg14 arg15 harg15 arg16 harg16 fullShare.right (pf 2) (bD pf hok V c (pt i k hi hk)) (bE pf hok V c (pt i k hi hk)) (bd pf hok V c (pt i k hi hk)) (be pf hok V c (pt i k hi hk)) Y14 Y16 (chk_true _ _) (fun h => by have := ((cond1_iff _ _).1 h).2; rw [coord1] at this; omega) (fun h => by have := ((cond2_iff _ _).1 h).2; rw [coord1] at this; omega) ((cond3_iff _ _).2 ⟨by rw [coord0]; exact ha, by rw [coord1]; omega⟩) (fun h => by have := ((cond4_iff _ _).1 h).1; rw [coord0] at this; exact this ha) _)
        isplitl [H4 H10 H11 H12 H13 H14 H16]
        · isplitl [H4]
          · iexact H4
          isplitl [H10]
          · iexact H10
          isplitl [H11]
          · iexact H11
          isplitl [H12]
          · iexact H12
          isplitl [H13]
          · iexact H13
          isplitl [H14]
          · iexact H14
          iexact H16
        iintro ⟨H4, H10, H11, H12, H13, H14, H16⟩
        iexists (outVal (bD pf hok V c (pt i k hi hk)) (bE pf hok V c (pt i k hi hk)) (bd pf hok V c (pt i k hi hk)) (be pf hok V c (pt i k hi hk)) Y16); iexists Y15; iexists Y16
        isplitr
        · ipureintro; exact ⟨fun _ => late_out pf hok V c i k hi hk Y16 (hnu ▸ ha) (hprev.1 (by omega)).2 (hprev.2 (by omega)), Inv_step pf hok V c i k hi hk Y15 Y16 fun _ _ => ⟨hprev.1 (by omega), fun _ => hprev.2 (by omega)⟩⟩
        isplitr [HR]
        · isplitl [H4]
          · iexact H4
          isplitl [H5]
          · iexact H5
          isplitl [H6]
          · iexact H6
          isplitl [H7]
          · iexact H7
          isplitl [H8]
          · iexact H8
          isplitl [H9]
          · iexact H9
          isplitl [H10]
          · iexact H10
          isplitl [H11]
          · iexact H11
          isplitl [H12]
          · iexact H12
          isplitl [H13]
          · iexact H13
          isplitl [H14]
          · iexact H14
          isplitl [H15]
          · iexact H15
          iexact H16
        iexact HR
  · rw [← hnu] at ha
    by_cases h2 : k < 2
    · iintro ⟨⟨H4, H5, H6, H7, H8, H9, H10, H11, H12, H13, H14, H15, H16⟩, HR⟩
      iapply (body_skip c Set.univ (grid0.coords (pt i k hi hk)) arg2 harg2 arg3 harg3 arg4 harg4 arg5 harg5 arg6 harg6 arg7 harg7 arg8 harg8 arg9 harg9 arg10 harg10 arg11 harg11 arg12 harg12 arg13 harg13 arg14 harg14 arg15 harg15 arg16 harg16 fullShare.right (pf 2)  (chk_true _ _) (fun h => ha (by have := ((cond1_iff _ _).1 h).1; rwa [coord0] at this)) (fun h => ha (by have := ((cond2_iff _ _).1 h).1; rwa [coord0] at this)) (fun h => ha (by have := ((cond3_iff _ _).1 h).1; rwa [coord0] at this)) (fun h => by have := ((cond4_iff _ _).1 h).2; rw [coord1] at this; omega) _)
      isplitl [H4]
      · iexact H4
      iintro H4
      iexists Y14; iexists Y15; iexists Y16
      isplitr
      · ipureintro; exact ⟨fun h => absurd h (by omega), Inv_step pf hok V c i k hi hk Y15 Y16 fun _ h => absurd (hnu ▸ h) ha⟩
      isplitr [HR]
      · isplitl [H4]
        · iexact H4
        isplitl [H5]
        · iexact H5
        isplitl [H6]
        · iexact H6
        isplitl [H7]
        · iexact H7
        isplitl [H8]
        · iexact H8
        isplitl [H9]
        · iexact H9
        isplitl [H10]
        · iexact H10
        isplitl [H11]
        · iexact H11
        isplitl [H12]
        · iexact H12
        isplitl [H13]
        · iexact H13
        isplitl [H14]
        · iexact H14
        isplitl [H15]
        · iexact H15
        iexact H16
      iexact HR
    · iintro ⟨⟨H4, H5, H6, H7, H8, H9, H10, H11, H12, H13, H14, H15, H16⟩, HR⟩
      iapply (body_zero c Set.univ (grid0.coords (pt i k hi hk)) arg2 harg2 arg3 harg3 arg4 harg4 arg5 harg5 arg6 harg6 arg7 harg7 arg8 harg8 arg9 harg9 arg10 harg10 arg11 harg11 arg12 harg12 arg13 harg13 arg14 harg14 arg15 harg15 arg16 harg16 fullShare.right (pf 2) Y14 (chk_true _ _) (fun h => ha (by have := ((cond1_iff _ _).1 h).1; rwa [coord0] at this)) (fun h => ha (by have := ((cond2_iff _ _).1 h).1; rwa [coord0] at this)) (fun h => ha (by have := ((cond3_iff _ _).1 h).1; rwa [coord0] at this)) ((cond4_iff _ _).2 ⟨by rw [coord0]; exact ha, by rw [coord1]; omega⟩) _)
      isplitl [H4 H14]
      · isplitl [H4]
        · iexact H4
        iexact H14
      iintro ⟨H4, H14⟩
      iexists k0_pay5; iexists Y15; iexists Y16
      isplitr
      · ipureintro; exact ⟨fun _ => (if_neg (hnu ▸ ha)).symm, Inv_step pf hok V c i k hi hk Y15 Y16 fun _ h => absurd (hnu ▸ h) ha⟩
      isplitr [HR]
      · isplitl [H4]
        · iexact H4
        isplitl [H5]
        · iexact H5
        isplitl [H6]
        · iexact H6
        isplitl [H7]
        · iexact H7
        isplitl [H8]
        · iexact H8
        isplitl [H9]
        · iexact H9
        isplitl [H10]
        · iexact H10
        isplitl [H11]
        · iexact H11
        isplitl [H12]
        · iexact H12
        isplitl [H13]
        · iexact H13
        isplitl [H14]
        · iexact H14
        isplitl [H15]
        · iexact H15
        iexact H16
      iexact HR

/-- An input's staging buffer holds the block of its point. -/
theorem found_in (c : Dev nD) (w : Fin 10) (hw : ((cfgA pf hok).win w).isOut = false) (hw9 : w ≠ 9) (t : Fin grid0.N)
    (Y : ((cfgA pf hok).win w).block.Idx → Elt F ((cfgA pf hok).win w).elt) (hY : (rd pf hok V c).Finds w t Y) :
    ∃ d, Y = (rd pf hok V c).fetched w t d :=
  Pipeline.RDat.finds_in_eq_fetched (rd pf hok V c) w hw (fun _ _ _ => rfl)
    (fun t' Y' X' h => by
      revert hw9 h
      match w with
      | 0 => exact fun _ h => h
      | 1 => exact fun _ h => h
      | 2 => exact fun _ h => h
      | 3 => exact fun _ h => h
      | 4 => exact fun _ h => h
      | 5 => exact fun _ h => h
      | 6 => exact fun _ h => h
      | 7 => exact fun _ h => h
      | 8 => exact fun _ h => h
      | 9 => exact fun h => absurd rfl h) t Y hY

set_option maxHeartbeats 8000000 in
/-- The body meets the proof data at every point. -/
theorem obligation (c : Dev nD) : (rd pf hok V c).BodyObligation defs₀ Variants.none () Set.univ := by
  intro t Y hY
  obtain ⟨i, k, hi, hk, rfl⟩ := pt_of t
  have e0 : Y 0 = bX pf hok V c (pt i k hi hk) := by
    obtain ⟨d, hd⟩ := found_in pf hok V c 0 rfl (by decide) _ _ (hY 0)
    rw [hd]
    exact funext fun j => Pipeline.Window.fill_xinj ((cfgA pf hok).win 0) _ _ _ j
  have e1 : Y 1 = bG pf hok V c (pt i k hi hk) := by
    obtain ⟨d, hd⟩ := found_in pf hok V c 1 rfl (by decide) _ _ (hY 1)
    rw [hd]
    exact funext fun j => Pipeline.Window.fill_xinj ((cfgA pf hok).win 1) _ _ _ j
  have e2 : Y 2 = bU pf hok V c (pt i k hi hk) := by
    obtain ⟨d, hd⟩ := found_in pf hok V c 2 rfl (by decide) _ _ (hY 2)
    rw [hd]
    exact funext fun j => Pipeline.Window.fill_xinj ((cfgA pf hok).win 2) _ _ _ j
  have e3 : Y 3 = bg pf hok V c (pt i k hi hk) := by
    obtain ⟨d, hd⟩ := found_in pf hok V c 3 rfl (by decide) _ _ (hY 3)
    rw [hd]
    exact funext fun j => Pipeline.Window.fill_xinj ((cfgA pf hok).win 3) _ _ _ j
  have e4 : Y 4 = bu pf hok V c (pt i k hi hk) := by
    obtain ⟨d, hd⟩ := found_in pf hok V c 4 rfl (by decide) _ _ (hY 4)
    rw [hd]
    exact funext fun j => Pipeline.Window.fill_xinj ((cfgA pf hok).win 4) _ _ _ j
  have e5 : Y 5 = bD pf hok V c (pt i k hi hk) := by
    obtain ⟨d, hd⟩ := found_in pf hok V c 5 rfl (by decide) _ _ (hY 5)
    rw [hd]
    exact funext fun j => Pipeline.Window.fill_xinj ((cfgA pf hok).win 5) _ _ _ j
  have e6 : Y 6 = bE pf hok V c (pt i k hi hk) := by
    obtain ⟨d, hd⟩ := found_in pf hok V c 6 rfl (by decide) _ _ (hY 6)
    rw [hd]
    exact funext fun j => Pipeline.Window.fill_xinj ((cfgA pf hok).win 6) _ _ _ j
  have e7 : Y 7 = bd pf hok V c (pt i k hi hk) := by
    obtain ⟨d, hd⟩ := found_in pf hok V c 7 rfl (by decide) _ _ (hY 7)
    rw [hd]
    exact funext fun j => Pipeline.Window.fill_xinj ((cfgA pf hok).win 7) _ _ _ j
  have e8 : Y 8 = be pf hok V c (pt i k hi hk) := by
    obtain ⟨d, hd⟩ := found_in pf hok V c 8 rfl (by decide) _ _ (hY 8)
    rw [hd]
    exact funext fun j => Pipeline.Window.fill_xinj ((cfgA pf hok).win 8) _ _ _ j
  rw [bigSep_W0, bigSep_W0]
  rw [e0, e1, e2, e3, e4, e5, e6, e7, e8]
  show iprop(PhiA pf hok V c (pt i k hi hk).val ∗ _ ∗ _) ⊢ _
  unfold PhiA Tbl
  iintro ⟨⟨%Y15, %Y16, %hI, H15, H16, Hp, ⟨Ht0, Ht1, H4⟩⟩, Ho, ⟨H5, H6, H7, H8, H9, H10, H11, H12, H13, H14⟩⟩
  iapply (triple_restated (step pf hok V c i k hi hk (Memref.whole main_arg0) (Memref.isWhole_whole _) (Memref.whole main_arg1) (Memref.isWhole_whole _) (Memref.whole main_arg2) (Memref.isWhole_whole _)
    (spec0_0.stage (((cfgA pf hok).slots (pt i k hi hk)) 0)) (hstage0_0 ((((cfgA pf hok).slots (pt i k hi hk)) 0).cast nbuf0_0)) (spec0_1.stage (((cfgA pf hok).slots (pt i k hi hk)) 1)) (hstage0_1 ((((cfgA pf hok).slots (pt i k hi hk)) 1).cast nbuf0_1)) (spec0_2.stage (((cfgA pf hok).slots (pt i k hi hk)) 2)) (hstage0_2 ((((cfgA pf hok).slots (pt i k hi hk)) 2).cast nbuf0_2)) (spec0_3.stage (((cfgA pf hok).slots (pt i k hi hk)) 3)) (hstage0_3 ((((cfgA pf hok).slots (pt i k hi hk)) 3).cast nbuf0_3)) (spec0_4.stage (((cfgA pf hok).slots (pt i k hi hk)) 4)) (hstage0_4 ((((cfgA pf hok).slots (pt i k hi hk)) 4).cast nbuf0_4)) (spec0_5.stage (((cfgA pf hok).slots (pt i k hi hk)) 5)) (hstage0_5 ((((cfgA pf hok).slots (pt i k hi hk)) 5).cast nbuf0_5)) (spec0_6.stage (((cfgA pf hok).slots (pt i k hi hk)) 6)) (hstage0_6 ((((cfgA pf hok).slots (pt i k hi hk)) 6).cast nbuf0_6)) (spec0_7.stage (((cfgA pf hok).slots (pt i k hi hk)) 7)) (hstage0_7 ((((cfgA pf hok).slots (pt i k hi hk)) 7).cast nbuf0_7)) (spec0_8.stage (((cfgA pf hok).slots (pt i k hi hk)) 8)) (hstage0_8 ((((cfgA pf hok).slots (pt i k hi hk)) 8).cast nbuf0_8)) (spec0_9.stage (((cfgA pf hok).slots (pt i k hi hk)) 9)) (hstage0_9 ((((cfgA pf hok).slots (pt i k hi hk)) 9).cast nbuf0_9)) (Memref.whole cc0_scratch0) (Memref.isWhole_whole _) (Memref.whole cc0_scratch1) (Memref.isWhole_whole _)
    (Y 9) Y15 Y16 hI iprop((∃ r, prngReg c r) ∗ (((c.tc : Thread nD τ).loc (pre0.ref 0)) ↦{fullShare.right} pf 0) ∗ (((c.tc : Thread nD τ).loc (pre0.ref 1)) ↦{fullShare.right} pf 1)
      ∗ (rd pf hok V c).owesAt () (pt i k hi hk).castSucc)) rfl .rfl ?_)
  · intro a
    show _ ⊢ iprop(PhiA pf hok V c ((pt i k hi hk).val + 1) ∗ (rd pf hok V c).owesAt () (pt i k hi hk).castSucc ∗ _)
    unfold PhiA Tbl
    iintro ⟨%X14, %Z15, %Z16, %hf, ⟨H4, H5, H6, H7, H8, H9, H10, H11, H12, H13, H14, H15, H16⟩, ⟨Hp, Ht0, Ht1, Ho⟩⟩
    isplitl [H15 H16 Hp Ht0 Ht1 H4]
    · iexists Z15; iexists Z16
      isplitr
      · ipureintro; exact hf.2
      isplitl [H15]
      · iexact H15
      isplitl [H16]
      · iexact H16
      isplitl [Hp]
      · iexact Hp
      isplitl [Ht0]
      · iexact Ht0
      isplitl [Ht1]
      · iexact Ht1
      iexact H4
    isplitl [Ho]
    · iexact Ho
    isplitl [H5]
    · iexists _
      isplitr
      · ipureintro; exact rfl
      iexact H5
    isplitl [H6]
    · iexists _
      isplitr
      · ipureintro; exact rfl
      iexact H6
    isplitl [H7]
    · iexists _
      isplitr
      · ipureintro; exact rfl
      iexact H7
    isplitl [H8]
    · iexists _
      isplitr
      · ipureintro; exact rfl
      iexact H8
    isplitl [H9]
    · iexists _
      isplitr
      · ipureintro; exact rfl
      iexact H9
    isplitl [H10]
    · iexists _
      isplitr
      · ipureintro; exact rfl
      iexact H10
    isplitl [H11]
    · iexists _
      isplitr
      · ipureintro; exact rfl
      iexact H11
    isplitl [H12]
    · iexists _
      isplitr
      · ipureintro; exact rfl
      iexact H12
    isplitl [H13]
    · iexists _
      isplitr
      · ipureintro; exact rfl
      iexact H13
    iexists X14
    isplitr
    · ipureintro
      intro i' k' hi' hk' e h2
      have e' : 4 * i + k = 4 * i' + k' := congrArg Fin.val e
      obtain rfl : i' = i := by omega
      obtain rfl : k' = k := by omega
      exact hf.1 h2
    iexact H14
  · isplitr [Hp Ht0 Ht1 Ho]
    · isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      iexact H16
    · isplitl [Hp]
      · iexact Hp
      isplitl [Ht0]
      · iexact Ht0
      isplitl [Ht1]
      · iexact Ht1
      iexact Ho

end

end Cert.KernelIdeal.Body

end
-- ==== Proof.Post.lean ====
/- What a run of the program leaves in memory: the arguments as they were, every semaphore at rest, and the result
   array as the pipeline's write-backs leave it. -/
module

public import proofs.«01_k».proof.Proof.Run
public import Idealize.ShloMosaic.Lib.StableHlo.RunRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (m : (ℓ : Loc nD τ sig) → Buf (Elt F) ℓ)

/-- The contents when the region is entered: the launch's, after the host's casts. -/
def entry : Entry F := fun c b => StableHlo.after hostOps0 (fun b => m (c, b)) b

/-- The tables of the launch. -/
def tabs : pre0.Contents (Elt F) := fun k => m (((0 : Dev nD).tc : Thread nD τ).loc (pre0.ref k))

/-- The references the host's operations write. -/
abbrev hostW : List (Ref sig .tc) := [main_v0, main_v1, main_v2, main_v3, main_v4, main_v5]

theorem entry_unwritten (c : Dev nD) (r : Ref sig .tc) (hr : r ∉ hostW) : entry m c r = m ((c.tc : Thread nD τ).loc r) :=
  StableHlo.after_unwritten (ops := hostOps0 (F := F)) hostW rfl hr _

theorem entry_tabs (c : Dev nD) (k : Fin 3) : entry m c (pre0.ref k) = tabs m k := by
  obtain rfl : c = 0 := Subsingleton.elim _ _
  match k with
  | 0 => exact entry_unwritten m 0 main_arg0 (by decide)
  | 1 => exact entry_unwritten m 0 main_arg1 (by decide)
  | 2 => exact entry_unwritten m 0 main_arg2 (by decide)

variable (hok : ok0 (tabs m))

theorem phi_in (pf : pre0.Contents (Elt F)) (hok : ok0 pf) (V : Entry F) (c : Dev nD) :
    iprop(Pipeline.ΦA spec0 c ∗ Pipeline.ΦT pre0 pf c) ⊢ (rd pf hok V c).Φ 0 := by
  show iprop(Pipeline.ΦA spec0 c ∗ Pipeline.ΦT pre0 pf c) ⊢ PhiA pf hok V c 0
  have hT : (Pipeline.ΦT pre0 pf c : sProp 𝕄) = iprop((((c.tc : Thread nD τ).loc (pre0.ref 0)) ↦{fullShare.right} pf 0)
      ∗ (((c.tc : Thread nD τ).loc (pre0.ref 1)) ↦{fullShare.right} pf 1) ∗ (((c.tc : Thread nD τ).loc (pre0.ref 2)) ↦{fullShare.right} pf 2)) :=
    bigSep_univ_eq_bigSepL [(0 : Fin 3), 1, 2] (by decide) (by decide) _
  rw [hT]
  unfold Pipeline.ΦA PhiA Tbl
  rw [scopedRest0_eq]
  simp only [owns_whole]
  have h2 : ((((c.tc : Thread nD τ).loc (pre0.ref 2)) ↦{fullShare.right} pf 2 : sProp 𝕄)) ⊢ owns (c.tc : Thread nD τ) (Memref.whole main_arg2) fullShare.right (pf 2) := by
    rw [show owns (c.tc : Thread nD τ) (Memref.whole main_arg2) fullShare.right (pf 2) = _ from owns_whole _ _ _ _]
    exact .rfl
  iintro ⟨⟨⟨⟨%f0, Hs0⟩, ⟨%f1, Hs1⟩⟩, Hp⟩, ⟨Ht0, Ht1, Ht2⟩⟩
  iexists f0; iexists f1
  isplitr
  · ipureintro
    intro i k hi hk e _
    obtain rfl : k = 0 := by omega
    exact ⟨fun h => absurd h (by omega), fun h => absurd h (by omega)⟩
  isplitl [Hs0]
  · iexact Hs0
  isplitl [Hs1]
  · iexact Hs1
  isplitl [Hp]
  · iexact Hp
  isplitl [Ht0]
  · iexact Ht0
  isplitl [Ht1]
  · iexact Ht1
  iapply h2; iexact Ht2

theorem phi_out (pf : pre0.Contents (Elt F)) (hok : ok0 pf) (V : Entry F) (c : Dev nD) :
    (rd pf hok V c).Φ (Fin.last (cfgA pf hok).N) ⊢ Pipeline.ΦA spec0 c := by
  show PhiA pf hok V c _ ⊢ _
  unfold Pipeline.ΦA PhiA Tbl
  rw [scopedRest0_eq]
  simp only [owns_whole]
  iintro ⟨%f0, %f1, -, Hs0, Hs1, Hp, -⟩
  isplitr [Hp]
  · isplitl [Hs0]
    · iexists f0; iexact Hs0
    · iexists f1; iexact Hs1
  iexact Hp

set_option backward.isDefEq.respectTransparency.types false in
theorem run (g : Dev nD → PrngReg) :
    θ_run (defs (F := F)) (onTc (τ := τ) (main (F := F))) ⟨m, fun _ => 0, g⟩
      (fun r => Pipeline.RDat.FramePost (cfgA (tabs m) hok) (rd (tabs m) hok (entry m)) (entry m) r ∧ r.2.sem = fun _ => 0) :=
  Pipeline.RDat.θ_run_frameP_track_shared (pcfgs (F := F)) (adm (tabs m) hok) 0 launch₀0 defs₀ Variants.none
    (rd (tabs m) hok (entry m)) m g main (fun c => obligation (tabs m) hok (entry m) c) (fun _ _ _ => rfl) (fun _ _ => rfl)
    (entry m) (Pipeline.hmainP_prefix (pcfgs (F := F)) 0 defs₀ Variants.none m main hostOps0 hostOps0_sub ⟨rfl, rfl, rfl, rfl, rfl, rfl⟩ main_chain)
    (fun _ _ => rfl) (fun c k => entry_tabs m c k) (fun c => phi_in _ _ _ c) (fun c => phi_out _ _ _ c) _ (fun _ h => h)

end

end Cert.KernelIdeal.Body

end
-- ==== Proof.Frame.lean ====
/- The frame: the program runs, its arguments end as they began, and every semaphore ends at rest. -/
module

public import proofs.«01_k».proof.Proof.Post
public import Idealize.ShloMosaic.Lib.Pipeline.ArrRel
public import Idealize.ShloMosaic.Lib.StableHlo.RunHlo

@[expose] public section

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The tables are in range, so the side condition on them holds. -/
theorem ok_tabs (h0 : ∀ i, (m (((0 : Dev nD).tc : Thread nD τ).loc main_arg0) i).toNat < 32) (h1 : ∀ i, (m (((0 : Dev nD).tc : Thread nD τ).loc main_arg1) i).toNat < 160) :
    ok0 (tabs m) :=
  ok_of_bounds (tabs m) (fun i h => h0 _) (fun i h => h1 _)

variable (hok : ok0 (tabs m))

/-- The arguments of every device, unchanged. -/
def Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)

set_option backward.isDefEq.respectTransparency.types false in
theorem kept {r : PUnit × MemSt nD τ sig (Elt F)} (h : Pipeline.RDat.FramePost (cfgA (tabs m) hok) (rd (tabs m) hok (entry m)) (entry m) r) (c : Dev nD) : Kept m r.2.mem c := by
  have hr (b : Ref sig .tc) (hu : b ∉ hostW) (hb : b ∈ Pipeline.restRefs sig spec0) : r.2.mem ((c.tc : Thread nD τ).loc b) = m ((c.tc : Thread nD τ).loc b) :=
    ((h c).2 b hb).trans (entry_unwritten m c b hu)
  refine ⟨hr main_arg0 (by decide) ?_, hr main_arg1 (by decide) ?_, hr main_arg2 (by decide) ?_, ?_, hr main_arg4 (by decide) ?_, hr main_arg5 (by decide) ?_,
    hr main_arg6 (by decide) ?_, hr main_arg7 (by decide) ?_, hr main_arg8 (by decide) ?_, hr main_arg9 (by decide) ?_⟩
  case refine_4 =>
    have w0 : ∃ w : Fin (cfgA (tabs m) hok).W, w = (0 : Fin 10) := ⟨(0 : Fin 10), rfl⟩
    obtain ⟨w, hw⟩ := w0
    have hk := (h c).1 w
    rw [Pipeline.RDat.ArrAt_in (rd (tabs m) hok (entry m) c) w (by rw [hw])] at hk
    subst hw
    have hk' : r.2.mem ((c.tc : Thread nD τ).loc main_arg3) = entry m c main_arg3 := hk
    exact hk'.trans (entry_unwritten m c main_arg3 (by decide))
  all_goals exact Pipeline.mem_restRefs_of _ (by decide) (by decide)

/-- The frame, from the tables' ranges. -/
theorem frame (g : Dev nD → PrngReg) (hok : ok0 (tabs m)) :
    θ_run (defs (F := F)) (onTc (τ := τ) (main (F := F))) ⟨m, fun _ => 0, g⟩ (fun r => (∀ c, Kept m r.2.mem c) ∧ r.2.sem = fun _ => 0) :=
  Idealize.ShloMosaic.θ_run_mono (run m hok g) (fun r h => ⟨fun c => kept m hok h.1 c, h.2⟩)

end Cert.KernelIdeal.Body

end
-- ==== Proof.Table.lean ====
/- The precondition read back: every word of the two routing tables is in its range. -/
module

public import proofs.«01_k».proof.Pre_routed
public import Idealize.ShloMosaic.Lib.ReduceAll

@[expose] public section

namespace Cert.Routed

open Idealize.ShloMosaic Cert.Pre_routed

instance : Subsingleton S_.Idx := ⟨fun a b => funext fun i => i.elim0⟩

theorem andi_one {x y : BitVec 1} : IntOp.andi x y = 1#1 → x = 1#1 ∧ y = 1#1 := by
  revert x y; decide

theorem range {n : ℕ} (hn : n < 2147483648) {w : BitVec 32} (h0 : IntOp.cmpi .sge w 0#32 = 1#1) (h1 : IntOp.cmpi .slt w (BitVec.ofNat 32 n) = 1#1) :
    w.toNat < n := by
  rw [IntOp.cmpi_sge] at h0
  rw [IntOp.cmpi_slt] at h1
  simp only [BitVec.toInt_eq_toNat_cond, BitVec.toNat_ofNat] at h0 h1
  have := w.isLt
  split at h0 <;> split at h1 <;> omega

variable {F : FTy → Type} [FloatOps F] [Facts]

/-- The precondition gives the range of every entry of the two tables. -/
theorem decode (a0 a1 : IVec S160 32) (a2 : IVec S1 32) (a3 : IVec S81920x2048 32) (a4 : FVec F S32x4096x1024 .f32) (a5 : FVec F S32x1024 .f32)
    (a6 : FVec F S32x4096x1024 .f32) (a7 : FVec F S32x1024 .f32) (a8 : FVec F S32x1024x4096 .f32) (a9 : FVec F S32x4096 .f32)
    (h : fn a0 a1 a2 a3 a4 a5 a6 a7 a8 a9 = fun _ => 1#1) : (∀ i, (a0 i).toNat < 32) ∧ (∀ i, (a1 i).toNat < 160) := by
  have h0 := congrFun h (fun i => i.elim0)
  obtain ⟨hl, hr⟩ := andi_one h0
  refine ⟨fun i => ?_, fun i => ?_⟩
  · obtain ⟨p, q⟩ := andi_one (Host.reduce_andi_all _ _ _ _ _ hl i)
    exact range (by decide) p q
  · obtain ⟨p, q⟩ := andi_one (Host.reduce_andi_all _ _ _ _ _ hr i)
    exact range (by decide) p q

end Cert.Routed

end
-- ==== Proof.Sides.lean ====
/- The frames of the two kernels and of the reference, from the runs, and the rewrites' statements. -/
module

public import proofs.«01_k».proof.Defs
public import proofs.«01_k».proof.Proof.Frame
public import proofs.«01_k».proof.Proof.FrameK
public import proofs.«01_k».proof.Proof.Table
public import proofs.«01_k».proof.Proof.Gen.Pre_routed
public import proofs.«01_k».proof.Proof.Gen.ReferenceIdeal.Run
public import Idealize.ShloMosaic.Lib.Bf16Pair
public import Idealize.ShloMosaic.Lib.Quiescent
public import Idealize.ShloMosaic.Lib.StableHlo.RunHlo

@[expose] public section

noncomputable section

namespace Cert.Proof

open Idealize.ShloMosaic Idealize.SL.Sem

theorem ok_kernel (m : (ℓ : Loc Cert.Kernel.nD Cert.Kernel.τ Cert.Kernel.sig) → Buf (Elt Bits) ℓ) (h : Pre_Kernel m) :
    Cert.Kernel.ok0 (Cert.Kernel.Body.tabs m) :=
  have hb := Cert.Routed.decode _ _ _ _ _ _ _ _ _ _ (h 0)
  Cert.Kernel.Body.ok_tabs m hb.1 hb.2

theorem ok_ideal (m : (ℓ : Loc Cert.KernelIdeal.nD Cert.KernelIdeal.τ Cert.KernelIdeal.sig) → Buf (Elt Ideal) ℓ) (h : Pre_KernelIdeal m) :
    Cert.KernelIdeal.ok0 (Cert.KernelIdeal.Body.tabs m) :=
  have hb := Cert.Routed.decode _ _ _ _ _ _ _ _ _ _ (h 0)
  Cert.KernelIdeal.Body.ok_tabs m hb.1 hb.2

theorem frame_kernel : quiescent_Kernel := fun m g h => Cert.Kernel.Body.frame m g (ok_kernel m h)

theorem frame_ideal : quiescent_KernelIdeal := fun m g h => Cert.KernelIdeal.Body.frame m g (ok_ideal m h)

theorem frame_reference : quiescent_ReferenceIdeal := fun m g _ =>
  θ_run_mono (Cert.ReferenceIdeal.Value.run m g) fun r h => ⟨fun c => (h c).2, sem_eq_zero_of_no_sems (by decide) r.2⟩

theorem preserves : preserves_Kernel_KernelIdeal := ⟨IdealRules.bf16_pair.packStatement _, IdealRules.bf16_pair.statement _ _⟩

end Cert.Proof

end
-- ==== Proof.Spec.lean ====
/- What the grouped expert feed-forward computes, one result element at a time, over the extended reals; and a row gather
   read at an index. -/
module

public import Idealize.ShloMosaic.Lib.Pointwise
public import Idealize.ShloMosaic.Lib.Pipeline.ValueKit

@[expose] public section

set_option maxRecDepth 16384

noncomputable section

namespace Cert.Routed

open Idealize.ShloMosaic

/-- The gated unit: the gate `a` cut at seven and passed through its own sigmoid, times the raised second branch `b` kept
    between minus seven and seven. -/
def glu (a b : EReal) : EReal :=
  min a (Ideal.ofBits .f32 0x40E00000#32)
      * Ideal.logistic (Ideal.ofBits .f32 0x3FD9DB23#32 * min a (Ideal.ofBits .f32 0x40E00000#32))
    * (min (Ideal.ofBits .f32 0x40E00000#32) (max (Ideal.ofBits .f32 0xC0E00000#32) b) + 1)

/-- The number in half `h` of a packed word. -/
def halfOf (w : BitVec 32) (h : ℕ) : EReal := Ideal.ofBits .bf16 (w.extractLsb' (16 * h) 16)

section
variable (a0 a1 : IVec ⟨1, ![160]⟩ 32) (a2 : IVec ⟨1, ![1]⟩ 32) (a3 : IVec ⟨2, ![81920, 2048]⟩ 32)
  (a4 : FVec Ideal ⟨3, ![32, 4096, 1024]⟩ .f32) (a5 : FVec Ideal ⟨2, ![32, 1024]⟩ .f32)
  (a6 : FVec Ideal ⟨3, ![32, 4096, 1024]⟩ .f32) (a7 : FVec Ideal ⟨2, ![32, 1024]⟩ .f32)
  (a8 : FVec Ideal ⟨3, ![32, 1024, 4096]⟩ .f32) (a9 : FVec Ideal ⟨2, ![32, 4096]⟩ .f32)

/-- The expert of a tile. -/
def expertOf (i : Fin 160) : Fin 32 := ⟨(a0 (ix1 i)).toNat % 32, Nat.mod_lt _ (by decide)⟩

/-- The block of rows a tile takes its tokens from. -/
def blockOf (i : Fin 160) : Fin 160 := ⟨(a1 (ix1 i)).toNat % 160, Nat.mod_lt _ (by decide)⟩

/-- Entry `d` of row `r` of tile `i`'s tokens: the low halves of the packed row first, then its high halves. -/
def tokenAt (i : Fin 160) (r : Fin 512) (d : Fin 4096) : EReal :=
  halfOf (a3 (ix2 ⟨512 * (blockOf a1 i).val + r.val, by have := (blockOf a1 i).isLt; omega⟩ ⟨d.val % 2048, by omega⟩)) (d.val / 2048)

/-- Entry `f` of the hidden row of a token. -/
def hiddenAt (i : Fin 160) (r : Fin 512) (f : Fin 1024) : EReal :=
  glu ((∑ d : Fin 4096, tokenAt a1 a3 i r d * a4 (ix3 (expertOf a0 i) d f)) + a5 (ix2 (expertOf a0 i) f))
    ((∑ d : Fin 4096, tokenAt a1 a3 i r d * a6 (ix3 (expertOf a0 i) d f)) + a7 (ix2 (expertOf a0 i) f))

/-- Entry `n` of the result row of a token: the second product with its bias on a tile in use, zero on the others. -/
def tokenOut (i : Fin 160) (r : Fin 512) (n : Fin 4096) : EReal :=
  if Scalar.cmpi .slt (BitVec.ofNat 32 i.val) (a2 (ix1 0)) = 1#1 then
    (∑ f : Fin 1024, hiddenAt a0 a1 a3 a4 a5 a6 a7 i r f * a8 (ix3 (expertOf a0 i) f n)) + a9 (ix2 (expertOf a0 i) n)
  else 0

/-- The result array: token row `r` of tile `i` takes the two rows `2 (512 i + r)` and `2 (512 i + r) + 1`, its first and
    its second half. -/
def resultAt (R : Fin 163840) (C : Fin 2048) : EReal :=
  tokenOut a0 a1 a2 a3 a4 a5 a6 a7 a8 a9 ⟨R.val / 1024, by omega⟩ ⟨R.val % 1024 / 2, by omega⟩ ⟨2048 * (R.val % 2) + C.val, by omega⟩

end

/-- A gather of whole slabs of a rank-3 operand, one slab per start index. -/
abbrev slabDims (N n A B : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- A gather of whole rows of a rank-2 operand, one row per start index. -/
abbrev rowDims (N n A : Nat)
    (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- The slab gather at an index: the slab named by the start index, read signed and clamped. -/
theorem slab_at {α : Type} {N n A B w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (p : Fin n) (a : Fin A) (b : Fin B) :
    Host.gather (slabDims N n A B wf) x idx (ix3 p a b)
      = x (ix3 ⟨min (idx (ix2 p 0)).toInt.toNat (N - 1), by omega⟩ a b) := by
  unfold Host.gather
  congr 1
  funext q
  refine Fin.ext ?_
  show (slabDims N n A B wf).start (ix3 p a b) idx q + (slabDims N n A B wf).batchCoord (ix3 p a b) q
      + (slabDims N n A B wf).offCoord (ix3 p a b) q = _
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  rw [GatherDims.batchCoord_eq_zero _ _ _ (fun h => by simp at h)]
  rcases hq with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N n A B wf).startIndexMap from List.mem_singleton.mpr rfl)]
    have hsi : (slabDims N n A B wf).siIdx (ix3 p a b) ⟨List.idxOf (0 : Fin 3) (slabDims N n A B wf).startIndexMap,
        List.idxOf_lt_length_iff.2 (List.mem_singleton.mpr rfl)⟩ = ix2 p 0 := by
      funext c; refine Fin.ext ?_
      match c with
      | ⟨0, _⟩ => rfl
      | ⟨1, _⟩ => rfl
    rw [hsi]
    rfl
  · unfold GatherDims.start
    rw [dif_neg (show (1 : Fin 3) ∉ (slabDims N n A B wf).startIndexMap by simp)]
    simp only [Nat.zero_add]
    rfl
  · unfold GatherDims.start
    rw [dif_neg (show (2 : Fin 3) ∉ (slabDims N n A B wf).startIndexMap by simp)]
    simp only [Nat.zero_add]
    rfl

/-- The row gather at an index: the row named by the start index, read signed and clamped. -/
theorem row_at {α : Type} {N n A w : Nat} (hN : 0 < N)
    (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ w) (p : Fin n) (a : Fin A) :
    Host.gather (rowDims N n A wf) x idx (ix2 p a)
      = x (ix2 ⟨min (idx (ix2 p 0)).toInt.toNat (N - 1), by omega⟩ a) := by
  unfold Host.gather
  congr 1
  funext q
  refine Fin.ext ?_
  show (rowDims N n A wf).start (ix2 p a) idx q + (rowDims N n A wf).batchCoord (ix2 p a) q
      + (rowDims N n A wf).offCoord (ix2 p a) q = _
  have hq : q = 0 ∨ q = 1 := by
    match q with
    | ⟨0, _⟩ => exact Or.inl rfl
    | ⟨1, _⟩ => exact Or.inr rfl
  rw [GatherDims.batchCoord_eq_zero _ _ _ (fun h => by simp at h)]
  rcases hq with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n A wf).startIndexMap from List.mem_singleton.mpr rfl)]
    have hsi : (rowDims N n A wf).siIdx (ix2 p a) ⟨List.idxOf (0 : Fin 2) (rowDims N n A wf).startIndexMap,
        List.idxOf_lt_length_iff.2 (List.mem_singleton.mpr rfl)⟩ = ix2 p 0 := by
      funext c; refine Fin.ext ?_
      match c with
      | ⟨0, _⟩ => rfl
      | ⟨1, _⟩ => rfl
    rw [hsi]
    rfl
  · unfold GatherDims.start
    rw [dif_neg (show (1 : Fin 2) ∉ (rowDims N n A wf).startIndexMap by simp)]
    simp only [Nat.zero_add]
    rfl

/-- A word below a bound under two to the thirty-first, read signed and clamped at the bound, is itself. -/
theorem clamp_eq (w : BitVec 32) (N : ℕ) (hN : N ≤ 2 ^ 31) (h : w.toNat < N) : min w.toInt.toNat (N - 1) = w.toNat % N := by
  have e : w.toInt = (w.toNat : ℤ) := BitVec.toInt_eq_toNat_of_lt (by omega)
  rw [e, Int.toNat_natCast, Nat.mod_eq_of_lt h]
  omega

/-- Such a word is not negative. -/
theorem not_neg (w : BitVec 32) (h : w.toNat < 2 ^ 31) : ¬ w.toInt < 0 := by
  have e : w.toInt = (w.toNat : ℤ) := BitVec.toInt_eq_toNat_of_lt (by omega)
  omega

end Cert.Routed

end
-- ==== Proof.Blocks.lean ====
/- The blocks that the grid points fetch, read at an index. -/
module

public import proofs.«01_k».proof.Proof.Post
public import proofs.«01_k».proof.Proof.Spec

@[expose] public section

set_option maxRecDepth 16384

noncomputable section

namespace Cert.KernelIdeal.Val

open Cert.KernelIdeal Cert.KernelIdeal.Gen Cert.KernelIdeal.Body
open Idealize.ShloMosaic Idealize.ShloMosaic.TcCoe

variable {F : FTy → Type} [FloatOps F]

section
variable (pf : pre0.Contents (Elt F)) (hok : ok0 pf) (V : Entry F) (c : Dev nD)

theorem bX_read (t : Fin grid0.N) (b : ℕ) (h : cc0_transform_0 k0_off1_inb numel1_S1 pf (grid0.coords t) = ![b, 0]) (r : Fin 512) (d : Fin 2048) (hr : 512 * b + r.val < 81920) :
    bX pf hok V c t (ix2 r d) = (V c main_arg3 : Vec F S81920x2048 .i32) (ix2 ⟨512 * b + r.val, hr⟩ d) := by
  have e : ((cfgA pf hok).win 0).index t = ![b, 0] := h
  show (V c main_arg3 : Vec F S81920x2048 .i32) ((((cfgA pf hok).win 0).blk t).view.emb (ix2 r d)) = _
  refine congrArg _ ?_
  funext a
  refine Fin.ext ?_
  refine (((cfgA pf hok).win 0).rect_emb_val t (ix2 r d) a rfl).trans ?_
  rw [e]
  match a with
  | ⟨0, _⟩ => exact congrArg (· + r.val) (Nat.mul_comm b 512)
  | ⟨1, _⟩ => exact (congrArg (· + d.val) (Nat.zero_mul _)).trans (Nat.zero_add _)

/-- The gate weights' block. -/
theorem bG_read (t : Fin grid0.N) (e j : ℕ) (h : cc0_transform_1 k0_off2_inb numel1_S1 inb_S1_S1_0 pf (grid0.coords t) = ![e, 0, j]) (he : e < 32)
    (a : Fin 4096) (b : Fin 512) (hj : 512 * j + b.val < 1024) :
    bG pf hok V c t (ix3 0 a b) = (V c main_v0 : Vec F S32x4096x1024 .bf16) (ix3 ⟨e, he⟩ a ⟨512 * j + b.val, hj⟩) := by
  have hx : ((cfgA pf hok).win 1).index t = ![e, 0, j] := h
  show (V c main_v0 : Vec F S32x4096x1024 .bf16) ((((cfgA pf hok).win 1).blk t).view.emb (ix3 0 a b)) = _
  refine congrArg _ ?_
  funext q
  refine Fin.ext ?_
  refine (((cfgA pf hok).win 1).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 512)

/-- The raised weights' block. -/
theorem bU_read (t : Fin grid0.N) (e j : ℕ) (h : cc0_transform_2 k0_off1_inb numel1_S1 inb_S1_S1_0 pf (grid0.coords t) = ![e, 0, j]) (he : e < 32)
    (a : Fin 4096) (b : Fin 512) (hj : 512 * j + b.val < 1024) :
    bU pf hok V c t (ix3 0 a b) = (V c main_v2 : Vec F S32x4096x1024 .bf16) (ix3 ⟨e, he⟩ a ⟨512 * j + b.val, hj⟩) := by
  have hx : ((cfgA pf hok).win 2).index t = ![e, 0, j] := h
  show (V c main_v2 : Vec F S32x4096x1024 .bf16) ((((cfgA pf hok).win 2).blk t).view.emb (ix3 0 a b)) = _
  refine congrArg _ ?_
  funext q
  refine Fin.ext ?_
  refine (((cfgA pf hok).win 2).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 512)

/-- The gate bias's block. -/
theorem bg_read (t : Fin grid0.N) (e j : ℕ) (h : cc0_transform_3 k0_off2_inb numel1_S1 inb_S1_S1_0 pf (grid0.coords t) = ![e, 0, j]) (he : e < 32)
    (a : Fin 1) (b : Fin 512) (hj : 512 * j + b.val < 1024) :
    bg pf hok V c t (ix3 0 a b) = (V c main_v1 : Vec F S32x1x1024 .f32) (ix3 ⟨e, he⟩ a ⟨512 * j + b.val, hj⟩) := by
  have hx : ((cfgA pf hok).win 3).index t = ![e, 0, j] := h
  show (V c main_v1 : Vec F S32x1x1024 .f32) ((((cfgA pf hok).win 3).blk t).view.emb (ix3 0 a b)) = _
  refine congrArg _ ?_
  funext q
  refine Fin.ext ?_
  refine (((cfgA pf hok).win 3).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 512)

/-- The raised bias's block. -/
theorem bu_read (t : Fin grid0.N) (e j : ℕ) (h : cc0_transform_4 k0_off2_inb numel1_S1 inb_S1_S1_0 pf (grid0.coords t) = ![e, 0, j]) (he : e < 32)
    (a : Fin 1) (b : Fin 512) (hj : 512 * j + b.val < 1024) :
    bu pf hok V c t (ix3 0 a b) = (V c main_v3 : Vec F S32x1x1024 .f32) (ix3 ⟨e, he⟩ a ⟨512 * j + b.val, hj⟩) := by
  have hx : ((cfgA pf hok).win 4).index t = ![e, 0, j] := h
  show (V c main_v3 : Vec F S32x1x1024 .f32) ((((cfgA pf hok).win 4).blk t).view.emb (ix3 0 a b)) = _
  refine congrArg _ ?_
  funext q
  refine Fin.ext ?_
  refine (((cfgA pf hok).win 4).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 512)

/-- The second weights' block for the first half of a row. -/
theorem bD_read (t : Fin grid0.N) (e j : ℕ) (h : cc0_transform_5 k0_off2_inb numel1_S1 inb_S1_S1_0 pf (grid0.coords t) = ![e, 0, j]) (he : e < 32)
    (a : Fin 1024) (b : Fin 1024) (hj : 1024 * j + b.val < 4096) :
    bD pf hok V c t (ix3 0 a b) = (V c main_v4 : Vec F S32x1024x4096 .bf16) (ix3 ⟨e, he⟩ a ⟨1024 * j + b.val, hj⟩) := by
  have hx : ((cfgA pf hok).win 5).index t = ![e, 0, j] := h
  show (V c main_v4 : Vec F S32x1024x4096 .bf16) ((((cfgA pf hok).win 5).blk t).view.emb (ix3 0 a b)) = _
  refine congrArg _ ?_
  funext q
  refine Fin.ext ?_
  refine (((cfgA pf hok).win 5).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 1024)

/-- The second weights' block for the second half of a row. -/
theorem bE_read (t : Fin grid0.N) (e j : ℕ) (h : cc0_transform_6 k0_off2_inb numel1_S1 inb_S1_S1_0 pf (grid0.coords t) = ![e, 0, j]) (he : e < 32)
    (a : Fin 1024) (b : Fin 1024) (hj : 1024 * j + b.val < 4096) :
    bE pf hok V c t (ix3 0 a b) = (V c main_v4 : Vec F S32x1024x4096 .bf16) (ix3 ⟨e, he⟩ a ⟨1024 * j + b.val, hj⟩) := by
  have hx : ((cfgA pf hok).win 6).index t = ![e, 0, j] := h
  show (V c main_v4 : Vec F S32x1024x4096 .bf16) ((((cfgA pf hok).win 6).blk t).view.emb (ix3 0 a b)) = _
  refine congrArg _ ?_
  funext q
  refine Fin.ext ?_
  refine (((cfgA pf hok).win 6).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 1024)

/-- The second bias's block for the first half of a row. -/
theorem bd_read (t : Fin grid0.N) (e j : ℕ) (h : cc0_transform_7 k0_off2_inb numel1_S1 inb_S1_S1_0 pf (grid0.coords t) = ![e, 0, j]) (he : e < 32)
    (a : Fin 1) (b : Fin 1024) (hj : 1024 * j + b.val < 4096) :
    bd pf hok V c t (ix3 0 a b) = (V c main_v5 : Vec F S32x1x4096 .f32) (ix3 ⟨e, he⟩ a ⟨1024 * j + b.val, hj⟩) := by
  have hx : ((cfgA pf hok).win 7).index t = ![e, 0, j] := h
  show (V c main_v5 : Vec F S32x1x4096 .f32) ((((cfgA pf hok).win 7).blk t).view.emb (ix3 0 a b)) = _
  refine congrArg _ ?_
  funext q
  refine Fin.ext ?_
  refine (((cfgA pf hok).win 7).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 1024)

/-- The second bias's block for the second half of a row. -/
theorem be_read (t : Fin grid0.N) (e j : ℕ) (h : cc0_transform_8 k0_off2_inb numel1_S1 inb_S1_S1_0 pf (grid0.coords t) = ![e, 0, j]) (he : e < 32)
    (a : Fin 1) (b : Fin 1024) (hj : 1024 * j + b.val < 4096) :
    be pf hok V c t (ix3 0 a b) = (V c main_v5 : Vec F S32x1x4096 .f32) (ix3 ⟨e, he⟩ a ⟨1024 * j + b.val, hj⟩) := by
  have hx : ((cfgA pf hok).win 8).index t = ![e, 0, j] := h
  show (V c main_v5 : Vec F S32x1x4096 .f32) ((((cfgA pf hok).win 8).blk t).view.emb (ix3 0 a b)) = _
  refine congrArg _ ?_
  funext q
  refine Fin.ext ?_
  refine (((cfgA pf hok).win 8).rect_emb_val t (ix3 0 a b) q rfl).trans ?_
  rw [hx]
  match q with
  | ⟨0, _⟩ => exact (Nat.add_zero _).trans (Nat.mul_one e)
  | ⟨1, _⟩ => exact (congrArg (· + a.val) (Nat.zero_mul _)).trans (Nat.zero_add _)
  | ⟨2, _⟩ => exact congrArg (· + b.val) (Nat.mul_comm j 1024)

end

section
variable (m : (ℓ : Loc nD τ sig) → Buf (Elt Ideal) ℓ) (c : Dev nD)

theorem entry_v0 : entry m c main_v0 = m ((c.tc : Thread nD τ).loc main_arg4) := by
  unfold entry
  after_results_simp
  rfl

theorem entry_v2 : entry m c main_v2 = m ((c.tc : Thread nD τ).loc main_arg6) := by
  unfold entry
  after_results_simp
  rfl

theorem entry_v4 : entry m c main_v4 = m ((c.tc : Thread nD τ).loc main_arg8) := by
  unfold entry
  after_results_simp
  rfl

theorem entry_v1 (e : Fin 32) (f : Fin 1024) :
    (entry m c main_v1 : Vec Ideal S32x1x1024 .f32) (ix3 e 0 f) = (m ((c.tc : Thread nD τ).loc main_arg5) : Vec Ideal S32x1024 .f32) (ix2 e f) := by
  unfold entry
  after_results_simp
  show broadcastInDim S32x1x1024 ![0, 2] bcast_S32x1024_S32x1x1024_0_2 (m ((c.tc : Thread nD τ).loc main_arg5) : Vec Ideal S32x1024 .f32) (ix3 e 0 f) = _
  generalize (m ((c.tc : Thread nD τ).loc main_arg5) : Vec Ideal S32x1024 .f32) = B
  pointwise []

theorem entry_v3 (e : Fin 32) (f : Fin 1024) :
    (entry m c main_v3 : Vec Ideal S32x1x1024 .f32) (ix3 e 0 f) = (m ((c.tc : Thread nD τ).loc main_arg7) : Vec Ideal S32x1024 .f32) (ix2 e f) := by
  unfold entry
  after_results_simp
  show broadcastInDim S32x1x1024 ![0, 2] bcast_S32x1024_S32x1x1024_0_2 (m ((c.tc : Thread nD τ).loc main_arg7) : Vec Ideal S32x1024 .f32) (ix3 e 0 f) = _
  generalize (m ((c.tc : Thread nD τ).loc main_arg7) : Vec Ideal S32x1024 .f32) = B
  pointwise []

theorem entry_v5 (e : Fin 32) (f : Fin 4096) :
    (entry m c main_v5 : Vec Ideal S32x1x4096 .f32) (ix3 e 0 f) = (m ((c.tc : Thread nD τ).loc main_arg9) : Vec Ideal S32x4096 .f32) (ix2 e f) := by
  unfold entry
  after_results_simp
  show broadcastInDim S32x1x4096 ![0, 2] bcast_S32x4096_S32x1x4096_0_2 (m ((c.tc : Thread nD τ).loc main_arg9) : Vec Ideal S32x4096 .f32) (ix3 e 0 f) = _
  generalize (m ((c.tc : Thread nD τ).loc main_arg9) : Vec Ideal S32x4096 .f32) = B
  pointwise []

end

end Cert.KernelIdeal.Val

end
-- ==== Proof.Pure.lean ====
/- The arithmetic of the kernel's body read one element at a time, at the ideal instance. -/
module

public import proofs.«01_k».proof.Proof.Run
public import proofs.«01_k».proof.Proof.Spec

@[expose] public section

set_option maxRecDepth 16384

noncomputable section

namespace Cert.KernelIdeal.Val

open Cert.KernelIdeal Cert.KernelIdeal.Gen Cert.KernelIdeal.Body
open Idealize.ShloMosaic Cert.Routed

theorem pay3_at (x : FVec Ideal S512x4096 .bf16) (G : FVec Ideal S1x4096x512 .bf16) (g : FVec Ideal S1x1x512 .f32)
    (U : FVec Ideal S1x4096x512 .bf16) (u : FVec Ideal S1x1x512 .f32) (r : Fin 512) (f : Fin 512) :
    k0_pay3 (F := Ideal) x G g U u (ix3 0 r f)
      = glu ((∑ d : Fin 4096, x (ix2 r d) * G (ix3 0 d f)) + g (ix3 0 0 f)) ((∑ d : Fin 4096, x (ix2 r d) * U (ix3 0 d f)) + u (ix3 0 0 f)) := by
  pointwise [k0_pay3]
  rfl

theorem pay8_at (d : FVec Ideal S1x1x1024 .f32) (h0 h1 : FVec Ideal S1x512x512 .bf16) (D0 D1 : FVec Ideal S1x512x1024 .bf16)
    (r : Fin 512) (c : Fin 1024) :
    k0_pay8 (F := Ideal) d h0 D0 h1 D1 (ix2 r c)
      = d (ix3 0 0 c) + (∑ f : Fin 512, h0 (ix3 0 r f) * D0 (ix3 0 f c)) + ∑ f : Fin 512, h1 (ix3 0 r f) * D1 (ix3 0 f c) := by
  pointwise [k0_pay8, k0_pay6, k0_pay7]

theorem pay9_at (d : FVec Ideal S1x1x1024 .f32) (h0 h1 : FVec Ideal S1x512x512 .bf16) (D0 D1 : FVec Ideal S1x512x1024 .bf16)
    (r : Fin 512) (c : Fin 1024) :
    k0_pay9 (F := Ideal) d h0 D0 h1 D1 (ix2 r c)
      = d (ix3 0 0 c) + (∑ f : Fin 512, h0 (ix3 0 r f) * D0 (ix3 0 f c)) + ∑ f : Fin 512, h1 (ix3 0 r f) * D1 (ix3 0 f c) := by
  pointwise [k0_pay9, k0_pay6, k0_pay7]

theorem pay5_at (r c : Fin 1024) : k0_pay5 (F := Ideal) (ix2 r c) = (0 : EReal) := by
  pointwise [k0_pay5]
  split <;> rfl

theorem pay1_at (X : Vec Ideal S512x2048 .i32) (r : Fin 512) (d : Fin 2048) :
    k0_pay1 (F := Ideal) X (ix2 r d) = halfOf (X (ix2 r d)) 0 := by
  pointwise [k0_pay1]
  rfl

theorem pay2_at (X : Vec Ideal S512x2048 .i32) (r : Fin 512) (d : Fin 2048) :
    k0_pay2 (F := Ideal) X (ix2 r d) = halfOf (X (ix2 r d)) 1 := by
  pointwise [k0_pay2]
  rfl

theorem pay4_at (lo hi : FVec Ideal S512x1024 .bf16) (r c : Fin 1024) :
    k0_pay4 (F := Ideal) lo hi (ix2 r c) = if r.val % 2 = 0 then lo (ix2 ⟨r.val / 2, by omega⟩ c) else hi (ix2 ⟨r.val / 2, by omega⟩ c) := by
  pointwise [k0_pay4]

/-- The unpacked rows: the low halves first, then the high halves. -/
theorem XB_at (X : Vec Ideal S512x2048 .i32) (r : Fin 512) (d : Fin 4096) :
    XB (F := Ideal) X (ix2 r d) = halfOf (X (ix2 r ⟨d.val % 2048, by omega⟩)) (d.val / 2048) := by
  unfold XB
  canon_tiles x h
  · have hd : d.val = 2048 + (x 1).val := h1
    have hx : x = ix2 r ⟨d.val % 2048, by omega⟩ := by
      rw [eq_ix2 x]
      exact (ix2_inj _ _ _ _).2 ⟨Fin.ext h0.symm, Fin.ext (show (x 1).val = d.val % 2048 by omega)⟩
    rw [show d.val / 2048 = 1 by omega, hx]
    exact pay2_at X r _
  · have hd : d.val = (x 1).val := h1
    have hx : x = ix2 r ⟨d.val % 2048, by omega⟩ := by
      rw [eq_ix2 x]
      exact (ix2_inj _ _ _ _).2 ⟨Fin.ext h0.symm, Fin.ext (show (x 1).val = d.val % 2048 by omega)⟩
    rw [show d.val / 2048 = 0 by omega, hx]
    exact pay1_at X r _

theorem win_low (X : FVec Ideal S1x1024x1024 .bf16) (f : Fin 512) (c : Fin 1024) :
    VecWindow.window (s := S1x1024x1024) X ![0, 0, 0] S1x512x1024.size inb_S1x1024x1024_S1x512x1024_0_0_0 (ix3 0 f c) = X (ix3 0 ⟨f.val, by omega⟩ c) := by
  unfold VecWindow.window
  refine congrArg X ?_
  idx_ext

theorem win_high (X : FVec Ideal S1x1024x1024 .bf16) (f : Fin 512) (c : Fin 1024) :
    VecWindow.window (s := S1x1024x1024) X ![0, 512, 0] S1x512x1024.size inb_S1x1024x1024_S1x512x1024_0_512_0 (ix3 0 f c) = X (ix3 0 ⟨512 + f.val, by omega⟩ c) := by
  unfold VecWindow.window
  refine congrArg X ?_
  idx_ext

/-- The second product taken in two halves of the hidden row, on top of the bias, is the whole product plus the bias. -/
theorem half8 (d : FVec Ideal S1x1x1024 .f32) (h0 h1 : FVec Ideal S1x512x512 .bf16) (X : FVec Ideal S1x1024x1024 .bf16) (r : Fin 512) (c : Fin 1024)
    (H : Fin 1024 → EReal) (e0 : ∀ f : Fin 512, h0 (ix3 0 r f) = H ⟨f.val, by omega⟩) (e1 : ∀ f : Fin 512, h1 (ix3 0 r f) = H ⟨512 + f.val, by omega⟩) :
    k0_pay8 (F := Ideal) d h0 (VecWindow.window (s := S1x1024x1024) X ![0, 0, 0] S1x512x1024.size inb_S1x1024x1024_S1x512x1024_0_0_0) h1
        (VecWindow.window (s := S1x1024x1024) X ![0, 512, 0] S1x512x1024.size inb_S1x1024x1024_S1x512x1024_0_512_0) (ix2 r c)
      = (∑ f : Fin 1024, H f * X (ix3 0 f c)) + d (ix3 0 0 c) := by
  rw [Fin.sum_univ_two_halves 512 512 rfl]
  refine (pay8_at _ _ _ _ _ _ _).trans ?_
  rw [add_assoc, add_comm]
  refine congrArg (· + _) (congrArg₂ (· + ·) (Finset.sum_congr rfl fun f _ => ?_) (Finset.sum_congr rfl fun f _ => ?_))
  · rw [e0]
    exact congrArg (_ * ·) (win_low X f c)
  · rw [e1]
    exact congrArg (_ * ·) (win_high X f c)

theorem half9 (d : FVec Ideal S1x1x1024 .f32) (h0 h1 : FVec Ideal S1x512x512 .bf16) (X : FVec Ideal S1x1024x1024 .bf16) (r : Fin 512) (c : Fin 1024)
    (H : Fin 1024 → EReal) (e0 : ∀ f : Fin 512, h0 (ix3 0 r f) = H ⟨f.val, by omega⟩) (e1 : ∀ f : Fin 512, h1 (ix3 0 r f) = H ⟨512 + f.val, by omega⟩) :
    k0_pay9 (F := Ideal) d h0 (VecWindow.window (s := S1x1024x1024) X ![0, 0, 0] S1x512x1024.size inb_S1x1024x1024_S1x512x1024_0_0_0) h1
        (VecWindow.window (s := S1x1024x1024) X ![0, 512, 0] S1x512x1024.size inb_S1x1024x1024_S1x512x1024_0_512_0) (ix2 r c)
      = (∑ f : Fin 1024, H f * X (ix3 0 f c)) + d (ix3 0 0 c) := by
  rw [Fin.sum_univ_two_halves 512 512 rfl]
  refine (pay9_at _ _ _ _ _ _ _).trans ?_
  rw [add_assoc, add_comm]
  refine congrArg (· + _) (congrArg₂ (· + ·) (Finset.sum_congr rfl fun f _ => ?_) (Finset.sum_congr rfl fun f _ => ?_))
  · rw [e0]
    exact congrArg (_ * ·) (win_low X f c)
  · rw [e1]
    exact congrArg (_ * ·) (win_high X f c)

end Cert.KernelIdeal.Val

end
-- ==== Proof.Values.lean ====
/- What the grid points compute, in the terms of the launch's arguments. -/
module

public import proofs.«01_k».proof.Proof.Blocks
public import proofs.«01_k».proof.Proof.Pure

@[expose] public section

set_option maxRecDepth 16384

noncomputable section

namespace Cert.KernelIdeal.Val

open Cert.KernelIdeal Cert.KernelIdeal.Gen Cert.KernelIdeal.Body
open Idealize.ShloMosaic Idealize.ShloMosaic.TcCoe Cert.Routed

section
variable (m : (ℓ : Loc nD τ sig) → Buf (Elt Ideal) ℓ) (hok : ok0 (tabs m)) (c : Dev nD)

/-- The launch's arguments, at their shapes. -/
abbrev arg0 : IVec S160 32 := m ((c.tc : Thread nD τ).loc main_arg0)
abbrev arg1 : IVec S160 32 := m ((c.tc : Thread nD τ).loc main_arg1)
abbrev arg2 : IVec S1 32 := m ((c.tc : Thread nD τ).loc main_arg2)
abbrev arg3 : IVec S81920x2048 32 := m ((c.tc : Thread nD τ).loc main_arg3)
abbrev arg4 : FVec Ideal S32x4096x1024 .f32 := m ((c.tc : Thread nD τ).loc main_arg4)
abbrev arg5 : FVec Ideal S32x1024 .f32 := m ((c.tc : Thread nD τ).loc main_arg5)
abbrev arg6 : FVec Ideal S32x4096x1024 .f32 := m ((c.tc : Thread nD τ).loc main_arg6)
abbrev arg7 : FVec Ideal S32x1024 .f32 := m ((c.tc : Thread nD τ).loc main_arg7)
abbrev arg8 : FVec Ideal S32x1024x4096 .f32 := m ((c.tc : Thread nD τ).loc main_arg8)
abbrev arg9 : FVec Ideal S32x4096 .f32 := m ((c.tc : Thread nD τ).loc main_arg9)

variable (he : ∀ i, (arg0 m c i).toNat < 32) (hb : ∀ i, (arg1 m c i).toNat < 160)

include he in
theorem te_eq (i : ℕ) (hi : i < 160) : (teW (tabs m) i hi).toNat = (expertOf (arg0 m c) ⟨i, hi⟩).val := by
  obtain rfl : c = 0 := Subsingleton.elim _ _
  have e : teW (tabs m) i hi = arg0 m 0 (ix1 ⟨i, hi⟩) := congrArg (arg0 m 0) (one_idx _ _ rfl)
  rw [e]
  exact (Nat.mod_eq_of_lt (he _)).symm

include hb in
theorem tb_eq (i : ℕ) (hi : i < 160) : (tbW (tabs m) i hi).toNat = (blockOf (arg1 m c) ⟨i, hi⟩).val := by
  obtain rfl : c = 0 := Subsingleton.elim _ _
  have e : tbW (tabs m) i hi = arg1 m 0 (ix1 ⟨i, hi⟩) := congrArg (arg1 m 0) (one_idx _ _ rfl)
  rw [e]
  exact (Nat.mod_eq_of_lt (hb _)).symm

theorem nu_eq : nuW (tabs m) = arg2 m c (Idealize.ShloMosaic.ix1 0) := by
  obtain rfl : c = 0 := Subsingleton.elim _ _
  exact congrArg (arg2 m 0) (one_idx1 _ _)

theorem pt0 (i k : ℕ) (hi : i < 160) (hk : k < 4) : (grid0.coords (pt i k hi hk)) 0 = ⟨i, hi⟩ := Fin.ext (coord0 i k hi hk)

/-- The weights' and biases' block indices at a tile in use. -/
theorem jx (i k : ℕ) (hi : i < 160) (hk : k < 2) (ha : act (nuW (tabs m)) i) :
    (if act (nuW (tabs m)) (grid0.coords (pt i k hi (by omega)) 0).val then min (grid0.coords (pt i k hi (by omega)) 1).val 1 else 1) = k := by
  rw [coord0, coord1, if_pos ha]; omega

include he in
theorem te_at (i k : ℕ) (hi : i < 160) (hk : k < 4) (h) :
    (teW (tabs m) (grid0.coords (pt i k hi hk) 0).val h).toNat = (expertOf (arg0 m c) ⟨i, hi⟩).val := by
  have e := coord0 i k hi hk
  revert h
  rw [e]
  exact fun h => te_eq m c he i hi

include he in
theorem te_low (i k : ℕ) (hi : i < 160) (hk : k < 4) (h2 : k < 2) (h) :
    (teW (tabs m) (if (grid0.coords (pt i k hi hk) 1).val ≥ 2 then min ((grid0.coords (pt i k hi hk) 0).val + 1) 159 else (grid0.coords (pt i k hi hk) 0).val) h).toNat
      = (expertOf (arg0 m c) ⟨i, hi⟩).val := by
  have e := coord0 i k hi hk
  have e1 := coord1 i k hi hk
  revert h
  rw [e, e1, if_neg (by omega)]
  exact fun h => te_eq m c he i hi

include hb in
theorem tb_low (i k : ℕ) (hi : i < 160) (hk : k < 4) (h2 : k < 2) (h) :
    (tbW (tabs m) (if (grid0.coords (pt i k hi hk) 1).val ≥ 2 then min ((grid0.coords (pt i k hi hk) 0).val + 1) 159 else (grid0.coords (pt i k hi hk) 0).val) h).toNat
      = (blockOf (arg1 m c) ⟨i, hi⟩).val := by
  have e := coord0 i k hi hk
  have e1 := coord1 i k hi hk
  revert h
  rw [e, e1, if_neg (by omega)]
  exact fun h => tb_eq m c hb i hi

include hb in
/-- The unpacked rows of a tile are its tokens. -/
theorem x_at (i : ℕ) (hi : i < 160) (r : Fin 512) (d : Fin 4096) :
    XB (bX (tabs m) hok (entry m) c (pt i 0 hi (by omega))) (ix2 r d) = tokenAt (arg1 m c) (arg3 m c) ⟨i, hi⟩ r d := by
  rw [XB_at]
  unfold tokenAt
  have hB := (blockOf (arg1 m c) ⟨i, hi⟩).isLt
  refine congrArg (halfOf · _) ((bX_read (tabs m) hok (entry m) c _ (blockOf (arg1 m c) ⟨i, hi⟩).val ?_ r _ (by omega)).trans ?_)
  · exact (T0 _ _).trans (congrArg (fun a => ![a, 0]) (tb_low m c hb i 0 hi (by omega) (by omega) _))
  · rw [entry_unwritten m c main_arg3 (by decide)]

include he hb in
/-- The hidden values of a point of a tile in use. -/
theorem hid_at (i k : ℕ) (hi : i < 160) (hk : k < 2) (ha : act (nuW (tabs m)) i) (r f : Fin 512) :
    hid (tabs m) hok (entry m) c i k hi (by omega) (ix3 0 r f)
      = hiddenAt (arg0 m c) (arg1 m c) (arg3 m c) (arg4 m c) (arg5 m c) (arg6 m c) (arg7 m c) ⟨i, hi⟩ r ⟨512 * k + f.val, by omega⟩ := by
  have hE := (expertOf (arg0 m c) ⟨i, hi⟩).isLt
  have hj := jx m i k hi hk ha
  have t1 : cc0_transform_1 k0_off2_inb numel1_S1 inb_S1_S1_0 (tabs m) (grid0.coords (pt i k hi (by omega))) = ![(expertOf (arg0 m c) ⟨i, hi⟩).val, 0, k] := by
    exact (T1 _ _).trans (congrArg₂ (fun a b => ![a, 0, b]) (te_at m c he i k hi (by omega) _) hj)
  have t3 : cc0_transform_3 k0_off2_inb numel1_S1 inb_S1_S1_0 (tabs m) (grid0.coords (pt i k hi (by omega))) = ![(expertOf (arg0 m c) ⟨i, hi⟩).val, 0, k] := by
    exact (T3 _ _).trans (congrArg₂ (fun a b => ![a, 0, b]) (te_at m c he i k hi (by omega) _) hj)
  have t4 : cc0_transform_4 k0_off2_inb numel1_S1 inb_S1_S1_0 (tabs m) (grid0.coords (pt i k hi (by omega))) = ![(expertOf (arg0 m c) ⟨i, hi⟩).val, 0, k] := by
    exact (T4 _ _).trans (congrArg₂ (fun a b => ![a, 0, b]) (te_at m c he i k hi (by omega) _) hj)
  have t2 : cc0_transform_2 k0_off1_inb numel1_S1 inb_S1_S1_0 (tabs m) (grid0.coords (pt i k hi (by omega))) = ![(expertOf (arg0 m c) ⟨i, hi⟩).val, 0, k] := by
    obtain ⟨x, C, hC, h2⟩ := T2 (tabs m) (grid0.coords (pt i k hi (by omega)))
    refine h2.trans (congrArg₂ (fun a b => ![a, 0, b]) (te_low m c he i k hi (by omega) hk _) ?_)
    rw [coord0, coord1, sel_ahead_low i k hk, hC]
    exact if_pos ha
  unfold hid
  refine (pay3_at _ _ _ _ _ _ _).trans ?_
  unfold hiddenAt
  refine congrArg₂ glu (congrArg₂ (· + ·) (Finset.sum_congr rfl fun d _ => ?_) ?_) (congrArg₂ (· + ·) (Finset.sum_congr rfl fun d _ => ?_) ?_)
  · refine congrArg₂ (· * ·) (x_at m hok c hb i hi r d) ((bG_read (tabs m) hok (entry m) c _ _ k t1 hE d f (by omega)).trans ?_)
    rw [entry_v0]
  · refine (bg_read (tabs m) hok (entry m) c _ _ k t3 hE 0 f (by omega)).trans (entry_v1 m c _ _)
  · refine congrArg₂ (· * ·) (x_at m hok c hb i hi r d) ((bU_read (tabs m) hok (entry m) c _ _ k t2 hE d f (by omega)).trans ?_)
    rw [entry_v2]
  · refine (bu_read (tabs m) hok (entry m) c _ _ k t4 hE 0 f (by omega)).trans (entry_v3 m c _ _)

include he hb in
/-- What a later point of a tile leaves in the result's block. -/
theorem out_at (i k : ℕ) (hi : i < 160) (hk : k < 4) (h2 : 2 ≤ k) (ρ C : Fin 1024) :
    outAt (tabs m) hok (entry m) c i k hi hk (ix2 ρ C)
      = tokenOut (arg0 m c) (arg1 m c) (arg2 m c) (arg3 m c) (arg4 m c) (arg5 m c) (arg6 m c) (arg7 m c) (arg8 m c) (arg9 m c)
          ⟨i, hi⟩ ⟨ρ.val / 2, by omega⟩ ⟨2048 * (ρ.val % 2) + (1024 * (k - 2) + C.val), by omega⟩ := by
  unfold outAt tokenOut
  by_cases ha : act (nuW (tabs m)) i
  · have ha' : Scalar.cmpi .slt (BitVec.ofNat 32 i) (arg2 m c (Idealize.ShloMosaic.ix1 0)) = 1#1 := nu_eq m c ▸ ha
    rw [if_pos ha, if_pos ha']
    have hE := (expertOf (arg0 m c) ⟨i, hi⟩).isLt
    have hj : (if act (nuW (tabs m)) (grid0.coords (pt i k hi hk) 0).val then (grid0.coords (pt i k hi hk) 1).val - 2 else 1) = k - 2 := by
      rw [coord0, coord1, if_pos ha]
    have t5 : cc0_transform_5 k0_off2_inb numel1_S1 inb_S1_S1_0 (tabs m) (grid0.coords (pt i k hi hk)) = ![(expertOf (arg0 m c) ⟨i, hi⟩).val, 0, k - 2] := by
      exact (T5 _ _).trans (congrArg₂ (fun a b => ![a, 0, b]) (te_at m c he i k hi hk _) hj)
    have t7 : cc0_transform_7 k0_off2_inb numel1_S1 inb_S1_S1_0 (tabs m) (grid0.coords (pt i k hi hk)) = ![(expertOf (arg0 m c) ⟨i, hi⟩).val, 0, k - 2] := by
      exact (T7 _ _).trans (congrArg₂ (fun a b => ![a, 0, b]) (te_at m c he i k hi hk _) hj)
    have t6 : cc0_transform_6 k0_off2_inb numel1_S1 inb_S1_S1_0 (tabs m) (grid0.coords (pt i k hi hk)) = ![(expertOf (arg0 m c) ⟨i, hi⟩).val, 0, 2 + (k - 2)] := by
      exact (T6 _ _).trans (congrArg₂ (fun a b => ![a, 0, 2 + b]) (te_at m c he i k hi hk _) hj)
    have t8 : cc0_transform_8 k0_off2_inb numel1_S1 inb_S1_S1_0 (tabs m) (grid0.coords (pt i k hi hk)) = ![(expertOf (arg0 m c) ⟨i, hi⟩).val, 0, 2 + (k - 2)] := by
      exact (T8 _ _).trans (congrArg₂ (fun a b => ![a, 0, 2 + b]) (te_at m c he i k hi hk _) hj)
    have h0 := fun f : Fin 512 => hid_at m hok c he hb i 0 hi (by omega) ha ⟨ρ.val / 2, by omega⟩ f
    have h1 := fun f : Fin 512 => hid_at m hok c he hb i 1 hi (by omega) ha ⟨ρ.val / 2, by omega⟩ f
    have H0 : ∀ f : Fin 512, hid (tabs m) hok (entry m) c i 0 hi (by omega) (ix3 0 ⟨ρ.val / 2, by omega⟩ f)
        = hiddenAt (arg0 m c) (arg1 m c) (arg3 m c) (arg4 m c) (arg5 m c) (arg6 m c) (arg7 m c) ⟨i, hi⟩ ⟨ρ.val / 2, by omega⟩ ⟨f.val, by omega⟩ := fun f =>
      (h0 f).trans (congrArg _ (Fin.ext (by show 512 * 0 + f.val = f.val; omega)))
    have H1 : ∀ f : Fin 512, hid (tabs m) hok (entry m) c i 1 hi (by omega) (ix3 0 ⟨ρ.val / 2, by omega⟩ f)
        = hiddenAt (arg0 m c) (arg1 m c) (arg3 m c) (arg4 m c) (arg5 m c) (arg6 m c) (arg7 m c) ⟨i, hi⟩ ⟨ρ.val / 2, by omega⟩ ⟨512 + f.val, by omega⟩ := fun f =>
      (h1 f).trans (congrArg _ (Fin.ext (by show 512 * 1 + f.val = 512 + f.val; omega)))
    unfold outV
    refine (pay4_at _ _ _ _).trans ?_
    split
    · next hp =>
      refine (half8 _ _ _ _ _ _ _ H0 H1).trans ?_
      have hn : (⟨1024 * (k - 2) + C.val, by omega⟩ : Fin 4096) = ⟨2048 * (ρ.val % 2) + (1024 * (k - 2) + C.val), by omega⟩ :=
        Fin.ext (by show 1024 * (k - 2) + C.val = 2048 * (ρ.val % 2) + (1024 * (k - 2) + C.val); omega)
      refine congrArg₂ (· + ·) (Finset.sum_congr rfl fun f _ => congrArg₂ (· * ·) rfl ?_) ?_
      · refine (bD_read (tabs m) hok (entry m) c _ _ (k - 2) t5 hE f C (by omega)).trans ?_
        rw [entry_v4, hn]
      · refine (bd_read (tabs m) hok (entry m) c _ _ (k - 2) t7 hE 0 C (by omega)).trans ((entry_v5 m c _ _).trans ?_)
        rw [hn]
    · next hp =>
      refine (half9 _ _ _ _ _ _ _ H0 H1).trans ?_
      have hn : (⟨1024 * (2 + (k - 2)) + C.val, by omega⟩ : Fin 4096) = ⟨2048 * (ρ.val % 2) + (1024 * (k - 2) + C.val), by omega⟩ :=
        Fin.ext (by show 1024 * (2 + (k - 2)) + C.val = 2048 * (ρ.val % 2) + (1024 * (k - 2) + C.val); omega)
      refine congrArg₂ (· + ·) (Finset.sum_congr rfl fun f _ => congrArg₂ (· * ·) rfl ?_) ?_
      · refine (bE_read (tabs m) hok (entry m) c _ _ (2 + (k - 2)) t6 hE f C (by omega)).trans ?_
        rw [entry_v4, hn]
      · refine (be_read (tabs m) hok (entry m) c _ _ (2 + (k - 2)) t8 hE 0 C (by omega)).trans ((entry_v5 m c _ _).trans ?_)
        rw [hn]
  · have ha' : ¬ Scalar.cmpi .slt (BitVec.ofNat 32 i) (arg2 m c (Idealize.ShloMosaic.ix1 0)) = 1#1 := nu_eq m c ▸ ha
    rw [if_neg ha, if_neg ha']
    exact pay5_at ρ C

end

end Cert.KernelIdeal.Val

end
-- ==== Proof.Result.lean ====
/- The kernel's result array after the run. -/
module

public import proofs.«01_k».proof.Proof.Values
public import proofs.«01_k».proof.Proof.Frame
public import Idealize.ShloMosaic.Lib.Pipeline.Value

@[expose] public section

set_option maxRecDepth 16384

noncomputable section

namespace Cert.KernelIdeal.Val

open Cert.KernelIdeal Cert.KernelIdeal.Gen Cert.KernelIdeal.Body
open Idealize.ShloMosaic Idealize.ShloMosaic.TcCoe Cert.Routed

section
variable (pf : pre0.Contents (Elt Ideal)) (hok : ok0 pf)

/-- The result's block index at a point. -/
theorem index9 (i k : ℕ) (hi : i < 160) (hk : k < 4) : ((cfgA pf hok).win 9).index (pt i k hi hk) = ![i, k - 2] := by
  refine (show ((cfgA pf hok).win 9).index (pt i k hi hk) = cc0_transform_9 (grid0.coords (pt i k hi hk)) from rfl).trans ?_
  rw [T9, coord0, coord1]

/-- The result's block is written back after the later points of a tile and after no others. -/
theorem flush9 (i k : ℕ) (hi : i < 160) (hk : k < 4) : ((cfgA pf hok).win 9).flush (pt i k hi hk) = true ↔ 2 ≤ k := by
  have hN : grid0.N = 640 := N_0
  have hout : ((cfgA pf hok).win 9).isOut = true := rfl
  have key : ∀ h : (pt i k hi hk).val + 1 < grid0.N, ((cfgA pf hok).win 9).index ⟨(pt i k hi hk).val + 1, h⟩ ≠ ((cfgA pf hok).win 9).index (pt i k hi hk) ↔ 2 ≤ k := by
    intro h
    obtain ⟨i', k', hi', hk', e⟩ := pt_of ⟨(pt i k hi hk).val + 1, h⟩
    rw [e, index9, index9]
    have ev : 4 * i + k + 1 = 4 * i' + k' := congrArg Fin.val e
    constructor
    · intro hne
      by_contra hlt
      refine hne ?_
      have h1 : i' = i := by omega
      have h2 : k' - 2 = k - 2 := by omega
      rw [h1, h2]
    · intro h2 heq
      have h1 : i' = i := congrFun heq 0
      have h3 : k' - 2 = k - 2 := congrFun heq 1
      omega
  unfold Pipeline.Window.flush
  rw [hout, Bool.true_and, Bool.or_eq_true, decide_eq_true_iff, decide_eq_true_iff]
  constructor
  · rintro (h | ⟨h, hne⟩)
    · have : 4 * i + k + 1 = 640 := h.trans hN
      omega
    · exact (key h).1 hne
  · intro h2
    by_cases h : (pt i k hi hk).val + 1 < grid0.N
    · exact Or.inr ⟨h, (key h).2 h2⟩
    · refine Or.inl ?_
      have := (pt i k hi hk).isLt
      show (pt i k hi hk).val + 1 = grid0.N
      omega

/-- Where a block's element lies in the result array. -/
theorem emb9 (i k : ℕ) (hi : i < 160) (hk : k < 4) (h2 : 2 ≤ k) (ρ C : Fin 1024) :
    (((cfgA pf hok).win 9).blk (pt i k hi hk)).view.emb (ix2 ρ C)
      = (ix2 ⟨1024 * i + ρ.val, by omega⟩ ⟨1024 * (k - 2) + C.val, by omega⟩ : S163840x2048.Idx) := by
  funext a
  refine Fin.ext ?_
  refine (((cfgA pf hok).win 9).rect_emb_val (pt i k hi hk) (ix2 ρ C) a rfl).trans ?_
  rw [index9]
  match a with
  | ⟨0, _⟩ => exact congrArg (· + ρ.val) (Nat.mul_comm i 1024)
  | ⟨1, _⟩ => exact congrArg (· + C.val) (Nat.mul_comm (k - 2) 1024)

/-- Every element of the result array lies in a block that is written back. -/
theorem cover9 (j : S163840x2048.Idx) : ∃ t y, ((cfgA pf hok).win 9).flush t = true ∧ (((cfgA pf hok).win 9).blk t).view.emb y = j := by
  have h0 : (j (0 : Fin 2)).val < 163840 := (j (0 : Fin 2)).isLt
  have h1 : (j (1 : Fin 2)).val < 2048 := (j (1 : Fin 2)).isLt
  have e := emb9 pf hok ((j (0 : Fin 2)).val / 1024) (2 + (j (1 : Fin 2)).val / 1024) (by omega) (by omega) (by omega)
    ⟨(j (0 : Fin 2)).val % 1024, by omega⟩ ⟨(j (1 : Fin 2)).val % 1024, by omega⟩
  refine ⟨_, _, (flush9 pf hok ((j (0 : Fin 2)).val / 1024) (2 + (j (1 : Fin 2)).val / 1024) (by omega) (by omega)).2 (by omega), e.trans ?_⟩
  funext a
  match a with
  | ⟨0, _⟩ => exact Fin.ext (by show 1024 * ((j (0 : Fin 2)).val / 1024) + (j (0 : Fin 2)).val % 1024 = (j (0 : Fin 2)).val; omega)
  | ⟨1, _⟩ => exact Fin.ext (by show 1024 * (2 + (j (1 : Fin 2)).val / 1024 - 2) + (j (1 : Fin 2)).val % 1024 = (j (1 : Fin 2)).val; omega)

end

section
variable (m : (ℓ : Loc nD τ sig) → Buf (Elt Ideal) ℓ) (hok : ok0 (tabs m)) (c : Dev nD)

/-- The result array, from the launch's arguments. -/
def resultArr : FVec Ideal S163840x2048 .bf16 := fun j =>
  resultAt (arg0 m c) (arg1 m c) (arg2 m c) (arg3 m c) (arg4 m c) (arg5 m c) (arg6 m c) (arg7 m c) (arg8 m c) (arg9 m c) (j 0) (j 1)

variable (he : ∀ i, (arg0 m c i).toNat < 32) (hb : ∀ i, (arg1 m c i).toNat < 160)

include he hb in
theorem block_at (i k : ℕ) (hi : i < 160) (hk : k < 4) (h2 : 2 ≤ k) (ρ C : Fin 1024) :
    outAt (tabs m) hok (entry m) c i k hi hk (ix2 ρ C)
      = resultArr m c ((((cfgA (tabs m) hok).win 9).blk (pt i k hi hk)).view.emb (ix2 ρ C)) := by
  rw [emb9 (tabs m) hok i k hi hk h2, out_at m hok c he hb i k hi hk h2]
  show _ = resultAt _ _ _ _ _ _ _ _ _ _ (⟨1024 * i + ρ.val, by omega⟩ : Fin 163840) (⟨1024 * (k - 2) + C.val, by omega⟩ : Fin 2048)
  unfold resultAt
  have e1 : (⟨(1024 * i + ρ.val) / 1024, by omega⟩ : Fin 160) = ⟨i, hi⟩ := Fin.ext (by show (1024 * i + ρ.val) / 1024 = i; omega)
  have e2 : (⟨(1024 * i + ρ.val) % 1024 / 2, by omega⟩ : Fin 512) = ⟨ρ.val / 2, by omega⟩ :=
    Fin.ext (by show (1024 * i + ρ.val) % 1024 / 2 = ρ.val / 2; omega)
  have e3 : (⟨2048 * ((1024 * i + ρ.val) % 2) + (1024 * (k - 2) + C.val), by omega⟩ : Fin 4096) = ⟨2048 * (ρ.val % 2) + (1024 * (k - 2) + C.val), by omega⟩ :=
    Fin.ext (by show 2048 * ((1024 * i + ρ.val) % 2) + (1024 * (k - 2) + C.val) = 2048 * (ρ.val % 2) + (1024 * (k - 2) + C.val); omega)
  rw [← e1, ← e2, ← e3]

include he hb in
/-- The result array after the run is the one the arguments determine. -/
theorem result_eq {r : PUnit × MemSt nD τ sig (Elt Ideal)}
    (h : Pipeline.RDat.FramePost (cfgA (tabs m) hok) (rd (tabs m) hok (entry m)) (entry m) r) :
    r.2.mem ((c.tc : Thread nD τ).loc main_v6) = resultArr m c := by
  obtain ⟨after, hL, hA⟩ := h.exists_exact c
  refine (hA (9 : Fin 10)).trans ?_
  refine Pipeline.Dat.arrAt_eq_of_cover (((rd (tabs m) hok (entry m)) c).withAfter after) (9 : Fin 10) _ ?_ ?_
  · intro t hf
    obtain ⟨i, k, hi, hk, rfl⟩ := pt_of t
    have h2 := (flush9 (tabs m) hok i k hi hk).1 hf
    obtain ⟨Y, _, hX⟩ := hL (9 : Fin 10) (pt i k hi hk) hf
    have hX' := hX i k hi hk rfl h2
    funext y
    refine (congrFun hX' _).trans ?_
    obtain ⟨ρ, C, rfl⟩ : ∃ ρ C : Fin 1024, y = ix2 ρ C := ⟨y 0, y 1, eq_ix2 y⟩
    exact block_at m hok c he hb i k hi hk h2 ρ C
  · intro j
    obtain ⟨t, y, hf, e⟩ := cover9 (tabs m) hok j
    refine ⟨t, hf, ?_⟩
    have := View.emb_mem_set (((cfgA (tabs m) hok).win 9).blk t).view y
    rw [e] at this
    exact this

end

end Cert.KernelIdeal.Val

end
-- ==== Proof.RefGather.lean ====
/- The reference's result read one element at a time. -/
module

public import proofs.«01_k».proof.Proof.Spec
public import proofs.«01_k».proof.Proof.Gen.ReferenceIdeal.Run
public import Idealize.ShloMosaic.Lib.BitcastConvert

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Cert.Routed

theorem gx_at {α : Type} (x : S160x512x4096.Idx → α) (idx : IVec S160x1 32) (p : Fin 160) (a : Fin 512) (b : Fin 4096) :
    Host.gather gather_S160x512x4096_S160x1_S160x512x4096_12_0_n_n_0_1_15124096 x idx (ix3 p a b)
      = x (ix3 ⟨min (idx (ix2 p 0)).toInt.toNat 159, by omega⟩ a b) :=
  slab_at (by decide) _ x idx p a b

theorem gw_at {α : Type} (x : S32x4096x1024.Idx → α) (idx : IVec S160x1 32) (p : Fin 160) (a : Fin 4096) (b : Fin 1024) :
    Host.gather gather_S32x4096x1024_S160x1_S160x4096x1024_12_0_n_n_0_1_140961024 x idx (ix3 p a b)
      = x (ix3 ⟨min (idx (ix2 p 0)).toInt.toNat 31, by omega⟩ a b) :=
  slab_at (by decide) _ x idx p a b

theorem dw_at {α : Type} (x : S32x1024x4096.Idx → α) (idx : IVec S160x1 32) (p : Fin 160) (a : Fin 1024) (b : Fin 4096) :
    Host.gather gather_S32x1024x4096_S160x1_S160x1024x4096_12_0_n_n_0_1_110244096 x idx (ix3 p a b)
      = x (ix3 ⟨min (idx (ix2 p 0)).toInt.toNat 31, by omega⟩ a b) :=
  slab_at (by decide) _ x idx p a b

theorem gb_at {α : Type} (x : S32x1024.Idx → α) (idx : IVec S160x1 32) (p : Fin 160) (a : Fin 1024) :
    Host.gather gather_S32x1024_S160x1_S160x1024_1_0_n_n_0_1_11024 x idx (ix2 p a)
      = x (ix2 ⟨min (idx (ix2 p 0)).toInt.toNat 31, by omega⟩ a) :=
  row_at (by decide) _ x idx p a

theorem db_at {α : Type} (x : S32x4096.Idx → α) (idx : IVec S160x1 32) (p : Fin 160) (a : Fin 4096) :
    Host.gather gather_S32x4096_S160x1_S160x4096_1_0_n_n_0_1_14096 x idx (ix2 p a)
      = x (ix2 ⟨min (idx (ix2 p 0)).toInt.toNat 31, by omega⟩ a) :=
  row_at (by decide) _ x idx p a

/-- A wrapped index that is in range is itself: the column of start indices at a tile. -/
theorem e_at (a : IVec S160 32) (K : BitVec 32) (p : Fin 160) (h : (a (ix1 p)).toNat < 2 ^ 31) :
    broadcastInDim S160x1 ![0] bcast_S160_S160x1_0 (select (cmpi .slt a (broadcastInDim S160 ![] bcast_S_S160 (constantI S_ 32 0#32))) (addi a (broadcastInDim S160 ![] bcast_S_S160 (constantI S_ 32 K))) a) (ix2 p 0) = a (ix1 p) := by
  pointwise []
  have hn : IntOp.cmpi CmpIPredicate.slt (a (ix1 p)) 0#32 = 0#1 := by
    have := not_neg _ h
    unfold IntOp.cmpi
    simp [BitVec.slt, this]
  rw [hn]
  rfl

/-- A tile's slab of the tokens. -/
theorem tok_at (a1 : IVec S160 32) (a3 : IVec S81920x2048 32) (hb : ∀ i, (a1 i).toNat < 160) (i : Fin 160) (r : Fin 512) (d : Fin 4096) :
    Host.gather gather_S160x512x4096_S160x1_S160x512x4096_12_0_n_n_0_1_15124096 (shapeCast S160x512x4096 (concatenate S81920x4096 1 [⟨S81920x2048, (shapeCast S81920x2048 (extractStridedSlice S81920x2048x1 ![0, 0, 0] (bitcastToFloat (F := Ideal) .bf16 (Host.bitcastConvertNarrow S81920x2048x2 16 a3 splits_S81920x2048_w32_S81920x2048x2_w16)) slices_S81920x2048x2_S81920x2048x1_0_0_0) shapeCasts_S81920x2048x1_S81920x2048)⟩, ⟨S81920x2048, (shapeCast S81920x2048 (extractStridedSlice S81920x2048x1 ![0, 0, 1] (bitcastToFloat (F := Ideal) .bf16 (Host.bitcastConvertNarrow S81920x2048x2 16 a3 splits_S81920x2048_w32_S81920x2048x2_w16)) slices_S81920x2048x2_S81920x2048x1_0_0_1) shapeCasts_S81920x2048x1_S81920x2048)⟩] concatenates_S81920x2048_S81920x2048_S81920x4096_d1) shapeCasts_S81920x4096_S160x512x4096) (broadcastInDim S160x1 ![0] bcast_S160_S160x1_0 (select (cmpi .slt a1 (broadcastInDim S160 ![] bcast_S_S160 (constantI S_ 32 0#32))) (addi a1 (broadcastInDim S160 ![] bcast_S_S160 (constantI S_ 32 160#32))) a1)) (ix3 i r d)
      = tokenAt a1 a3 i r d := by
  have hi := hb (ix1 i)
  have e : (⟨min (broadcastInDim S160x1 ![0] bcast_S160_S160x1_0 (select (cmpi .slt a1 (broadcastInDim S160 ![] bcast_S_S160 (constantI S_ 32 0#32))) (addi a1 (broadcastInDim S160 ![] bcast_S_S160 (constantI S_ 32 160#32))) a1) (ix2 i 0)).toInt.toNat 159, by omega⟩ : Fin 160) = blockOf a1 i := by
    refine Fin.ext ?_
    show min _ _ = _
    rw [e_at a1 _ i (by omega)]
    exact clamp_eq _ 160 (by decide) hi
  rw [gx_at, e]
  unfold tokenAt halfOf
  pointwise []
  split
  · next h =>
    rw [show d.val / 2048 = 0 by omega]
    refine congrArg (fun z => Ideal.ofBits FTy.bf16 (BitVec.extractLsb' 0 16 (a3 z))) ?_
    idx_ext
  · next h =>
    rw [show d.val / 2048 = 1 by omega]
    refine congrArg (fun z => Ideal.ofBits FTy.bf16 (BitVec.extractLsb' 16 16 (a3 z))) ?_
    idx_ext

theorem slab_e (a0 : IVec S160 32) (w : FVec Ideal S32x4096x1024 .f32) (he : ∀ i, (a0 i).toNat < 32) (i : Fin 160) (d : Fin 4096) (f : Fin 1024) :
    Host.gather gather_S32x4096x1024_S160x1_S160x4096x1024_12_0_n_n_0_1_140961024 (truncf (F := Ideal) .bf16 w) (broadcastInDim S160x1 ![0] bcast_S160_S160x1_0 (select (cmpi .slt a0 (broadcastInDim S160 ![] bcast_S_S160 (constantI S_ 32 0#32))) (addi a0 (broadcastInDim S160 ![] bcast_S_S160 (constantI S_ 32 32#32))) a0)) (ix3 i d f)
      = w (ix3 (expertOf a0 i) d f) := by
  rw [gw_at]
  have hi := he (ix1 i)
  refine congrArg w (congrArg (fun z => ix3 z d f) (Fin.ext ?_))
  show min _ _ = _
  rw [e_at a0 _ i (by omega)]; exact clamp_eq _ 32 (by decide) hi

theorem slab_d (a0 : IVec S160 32) (w : FVec Ideal S32x1024x4096 .f32) (he : ∀ i, (a0 i).toNat < 32) (i : Fin 160) (f : Fin 1024) (n : Fin 4096) :
    Host.gather gather_S32x1024x4096_S160x1_S160x1024x4096_12_0_n_n_0_1_110244096 (truncf (F := Ideal) .bf16 w) (broadcastInDim S160x1 ![0] bcast_S160_S160x1_0 (select (cmpi .slt a0 (broadcastInDim S160 ![] bcast_S_S160 (constantI S_ 32 0#32))) (addi a0 (broadcastInDim S160 ![] bcast_S_S160 (constantI S_ 32 32#32))) a0)) (ix3 i f n)
      = w (ix3 (expertOf a0 i) f n) := by
  rw [dw_at]
  have hi := he (ix1 i)
  refine congrArg w (congrArg (fun z => ix3 z f n) (Fin.ext ?_))
  show min _ _ = _
  rw [e_at a0 _ i (by omega)]; exact clamp_eq _ 32 (by decide) hi

theorem row_e (a0 : IVec S160 32) (w : FVec Ideal S32x1024 .f32) (he : ∀ i, (a0 i).toNat < 32) (i : Fin 160) (f : Fin 1024) :
    Host.gather gather_S32x1024_S160x1_S160x1024_1_0_n_n_0_1_11024 w (broadcastInDim S160x1 ![0] bcast_S160_S160x1_0 (select (cmpi .slt a0 (broadcastInDim S160 ![] bcast_S_S160 (constantI S_ 32 0#32))) (addi a0 (broadcastInDim S160 ![] bcast_S_S160 (constantI S_ 32 32#32))) a0)) (ix2 i f)
      = w (ix2 (expertOf a0 i) f) := by
  rw [gb_at]
  have hi := he (ix1 i)
  refine congrArg w (congrArg (fun z => ix2 z f) (Fin.ext ?_))
  show min _ _ = _
  rw [e_at a0 _ i (by omega)]; exact clamp_eq _ 32 (by decide) hi

theorem row_d (a0 : IVec S160 32) (w : FVec Ideal S32x4096 .f32) (he : ∀ i, (a0 i).toNat < 32) (i : Fin 160) (n : Fin 4096) :
    Host.gather gather_S32x4096_S160x1_S160x4096_1_0_n_n_0_1_14096 w (broadcastInDim S160x1 ![0] bcast_S160_S160x1_0 (select (cmpi .slt a0 (broadcastInDim S160 ![] bcast_S_S160 (constantI S_ 32 0#32))) (addi a0 (broadcastInDim S160 ![] bcast_S_S160 (constantI S_ 32 32#32))) a0)) (ix2 i n)
      = w (ix2 (expertOf a0 i) n) := by
  rw [db_at]
  have hi := he (ix1 i)
  refine congrArg w (congrArg (fun z => ix2 z n) (Fin.ext ?_))
  show min _ _ = _
  rw [e_at a0 _ i (by omega)]; exact clamp_eq _ 32 (by decide) hi

end Cert.ReferenceIdeal.Val

end
-- ==== Proof.RefAt.lean ====
/- The reference's result read one element at a time. -/
module

public import proofs.«01_k».proof.Proof.RefGather
public import proofs.«01_k».proof.Proof.Gen.ReferenceIdeal.Run
public import Idealize.ShloMosaic.Lib.BitcastConvert

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Cert.Routed

/-- A first-layer branch before its nonlinearity, at an index. -/
theorem branch_at (X : FVec Ideal S160x512x4096 .bf16) (G : FVec Ideal S160x4096x1024 .bf16) (g : FVec Ideal S160x1024 .f32)
    (i : Fin 160) (r : Fin 512) (f : Fin 1024) :
    addf (Host.dotGeneral dot_S160x512x4096_S160x4096x1024_S160x512x1024_2_1_1_2_0_0 none X G)
        (broadcastInDim S160x512x1024 ![0, 1, 2] bcast_S160x1x1024_S160x512x1024_0_1_2 (broadcastInDim S160x1x1024 ![0, 2] bcast_S160x1024_S160x1x1024_0_2 g)) (ix3 i r f)
      = (∑ d : Fin 4096, X (ix3 i r d) * G (ix3 i d f)) + g (ix2 i f) := by
  pointwise []

/-- The hidden rows from the two branches, at an index. -/
theorem unit_at (A B : FVec Ideal S160x512x1024 .f32) (i : Fin 160) (r : Fin 512) (f : Fin 1024) :
    truncf (F := Ideal) .bf16 (mulf (mulf (minimumf A (broadcastInDim S160x512x1024 ![] bcast_S_S160x512x1024 (constant S_ .f32 0x40E00000#32))) (Host.divf (broadcastInDim S160x512x1024 ![] bcast_S_S160x512x1024 (constant S_ .f32 0x3F800000#32)) (addf (broadcastInDim S160x512x1024 ![] bcast_S_S160x512x1024 (constant S_ .f32 0x3F800000#32)) (Host.exp (Host.negf (mulf (broadcastInDim S160x512x1024 ![] bcast_S_S160x512x1024 (constant S_ .f32 0x3FD9DB23#32)) (minimumf A (broadcastInDim S160x512x1024 ![] bcast_S_S160x512x1024 (constant S_ .f32 0x40E00000#32))))))))) (addf (minimumf (broadcastInDim S160x512x1024 ![] bcast_S_S160x512x1024 (id (constant S_ .f32 0x40E00000#32))) (maximumf (broadcastInDim S160x512x1024 ![] bcast_S_S160x512x1024 (id (constant S_ .f32 0xC0E00000#32))) B)) (broadcastInDim S160x512x1024 ![] bcast_S_S160x512x1024 (constant S_ .f32 0x3F800000#32)))) bitsLt_bf16_f32 (ix3 i r f)
      = glu (A (ix3 i r f)) (B (ix3 i r f)) := by
  pointwise []
  rfl

/-- The second product with its bias, at an index. -/
theorem second_at (H : FVec Ideal S160x512x1024 .bf16) (D : FVec Ideal S160x1024x4096 .bf16) (d : FVec Ideal S160x4096 .f32)
    (i : Fin 160) (r : Fin 512) (n : Fin 4096) :
    addf (Host.dotGeneral dot_S160x512x1024_S160x1024x4096_S160x512x4096_2_1_1_2_0_0 none H D)
        (broadcastInDim S160x512x4096 ![0, 1, 2] bcast_S160x1x4096_S160x512x4096_0_1_2 (broadcastInDim S160x1x4096 ![0, 2] bcast_S160x4096_S160x1x4096_0_2 d)) (ix3 i r n)
      = (∑ f : Fin 1024, H (ix3 i r f) * D (ix3 i f n)) + d (ix2 i n) := by
  pointwise []

/-- The rows of the tiles in use, zero on the others, laid out as the result. -/
theorem used_at (A2 : IVec S1 32) (Y : FVec Ideal S160x512x4096 .f32) (R : Fin 163840) (C : Fin 2048) :
    shapeCast S163840x2048 (truncf (F := Ideal) .bf16 (select (broadcastInDim S160x512x4096 ![0, 1, 2] bcast_S160x1x1_S160x512x4096_0_1_2 (broadcastInDim S160x1x1 ![0] bcast_S160_S160x1x1_0 (cmpi .slt (iotaInDim S160 32 0) (broadcastInDim S160 ![] bcast_S_S160 (shapeCast S_ A2 shapeCasts_S1_S_))))) Y
        (broadcastInDim S160x512x4096 ![] bcast_S_S160x512x4096 (id (constant S_ .f32 0x00000000#32)))) bitsLt_bf16_f32) shapeCasts_S160x512x4096_S163840x2048 (ix2 R C)
      = if Scalar.cmpi .slt (BitVec.ofNat 32 (R.val / 1024)) (A2 (ix1 0)) = 1#1 then
          Y (ix3 ⟨R.val / 1024, by omega⟩ ⟨R.val % 1024 / 2, by omega⟩ ⟨2048 * (R.val % 2) + C.val, by omega⟩)
        else (0 : EReal) := by
  have hz : (id (constant (F := Ideal) S_ .f32 0x00000000#32)) = fun _ => (0 : EReal) := by
    funext j
    exact Ideal.ofBits_zero_f32
  rw [hz]
  pointwise []
  unfold Scalar.select
  have e : (ix3 ⟨R.val / 1024, by omega⟩ ⟨R.val / 2 % 512, by omega⟩ ⟨R.val % 2 * 2048 + C.val, by omega⟩ : S160x512x4096.Idx)
      = ix3 ⟨R.val / 1024, by omega⟩ ⟨R.val % 1024 / 2, by omega⟩ ⟨2048 * (R.val % 2) + C.val, by omega⟩ := by
    idx_ext
  rw [e]
  rfl

set_option maxHeartbeats 8000000 in
/-- The reference's result at an index. -/
theorem res_at (m : (ℓ : Loc nD τ sig) → Buf (Elt Ideal) ℓ) (c : Dev nD) (A0 A1 : IVec S160 32) (A2 : IVec S1 32) (A3 : IVec S81920x2048 32)
    (A4 : FVec Ideal S32x4096x1024 .f32) (A5 : FVec Ideal S32x1024 .f32) (A6 : FVec Ideal S32x4096x1024 .f32) (A7 : FVec Ideal S32x1024 .f32)
    (A8 : FVec Ideal S32x1024x4096 .f32) (A9 : FVec Ideal S32x4096 .f32)
    (hA0 : m ((c.tc : Thread nD τ).loc main_arg0) = A0) (hA1 : m ((c.tc : Thread nD τ).loc main_arg1) = A1)
    (hA2 : m ((c.tc : Thread nD τ).loc main_arg2) = A2) (hA3 : m ((c.tc : Thread nD τ).loc main_arg3) = A3)
    (hA4 : m ((c.tc : Thread nD τ).loc main_arg4) = A4) (hA5 : m ((c.tc : Thread nD τ).loc main_arg5) = A5)
    (hA6 : m ((c.tc : Thread nD τ).loc main_arg6) = A6) (hA7 : m ((c.tc : Thread nD τ).loc main_arg7) = A7)
    (hA8 : m ((c.tc : Thread nD τ).loc main_arg8) = A8) (hA9 : m ((c.tc : Thread nD τ).loc main_arg9) = A9)
    (he : ∀ i, (A0 i).toNat < 32) (hb : ∀ i, (A1 i).toNat < 160)
    (R : Fin 163840) (C : Fin 2048) :
    res_main_v94 (F := Ideal) m c (ix2 R C) = resultAt A0 A1 A2 A3 A4 A5 A6 A7 A8 A9 R C := by
  unfold res_main_v94
  rw [hA0, hA1, hA2, hA3, hA4, hA5, hA6, hA7, hA8, hA9]
  have hx := tok_at A1 A3 hb
  have hG := slab_e A0 A4 he
  have hg := row_e A0 A5 he
  have hU := slab_e A0 A6 he
  have hu := row_e A0 A7 he
  have hD := slab_d A0 A8 he
  have hd := row_d A0 A9 he
  generalize Host.gather gather_S160x512x4096_S160x1_S160x512x4096_12_0_n_n_0_1_15124096 _ _ = X at hx ⊢
  generalize Host.gather gather_S32x4096x1024_S160x1_S160x4096x1024_12_0_n_n_0_1_140961024 (truncf (F := Ideal) .bf16 A4) _ = G at hG ⊢
  generalize Host.gather gather_S32x4096x1024_S160x1_S160x4096x1024_12_0_n_n_0_1_140961024 (truncf (F := Ideal) .bf16 A6) _ = U at hU ⊢
  generalize Host.gather gather_S32x1024_S160x1_S160x1024_1_0_n_n_0_1_11024 A5 _ = g at hg ⊢
  generalize Host.gather gather_S32x1024_S160x1_S160x1024_1_0_n_n_0_1_11024 A7 _ = u at hu ⊢
  generalize Host.gather gather_S32x1024x4096_S160x1_S160x1024x4096_12_0_n_n_0_1_110244096 (truncf (F := Ideal) .bf16 A8) _ = D at hD ⊢
  generalize Host.gather gather_S32x4096_S160x1_S160x4096_1_0_n_n_0_1_14096 A9 _ = d at hd ⊢
  refine (used_at A2 _ R C).trans ?_
  unfold resultAt tokenOut
  refine if_congr Iff.rfl ?_ rfl
  refine (second_at _ D d _ _ _).trans ?_
  rw [hd]
  refine congrArg (· + _) (Finset.sum_congr rfl fun f _ => ?_)
  rw [hD]
  refine congrArg (· * _) ((unit_at _ _ _ _ _).trans ?_)
  unfold hiddenAt
  rw [branch_at, branch_at, hg, hu]
  refine congrArg₂ glu (congrArg (· + _) (Finset.sum_congr rfl fun k _ => ?_)) (congrArg (· + _) (Finset.sum_congr rfl fun k _ => ?_))
  · rw [hx, hG]
  · rw [hx, hU]

end Cert.ReferenceIdeal.Val

end
-- ==== Proof.Equal.lean ====
/- The kernel's result is the reference's. -/
module

public import proofs.«01_k».proof.Proof.Result
public import proofs.«01_k».proof.Proof.RefAt
public import proofs.«01_k».proof.Proof.Sides

@[expose] public section

noncomputable section

namespace Cert.Proof

open Idealize.ShloMosaic Idealize.SL.Sem

/-- From memories that agree on the arguments, the reference's result is the array that the kernel's arguments determine. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (he : ∀ i, (Cert.KernelIdeal.Val.arg0 m c i).toNat < 32) (hb : ∀ i, (Cert.KernelIdeal.Val.arg1 m c i).toNat < 160)
    (h0 : m' ((c.tc : Thread Cert.ReferenceIdeal.nD Cert.ReferenceIdeal.τ).loc Cert.ReferenceIdeal.main_arg0) = Cert.KernelIdeal.Val.arg0 m c)
    (h1 : m' ((c.tc : Thread Cert.ReferenceIdeal.nD Cert.ReferenceIdeal.τ).loc Cert.ReferenceIdeal.main_arg1) = Cert.KernelIdeal.Val.arg1 m c)
    (h2 : m' ((c.tc : Thread Cert.ReferenceIdeal.nD Cert.ReferenceIdeal.τ).loc Cert.ReferenceIdeal.main_arg2) = Cert.KernelIdeal.Val.arg2 m c)
    (h3 : m' ((c.tc : Thread Cert.ReferenceIdeal.nD Cert.ReferenceIdeal.τ).loc Cert.ReferenceIdeal.main_arg3) = Cert.KernelIdeal.Val.arg3 m c)
    (h4 : m' ((c.tc : Thread Cert.ReferenceIdeal.nD Cert.ReferenceIdeal.τ).loc Cert.ReferenceIdeal.main_arg4) = Cert.KernelIdeal.Val.arg4 m c)
    (h5 : m' ((c.tc : Thread Cert.ReferenceIdeal.nD Cert.ReferenceIdeal.τ).loc Cert.ReferenceIdeal.main_arg5) = Cert.KernelIdeal.Val.arg5 m c)
    (h6 : m' ((c.tc : Thread Cert.ReferenceIdeal.nD Cert.ReferenceIdeal.τ).loc Cert.ReferenceIdeal.main_arg6) = Cert.KernelIdeal.Val.arg6 m c)
    (h7 : m' ((c.tc : Thread Cert.ReferenceIdeal.nD Cert.ReferenceIdeal.τ).loc Cert.ReferenceIdeal.main_arg7) = Cert.KernelIdeal.Val.arg7 m c)
    (h8 : m' ((c.tc : Thread Cert.ReferenceIdeal.nD Cert.ReferenceIdeal.τ).loc Cert.ReferenceIdeal.main_arg8) = Cert.KernelIdeal.Val.arg8 m c)
    (h9 : m' ((c.tc : Thread Cert.ReferenceIdeal.nD Cert.ReferenceIdeal.τ).loc Cert.ReferenceIdeal.main_arg9) = Cert.KernelIdeal.Val.arg9 m c) :
    Cert.ReferenceIdeal.Value.res_main_v94 (F := Ideal) m' c = Cert.KernelIdeal.Val.resultArr m c := by
  funext j
  have hj : j = ix2 (j (0 : Fin 2)) (j (1 : Fin 2)) := eq_ix2 j
  rw [hj]
  exact Cert.ReferenceIdeal.Val.res_at m' c _ _ _ _ _ _ _ _ _ _ h0 h1 h2 h3 h4 h5 h6 h7 h8 h9 he hb _ _

theorem algebraic : algebraic_KernelIdeal_ReferenceIdeal := fun m g m' g' hp hm => by
  have hok := ok_ideal m hp
  have hd := Cert.Routed.decode _ _ _ _ _ _ _ _ _ _ (hp 0)
  have he : ∀ c i, (Cert.KernelIdeal.Val.arg0 m c i).toNat < 32 := fun c i => by
    obtain rfl : c = 0 := Subsingleton.elim _ _
    exact hd.1 i
  have hb : ∀ c i, (Cert.KernelIdeal.Val.arg1 m c i).toNat < 160 := fun c i => by
    obtain rfl : c = 0 := Subsingleton.elim _ _
    exact hd.2 i
  refine ⟨fun c => Cert.KernelIdeal.Val.resultArr m c, ?_, ?_⟩
  · exact θ_run_mono (Cert.KernelIdeal.Body.run m hok g) fun r h c =>
      ⟨Cert.KernelIdeal.Val.result_eq m hok c (he c) (hb c) h.1, Cert.KernelIdeal.Body.kept m hok h.1 c⟩
  · refine θ_run_mono (Cert.ReferenceIdeal.Value.run m' g') fun r h c => ⟨(h c).1.trans ?_, (h c).2⟩
    obtain ⟨h0, h1, h2, h3, h4, h5, h6, h7, h8, h9⟩ := hm c
    exact reference_eq m m' c (he c) (hb c) h0 h1 h2 h3 h4 h5 h6 h7 h8 h9

end Cert.Proof

end
-- ==== Proof.InProjection.lean ====
/- The input projection: the kernel's result and the reference's, one element at a time, and their equality. -/
module

public import proofs.«01_k».proof.Defs
public import proofs.«01_k».proof.Proof.Gen.InProjIdeal.Value
public import proofs.«01_k».proof.Proof.Gen.InProj.Frame
public import proofs.«01_k».proof.Proof.Gen.InRefIdeal.Run
public import Idealize.ShloMosaic.Lib.Pointwise

@[expose] public section

set_option maxRecDepth 16384

noncomputable section

namespace Cert.InProjIdeal.Val

open Cert.InProjIdeal Cert.InProjIdeal.Gen
open Idealize.ShloMosaic Idealize.ShloMosaic.TcCoe

/-- The weight's column that a column of the projection comes from: the 16 low-rank columns are left out. -/
def colOf (C : Fin 14336) : Fin 14352 := if C.val < 6144 then ⟨C.val, by omega⟩ else ⟨C.val + 16, by omega⟩

/-- The projection of the rows, one element at a time. -/
def projAt (X : FVec Ideal S16384x4096 .bf16) (W : FVec Ideal S4096x14352 .f32) (R : Fin 16384) (C : Fin 14336) : EReal :=
  ∑ d : Fin 4096, X (ix2 R d) * W (ix2 d (colOf C))

theorem pay_at (X : FVec Ideal S1024x4096 .bf16) (W : FVec Ideal S4096x1024 .bf16) (r c : Fin 1024) :
    k0_pay1 (F := Ideal) X W (ix2 r c) = ∑ d : Fin 4096, X (ix2 r d) * W (ix2 d c) := by
  pointwise [k0_pay1]

theorem index0 : ∀ t : Fin cfg0.N, (cfg0.win 0).index t = ![t.val % 16, 0] :=
  (by decide +kernel : ∀ t : Fin grid0.N, win0_0.index t = ![t.val % 16, 0])

theorem index1 : ∀ t : Fin cfg0.N, (cfg0.win 1).index t = ![0, t.val / 16] :=
  (by decide +kernel : ∀ t : Fin grid0.N, win0_1.index t = ![0, t.val / 16])

theorem index2 : ∀ t : Fin cfg0.N, (cfg0.win 2).index t = ![t.val % 16, t.val / 16] :=
  (by decide +kernel : ∀ t : Fin grid0.N, win0_2.index t = ![t.val % 16, t.val / 16])

theorem lt_N (t : Fin cfg0.N) : t.val < 224 := lt_of_lt_of_eq t.isLt N_0

section
variable (m : (ℓ : Loc nD τ sig) → Buf (Elt Ideal) ℓ) (c : Dev nD)

/-- The rows. -/
abbrev rows : FVec Ideal S16384x4096 .bf16 := m ((c.tc : Thread nD τ).loc main_arg0)
/-- The weight. -/
abbrev weight : FVec Ideal S4096x14352 .f32 := m ((c.tc : Thread nD τ).loc main_arg1)

/-- The weight as the call takes it: without the low-rank columns. -/
theorem packed_at (d : Fin 4096) (C : Fin 14336) : (V m c main_v4 : Vec Ideal S4096x14336 .bf16) (ix2 d C) = weight m c (ix2 d (colOf C)) := by
  unfold V
  after_results_simp
  show concatenate S4096x14336 1 [⟨S4096x6144, truncf (F := Ideal) .bf16 (extractStridedSlice S4096x6144 ![0, 0] (weight m c) slices_S4096x14352_S4096x6144_0_0) bitsLt_bf16_f32⟩,
    ⟨S4096x8192, truncf (F := Ideal) .bf16 (extractStridedSlice S4096x8192 ![0, 6160] (weight m c) slices_S4096x14352_S4096x8192_0_6160) bitsLt_bf16_f32⟩] concatenates_S4096x6144_S4096x8192_S4096x14336_d1 (ix2 d C) = _
  generalize weight m c = W
  unfold colOf
  pointwise []
  by_cases h : C.val < 6144
  · rw [dif_pos h, if_pos h]
  · rw [dif_neg h, if_neg h]
    exact congrArg (fun q => W (ix2 d q)) (Fin.ext (by show 6160 + (C.val - 6144) = C.val + 16; omega))

theorem rows_read (t : Fin cfg0.N) (r : Fin 1024) (d : Fin 4096) :
    (iblk m c 0 t : Vec Ideal S1024x4096 .bf16) (ix2 r d) = rows m c (ix2 ⟨1024 * (t.val % 16) + r.val, by omega⟩ d) := by
  show (V m c main_arg0 : Vec Ideal S16384x4096 .bf16) (((cfg0.win 0).blk t).view.emb (ix2 r d)) = _
  rw [V_main_arg0]
  refine congrArg _ ?_
  funext a
  refine Fin.ext ?_
  refine ((cfg0.win 0).rect_emb_val t (ix2 r d) a rfl).trans ?_
  rw [index0]
  match a with
  | ⟨0, _⟩ => exact congrArg (· + r.val) (Nat.mul_comm (t.val % 16) 1024)
  | ⟨1, _⟩ => exact (congrArg (· + d.val) (Nat.zero_mul _)).trans (Nat.zero_add _)

theorem weight_read (t : Fin cfg0.N) (d : Fin 4096) (C : Fin 1024) (hC : 1024 * (t.val / 16) + C.val < 14336) :
    (iblk m c 1 t : Vec Ideal S4096x1024 .bf16) (ix2 d C) = weight m c (ix2 d (colOf ⟨1024 * (t.val / 16) + C.val, hC⟩)) := by
  refine Eq.trans ?_ (packed_at m c d ⟨1024 * (t.val / 16) + C.val, hC⟩)
  show (V m c main_v4 : Vec Ideal S4096x14336 .bf16) (((cfg0.win 1).blk t).view.emb (ix2 d C)) = _
  refine congrArg _ ?_
  funext a
  refine Fin.ext ?_
  refine ((cfg0.win 1).rect_emb_val t (ix2 d C) a rfl).trans ?_
  rw [index1]
  match a with
  | ⟨0, _⟩ => exact (congrArg (· + d.val) (Nat.zero_mul _)).trans (Nat.zero_add _)
  | ⟨1, _⟩ => exact congrArg (· + C.val) (Nat.mul_comm (t.val / 16) 1024)

theorem emb2 (t : Fin cfg0.N) (r C : Fin 1024) (hr : 1024 * (t.val % 16) + r.val < 16384) (hC : 1024 * (t.val / 16) + C.val < 14336) :
    ((cfg0.win 2).blk t).view.emb (ix2 r C) = (ix2 ⟨1024 * (t.val % 16) + r.val, hr⟩ ⟨1024 * (t.val / 16) + C.val, hC⟩ : S16384x14336.Idx) := by
  funext a
  refine Fin.ext ?_
  refine ((cfg0.win 2).rect_emb_val t (ix2 r C) a rfl).trans ?_
  rw [index2]
  match a with
  | ⟨0, _⟩ => exact congrArg (· + r.val) (Nat.mul_comm (t.val % 16) 1024)
  | ⟨1, _⟩ => exact congrArg (· + C.val) (Nat.mul_comm (t.val / 16) 1024)

/-- The body leaves the product of its two blocks. -/
theorem out_eq (x0 : Vec Ideal S1024x4096 .bf16) (x1 : Vec Ideal S4096x1024 .bf16) : out0_2 (F := Ideal) x0 x1 = k0_pay1 x0 x1 := by
  have z2 : (![0, 0] : Fin S1024x1024.rank → Nat) = fun _ => 0 := funext fun a => by fin_cases a <;> rfl
  have z0 : (![0, 0] : Fin S1024x4096.rank → Nat) = fun _ => 0 := funext fun a => by fin_cases a <;> rfl
  have z1 : (![0, 0] : Fin S4096x1024.rank → Nat) = fun _ => 0 := funext fun a => by fin_cases a <;> rfl
  unfold out0_2
  rw [View.canon_unit_zero z2, View.ld_unit_zero z0, View.ld_unit_zero z1]

/-- The projection from the launch's arguments. -/
def projArr : FVec Ideal S16384x14336 .bf16 := fun j => projAt (rows m c) (weight m c) (j 0) (j 1)

theorem cover2 (j : S16384x14336.Idx) : ∃ t y, (cfg0.win 2).flush t = true ∧ ((cfg0.win 2).blk t).view.emb y = j := by
  have h0 : (j (0 : Fin 2)).val < 16384 := (j (0 : Fin 2)).isLt
  have h1 : (j (1 : Fin 2)).val < 14336 := (j (1 : Fin 2)).isLt
  have ht : 16 * ((j (1 : Fin 2)).val / 1024) + (j (0 : Fin 2)).val / 1024 < cfg0.N := lt_of_lt_of_eq (by omega) N_0.symm
  have e := emb2 ⟨16 * ((j (1 : Fin 2)).val / 1024) + (j (0 : Fin 2)).val / 1024, ht⟩ ⟨(j (0 : Fin 2)).val % 1024, by omega⟩ ⟨(j (1 : Fin 2)).val % 1024, by omega⟩
    (by show 1024 * ((16 * ((j (1 : Fin 2)).val / 1024) + (j (0 : Fin 2)).val / 1024) % 16) + (j (0 : Fin 2)).val % 1024 < 16384; omega)
    (by show 1024 * ((16 * ((j (1 : Fin 2)).val / 1024) + (j (0 : Fin 2)).val / 1024) / 16) + (j (1 : Fin 2)).val % 1024 < 14336; omega)
  refine ⟨_, _, flush0_2 _, e.trans ?_⟩
  funext a
  match a with
  | ⟨0, _⟩ => exact Fin.ext (by show 1024 * ((16 * ((j (1 : Fin 2)).val / 1024) + (j (0 : Fin 2)).val / 1024) % 16) + (j (0 : Fin 2)).val % 1024 = (j (0 : Fin 2)).val; omega)
  | ⟨1, _⟩ => exact Fin.ext (by show 1024 * ((16 * ((j (1 : Fin 2)).val / 1024) + (j (0 : Fin 2)).val / 1024) / 16) + (j (1 : Fin 2)).val % 1024 = (j (1 : Fin 2)).val; omega)

/-- The result array after the run. -/
theorem final_eq : (dats (F := Ideal) m 0 c).arrAt 2 cfg0.N = projArr m c := by
  refine Pipeline.Dat.arrAt_eq_of_cover (dats (F := Ideal) m 0 c) 2 _ ?_ ?_
  · intro t _
    rw [Cert.InProjIdeal.Value.flushed2, out_eq]
    have ht := lt_N t
    funext y
    obtain ⟨r, C, rfl⟩ : ∃ r C : Fin 1024, y = ix2 r C := ⟨y 0, y 1, eq_ix2 y⟩
    show k0_pay1 (F := Ideal) (iblk m c 0 t) (iblk m c 1 t) (ix2 r C) = projArr m c (((cfg0.win 2).blk t).view.emb (ix2 r C))
    rw [emb2 t r C (by omega) (by omega)]
    refine (pay_at _ _ r C).trans ?_
    show _ = projAt (rows m c) (weight m c) (⟨1024 * (t.val % 16) + r.val, by omega⟩ : Fin 16384) (⟨1024 * (t.val / 16) + C.val, by omega⟩ : Fin 14336)
    unfold projAt
    refine Finset.sum_congr rfl fun d _ => ?_
    exact congrArg₂ (· * ·) (rows_read m c t r d) (weight_read m c t d C (by omega))
  · intro j
    obtain ⟨t, y, hf, e⟩ := cover2 j
    refine ⟨t, hf, ?_⟩
    have := View.emb_mem_set ((cfg0.win 2).blk t).view y
    rw [e] at this
    exact this

end

end Cert.InProjIdeal.Val

namespace Cert.InRefIdeal.Val

open Cert.InRefIdeal Cert.InRefIdeal.Gen
open Idealize.ShloMosaic Idealize.ShloMosaic.TcCoe

/-- The reference's projection, one element at a time. -/
theorem ref_at (X : FVec Ideal S16384x4096 .bf16) (W : FVec Ideal S4096x14352 .f32) (R : Fin 16384) (C : Fin 14336) :
    truncf (F := Ideal) .bf16 (concatenate S16384x14336 1 [⟨S16384x6144, (extractStridedSlice S16384x6144 ![0, 0] (Host.dotGeneral dot_S16384x4096_S4096x14352_S16384x14352_1_0_0_1_n_n none (extf .f32 X bitsLt_bf16_f32) W) slices_S16384x14352_S16384x6144_0_0)⟩, ⟨S16384x8192, (extractStridedSlice S16384x8192 ![0, 6160] (Host.dotGeneral dot_S16384x4096_S4096x14352_S16384x14352_1_0_0_1_n_n none (extf .f32 X bitsLt_bf16_f32) W) slices_S16384x14352_S16384x8192_0_6160)⟩] concatenates_S16384x6144_S16384x8192_S16384x14336_d1) bitsLt_bf16_f32 (ix2 R C)
      = Cert.InProjIdeal.Val.projAt X W R C := by
  unfold Cert.InProjIdeal.Val.projAt Cert.InProjIdeal.Val.colOf
  have hdot : ∀ (C' : Fin 14352), Host.dotGeneral (F := Ideal) dot_S16384x4096_S4096x14352_S16384x14352_1_0_0_1_n_n none (extf .f32 X bitsLt_bf16_f32) W (ix2 R C')
      = ∑ d : Fin 4096, X (ix2 R d) * W (ix2 d C') := by
    intro C'
    pointwise []
  generalize Host.dotGeneral (F := Ideal) dot_S16384x4096_S4096x14352_S16384x14352_1_0_0_1_n_n none (extf .f32 X bitsLt_bf16_f32) W = Y at hdot ⊢
  pointwise []
  by_cases h : C.val < 6144
  · rw [dif_pos h, if_pos h]
    exact hdot _
  · rw [dif_neg h, if_neg h, hdot]
    exact congrArg (fun q => ∑ d : Fin 4096, X (ix2 R d) * W (ix2 d q)) (Fin.ext (by show 6160 + (C.val - 6144) = C.val + 16; omega))

end Cert.InRefIdeal.Val

namespace Cert.Proof

open Idealize.ShloMosaic Idealize.ShloMosaic.TcCoe Idealize.SL.Sem

theorem frame_in : quiescent_InProj := fun m g _ => Cert.InProj.Gen.frame m g
theorem frame_in_ideal : quiescent_InProjIdeal := fun m g _ => Cert.InProjIdeal.Gen.frame m g
theorem frame_in_reference : quiescent_InRefIdeal := fun m g _ =>
  θ_run_mono (Cert.InRefIdeal.Value.run m g) fun r h => ⟨fun c => (h c).2, sem_eq_zero_of_no_sems (by decide) r.2⟩

/-- The input projection's result is the reference's. -/
theorem algebraic_in : algebraic_InProjIdeal_InRefIdeal := fun m g m' g' _ hm => by
  refine ⟨fun c => Cert.InProjIdeal.Val.projArr m c, ?_, ?_⟩
  · exact θ_run_mono (Cert.InProjIdeal.Value.run_blocks m g) fun r h c => ⟨(h c).1.trans (Cert.InProjIdeal.Val.final_eq m c), (h c).2⟩
  · refine θ_run_mono (Cert.InRefIdeal.Value.run m' g') fun r h c => ⟨(h c).1.trans ?_, (h c).2⟩
    obtain ⟨h0, h1⟩ := hm c
    rw [h0, h1]
    funext j
    have hj : j = ix2 (j (0 : Fin 2)) (j (1 : Fin 2)) := eq_ix2 j
    rw [hj]
    exact Cert.InRefIdeal.Val.ref_at _ _ _ _

end Cert.Proof

end
-- ==== Proof.OutProjection.lean ====
/- The output projection with the residual: the kernel's result and the reference's, one element at a time, and
   their equality. -/
module

public import proofs.«01_k».proof.Defs
public import proofs.«01_k».proof.Proof.Gen.OutProjIdeal.Value
public import proofs.«01_k».proof.Proof.Gen.OutProj.Frame
public import proofs.«01_k».proof.Proof.Gen.OutRefIdeal.Run
public import Idealize.ShloMosaic.Lib.Pointwise
public import Idealize.ShloMosaic.Lib.Quiescent
public import Idealize.ShloMosaic.Lib.StableHlo.RunHlo

@[expose] public section

set_option maxRecDepth 16384

noncomputable section

namespace Cert.OutProjIdeal.Val

open Cert.OutProjIdeal Cert.OutProjIdeal.Gen
open Idealize.ShloMosaic Idealize.ShloMosaic.TcCoe

/-- The residual row plus the product of the two head groups' outputs, side by side, with the weight. -/
def residualAt (A B : FVec Ideal S16384x2048 .bf16) (W : FVec Ideal S4096x4096 .f32) (X : FVec Ideal S16384x4096 .f32) (R : Fin 16384) (C : Fin 4096) : EReal :=
  X (ix2 R C) + ((∑ d : Fin 2048, A (ix2 R d) * W (ix2 (⟨d.val, by omega⟩ : Fin 4096) C)) + ∑ d : Fin 2048, B (ix2 R d) * W (ix2 (⟨2048 + d.val, by omega⟩ : Fin 4096) C))

theorem pay_at (X : FVec Ideal S512x1024 .f32) (A : FVec Ideal S512x2048 .bf16) (W : FVec Ideal S2048x1024 .bf16) (B : FVec Ideal S512x2048 .bf16) (W' : FVec Ideal S2048x1024 .bf16)
    (r : Fin 512) (c : Fin 1024) :
    k0_pay1 (F := Ideal) X A W B W' (ix2 r c)
      = X (ix2 r c) + (∑ d : Fin 2048, A (ix2 r d) * W (ix2 d c)) + ∑ d : Fin 2048, B (ix2 r d) * W' (ix2 d c) := by
  pointwise [k0_pay1]

theorem index0 : ∀ t : Fin cfg0.N, (cfg0.win 0).index t = ![t.val % 32, 0] :=
  (by decide +kernel : ∀ t : Fin grid0.N, win0_0.index t = ![t.val % 32, 0])
theorem index1 : ∀ t : Fin cfg0.N, (cfg0.win 1).index t = ![t.val % 32, 0] :=
  (by decide +kernel : ∀ t : Fin grid0.N, win0_1.index t = ![t.val % 32, 0])
theorem index2 : ∀ t : Fin cfg0.N, (cfg0.win 2).index t = ![0, t.val / 32] :=
  (by decide +kernel : ∀ t : Fin grid0.N, win0_2.index t = ![0, t.val / 32])
theorem index3 : ∀ t : Fin cfg0.N, (cfg0.win 3).index t = ![1, t.val / 32] :=
  (by decide +kernel : ∀ t : Fin grid0.N, win0_3.index t = ![1, t.val / 32])
theorem index4 : ∀ t : Fin cfg0.N, (cfg0.win 4).index t = ![t.val % 32, t.val / 32] :=
  (by decide +kernel : ∀ t : Fin grid0.N, win0_4.index t = ![t.val % 32, t.val / 32])
theorem index5 : ∀ t : Fin cfg0.N, (cfg0.win 5).index t = ![t.val % 32, t.val / 32] :=
  (by decide +kernel : ∀ t : Fin grid0.N, win0_5.index t = ![t.val % 32, t.val / 32])

theorem lt_N (t : Fin cfg0.N) : t.val < 128 := lt_of_lt_of_eq t.isLt N_0

section
variable (m : (ℓ : Loc nD τ sig) → Buf (Elt Ideal) ℓ) (c : Dev nD)

/-- The first head group's outputs. -/
abbrev headsA : FVec Ideal S16384x2048 .bf16 := m ((c.tc : Thread nD τ).loc main_arg0)
/-- The second head group's outputs. -/
abbrev headsB : FVec Ideal S16384x2048 .bf16 := m ((c.tc : Thread nD τ).loc main_arg1)
/-- The weight. -/
abbrev weight : FVec Ideal S4096x4096 .f32 := m ((c.tc : Thread nD τ).loc main_arg2)
/-- The residual stream. -/
abbrev stream : FVec Ideal S16384x4096 .f32 := m ((c.tc : Thread nD τ).loc main_arg3)

theorem cast_eq : V m c main_v0 = weight m c := by
  unfold V
  after_results_simp
  rfl

theorem a_read (t : Fin cfg0.N) (r : Fin 512) (d : Fin 2048) :
    (iblk m c 0 t : Vec Ideal S512x2048 .bf16) (ix2 r d) = headsA m c (ix2 ⟨512 * (t.val % 32) + r.val, by omega⟩ d) := by
  show (V m c main_arg0 : Vec Ideal S16384x2048 .bf16) (((cfg0.win 0).blk t).view.emb (ix2 r d)) = _
  rw [V_main_arg0]
  refine congrArg _ ?_
  funext a
  refine Fin.ext ?_
  refine ((cfg0.win 0).rect_emb_val t (ix2 r d) a rfl).trans ?_
  rw [index0]
  match a with
  | ⟨0, _⟩ => exact congrArg (· + r.val) (Nat.mul_comm (t.val % 32) 512)
  | ⟨1, _⟩ => exact (congrArg (· + d.val) (Nat.zero_mul _)).trans (Nat.zero_add _)

theorem b_read (t : Fin cfg0.N) (r : Fin 512) (d : Fin 2048) :
    (iblk m c 1 t : Vec Ideal S512x2048 .bf16) (ix2 r d) = headsB m c (ix2 ⟨512 * (t.val % 32) + r.val, by omega⟩ d) := by
  show (V m c main_arg1 : Vec Ideal S16384x2048 .bf16) (((cfg0.win 1).blk t).view.emb (ix2 r d)) = _
  rw [V_main_arg1]
  refine congrArg _ ?_
  funext a
  refine Fin.ext ?_
  refine ((cfg0.win 1).rect_emb_val t (ix2 r d) a rfl).trans ?_
  rw [index1]
  match a with
  | ⟨0, _⟩ => exact congrArg (· + r.val) (Nat.mul_comm (t.val % 32) 512)
  | ⟨1, _⟩ => exact (congrArg (· + d.val) (Nat.zero_mul _)).trans (Nat.zero_add _)

theorem w_read (t : Fin cfg0.N) (d : Fin 2048) (C : Fin 1024) (hC : 1024 * (t.val / 32) + C.val < 4096) :
    (iblk m c 2 t : Vec Ideal S2048x1024 .bf16) (ix2 d C) = weight m c (ix2 (⟨d.val, by omega⟩ : Fin 4096) (⟨1024 * (t.val / 32) + C.val, hC⟩ : Fin 4096)) := by
  show (V m c main_v0 : Vec Ideal S4096x4096 .bf16) (((cfg0.win 2).blk t).view.emb (ix2 d C)) = _
  rw [cast_eq]
  refine congrArg _ ?_
  funext a
  refine Fin.ext ?_
  refine ((cfg0.win 2).rect_emb_val t (ix2 d C) a rfl).trans ?_
  rw [index2]
  match a with
  | ⟨0, _⟩ => exact (congrArg (· + d.val) (Nat.zero_mul _)).trans (Nat.zero_add _)
  | ⟨1, _⟩ => exact congrArg (· + C.val) (Nat.mul_comm (t.val / 32) 1024)

theorem w'_read (t : Fin cfg0.N) (d : Fin 2048) (C : Fin 1024) (hC : 1024 * (t.val / 32) + C.val < 4096) :
    (iblk m c 3 t : Vec Ideal S2048x1024 .bf16) (ix2 d C) = weight m c (ix2 (⟨2048 + d.val, by omega⟩ : Fin 4096) (⟨1024 * (t.val / 32) + C.val, hC⟩ : Fin 4096)) := by
  show (V m c main_v0 : Vec Ideal S4096x4096 .bf16) (((cfg0.win 3).blk t).view.emb (ix2 d C)) = _
  rw [cast_eq]
  refine congrArg _ ?_
  funext a
  refine Fin.ext ?_
  refine ((cfg0.win 3).rect_emb_val t (ix2 d C) a rfl).trans ?_
  rw [index3]
  match a with
  | ⟨0, _⟩ => exact congrArg (· + d.val) (Nat.one_mul _)
  | ⟨1, _⟩ => exact congrArg (· + C.val) (Nat.mul_comm (t.val / 32) 1024)

theorem x_read (t : Fin cfg0.N) (r : Fin 512) (C : Fin 1024) (hC : 1024 * (t.val / 32) + C.val < 4096) :
    (iblk m c 4 t : Vec Ideal S512x1024 .f32) (ix2 r C) = stream m c (ix2 (⟨512 * (t.val % 32) + r.val, by omega⟩ : Fin 16384) (⟨1024 * (t.val / 32) + C.val, hC⟩ : Fin 4096)) := by
  show (V m c main_arg3 : Vec Ideal S16384x4096 .f32) (((cfg0.win 4).blk t).view.emb (ix2 r C)) = _
  rw [V_main_arg3]
  refine congrArg _ ?_
  funext a
  refine Fin.ext ?_
  refine ((cfg0.win 4).rect_emb_val t (ix2 r C) a rfl).trans ?_
  rw [index4]
  match a with
  | ⟨0, _⟩ => exact congrArg (· + r.val) (Nat.mul_comm (t.val % 32) 512)
  | ⟨1, _⟩ => exact congrArg (· + C.val) (Nat.mul_comm (t.val / 32) 1024)

theorem emb5 (t : Fin cfg0.N) (r : Fin 512) (C : Fin 1024) (hr : 512 * (t.val % 32) + r.val < 16384) (hC : 1024 * (t.val / 32) + C.val < 4096) :
    ((cfg0.win 5).blk t).view.emb (ix2 r C) = (ix2 ⟨512 * (t.val % 32) + r.val, hr⟩ ⟨1024 * (t.val / 32) + C.val, hC⟩ : S16384x4096.Idx) := by
  funext a
  refine Fin.ext ?_
  refine ((cfg0.win 5).rect_emb_val t (ix2 r C) a rfl).trans ?_
  rw [index5]
  match a with
  | ⟨0, _⟩ => exact congrArg (· + r.val) (Nat.mul_comm (t.val % 32) 512)
  | ⟨1, _⟩ => exact congrArg (· + C.val) (Nat.mul_comm (t.val / 32) 1024)

/-- The body leaves its payload of the blocks. -/
theorem out_eq (x0 x1 : Vec Ideal S512x2048 .bf16) (x2 x3 : Vec Ideal S2048x1024 .bf16) (x4 : Vec Ideal S512x1024 .f32) :
    out0_5 (F := Ideal) x0 x1 x2 x3 x4 = k0_pay1 x4 x0 x2 x1 x3 := by
  have z5 : (![0, 0] : Fin S512x1024.rank → Nat) = fun _ => 0 := funext fun a => by fin_cases a <;> rfl
  have z0 : (![0, 0] : Fin S512x2048.rank → Nat) = fun _ => 0 := funext fun a => by fin_cases a <;> rfl
  have z2 : (![0, 0] : Fin S2048x1024.rank → Nat) = fun _ => 0 := funext fun a => by fin_cases a <;> rfl
  unfold out0_5
  rw [View.canon_unit_zero z5, View.ld_unit_zero z5, View.ld_unit_zero z0, View.ld_unit_zero z0, View.ld_unit_zero z2, View.ld_unit_zero z2]

/-- The residual stream after the projection, from the launch's arguments. -/
def outArr : FVec Ideal S16384x4096 .f32 := fun j => residualAt (headsA m c) (headsB m c) (weight m c) (stream m c) (j 0) (j 1)

theorem cover5 (j : S16384x4096.Idx) : ∃ t y, (cfg0.win 5).flush t = true ∧ ((cfg0.win 5).blk t).view.emb y = j := by
  have h0 : (j (0 : Fin 2)).val < 16384 := (j (0 : Fin 2)).isLt
  have h1 : (j (1 : Fin 2)).val < 4096 := (j (1 : Fin 2)).isLt
  have ht : 32 * ((j (1 : Fin 2)).val / 1024) + (j (0 : Fin 2)).val / 512 < cfg0.N := lt_of_lt_of_eq (by omega) N_0.symm
  have e := emb5 ⟨32 * ((j (1 : Fin 2)).val / 1024) + (j (0 : Fin 2)).val / 512, ht⟩ ⟨(j (0 : Fin 2)).val % 512, by omega⟩ ⟨(j (1 : Fin 2)).val % 1024, by omega⟩
    (by show 512 * ((32 * ((j (1 : Fin 2)).val / 1024) + (j (0 : Fin 2)).val / 512) % 32) + (j (0 : Fin 2)).val % 512 < 16384; omega)
    (by show 1024 * ((32 * ((j (1 : Fin 2)).val / 1024) + (j (0 : Fin 2)).val / 512) / 32) + (j (1 : Fin 2)).val % 1024 < 4096; omega)
  refine ⟨_, _, flush0_5 _, e.trans ?_⟩
  funext a
  match a with
  | ⟨0, _⟩ => exact Fin.ext (by show 512 * ((32 * ((j (1 : Fin 2)).val / 1024) + (j (0 : Fin 2)).val / 512) % 32) + (j (0 : Fin 2)).val % 512 = (j (0 : Fin 2)).val; omega)
  | ⟨1, _⟩ => exact Fin.ext (by show 1024 * ((32 * ((j (1 : Fin 2)).val / 1024) + (j (0 : Fin 2)).val / 512) / 32) + (j (1 : Fin 2)).val % 1024 = (j (1 : Fin 2)).val; omega)

/-- The result array after the run. -/
theorem final_eq : (dats (F := Ideal) m 0 c).arrAt 5 cfg0.N = outArr m c := by
  refine Pipeline.Dat.arrAt_eq_of_cover (dats (F := Ideal) m 0 c) 5 _ ?_ ?_
  · intro t _
    rw [Cert.OutProjIdeal.Value.flushed5, out_eq]
    have ht := lt_N t
    funext y
    obtain ⟨r, C, rfl⟩ : ∃ (r : Fin 512) (C : Fin 1024), y = ix2 r C := ⟨y 0, y 1, eq_ix2 y⟩
    show k0_pay1 (F := Ideal) (iblk m c 4 t) (iblk m c 0 t) (iblk m c 2 t) (iblk m c 1 t) (iblk m c 3 t) (ix2 r C) = outArr m c (((cfg0.win 5).blk t).view.emb (ix2 r C))
    rw [emb5 t r C (by omega) (by omega)]
    refine (pay_at _ _ _ _ _ r C).trans ?_
    show _ = residualAt (headsA m c) (headsB m c) (weight m c) (stream m c) (⟨512 * (t.val % 32) + r.val, by omega⟩ : Fin 16384) (⟨1024 * (t.val / 32) + C.val, by omega⟩ : Fin 4096)
    unfold residualAt
    rw [add_assoc]
    refine congrArg₂ (· + ·) (x_read m c t r C (by omega)) (congrArg₂ (· + ·) ?_ ?_)
    · exact Finset.sum_congr rfl fun d _ => congrArg₂ (· * ·) (a_read m c t r d) (w_read m c t d C (by omega))
    · exact Finset.sum_congr rfl fun d _ => congrArg₂ (· * ·) (b_read m c t r d) (w'_read m c t d C (by omega))
  · intro j
    obtain ⟨t, y, hf, e⟩ := cover5 j
    refine ⟨t, hf, ?_⟩
    have := View.emb_mem_set ((cfg0.win 5).blk t).view y
    rw [e] at this
    exact this

end

end Cert.OutProjIdeal.Val

namespace Cert.OutRefIdeal.Val

open Cert.OutRefIdeal Cert.OutRefIdeal.Gen
open Idealize.ShloMosaic Idealize.ShloMosaic.TcCoe

/-- The two head groups side by side. -/
theorem cat_at (A B : FVec Ideal S16384x2048 .bf16) (R : Fin 16384) (d : Fin 4096) :
    concatenate S16384x4096 1 [⟨S16384x2048, (extf (F := Ideal) .f32 A bitsLt_bf16_f32)⟩, ⟨S16384x2048, (extf .f32 B bitsLt_bf16_f32)⟩] concatenates_S16384x2048_S16384x2048_S16384x4096_d1 (ix2 R d)
      = if h : d.val < 2048 then A (ix2 R ⟨d.val, h⟩) else B (ix2 R ⟨d.val - 2048, by omega⟩) := by
  pointwise []

/-- The reference's result, one element at a time. -/
theorem ref_at (A B : FVec Ideal S16384x2048 .bf16) (W : FVec Ideal S4096x4096 .f32) (X : FVec Ideal S16384x4096 .f32) (R : Fin 16384) (C : Fin 4096) :
    addf X (Host.dotGeneral dot_S16384x4096_S4096x4096_S16384x4096_1_0_0_1_n_n none (concatenate S16384x4096 1 [⟨S16384x2048, (extf .f32 A bitsLt_bf16_f32)⟩, ⟨S16384x2048, (extf .f32 B bitsLt_bf16_f32)⟩] concatenates_S16384x2048_S16384x2048_S16384x4096_d1) W) (ix2 R C)
      = Cert.OutProjIdeal.Val.residualAt A B W X R C := by
  have hc := cat_at A B
  generalize concatenate S16384x4096 1 [⟨S16384x2048, (extf (F := Ideal) .f32 A bitsLt_bf16_f32)⟩, ⟨S16384x2048, (extf .f32 B bitsLt_bf16_f32)⟩] concatenates_S16384x2048_S16384x2048_S16384x4096_d1 = Y at hc ⊢
  have hd : addf X (Host.dotGeneral dot_S16384x4096_S4096x4096_S16384x4096_1_0_0_1_n_n none Y W) (ix2 R C)
      = X (ix2 R C) + ∑ d : Fin 4096, Y (ix2 R d) * W (ix2 d C) := by
    pointwise []
  refine hd.trans ?_
  rw [Fin.sum_univ_two_halves 2048 2048 rfl]
  unfold Cert.OutProjIdeal.Val.residualAt
  refine congrArg₂ (· + ·) rfl (congrArg₂ (· + ·) (Finset.sum_congr rfl fun d _ => ?_) (Finset.sum_congr rfl fun d _ => ?_))
  · refine congrArg₂ (· * ·) ?_ rfl
    rw [hc, dif_pos d.isLt]
  · refine congrArg₂ (· * ·) ?_ rfl
    rw [hc, dif_neg (by show ¬ 2048 + d.val < 2048; omega)]
    exact congrArg (fun q => B (ix2 R q)) (Fin.ext (by show 2048 + d.val - 2048 = d.val; omega))

end Cert.OutRefIdeal.Val

namespace Cert.Proof

open Idealize.ShloMosaic Idealize.ShloMosaic.TcCoe Idealize.SL.Sem

theorem frame_out : quiescent_OutProj := fun m g _ => Cert.OutProj.Gen.frame m g
theorem frame_out_ideal : quiescent_OutProjIdeal := fun m g _ => Cert.OutProjIdeal.Gen.frame m g
theorem frame_out_reference : quiescent_OutRefIdeal := fun m g _ =>
  θ_run_mono (Cert.OutRefIdeal.Value.run m g) fun r h => ⟨fun c => (h c).2, sem_eq_zero_of_no_sems (by decide) r.2⟩

/-- The output projection's result, with the residual, is the reference's. -/
theorem algebraic_out : algebraic_OutProjIdeal_OutRefIdeal := fun m g m' g' _ hm => by
  refine ⟨fun c => Cert.OutProjIdeal.Val.outArr m c, ?_, ?_⟩
  · exact θ_run_mono (Cert.OutProjIdeal.Value.run_blocks m g) fun r h c => ⟨(h c).1.trans (Cert.OutProjIdeal.Val.final_eq m c), (h c).2⟩
  · refine θ_run_mono (Cert.OutRefIdeal.Value.run m' g') fun r h c => ⟨(h c).1.trans ?_, (h c).2⟩
    obtain ⟨h0, h1, h2, h3⟩ := hm c
    rw [h0, h1, h2, h3]
    funext j
    have hj : j = ix2 (j (0 : Fin 2)) (j (1 : Fin 2)) := eq_ix2 j
    rw [hj]
    exact Cert.OutRefIdeal.Val.ref_at _ _ _ _ _ _

end Cert.Proof

end
-- ==== Proof.NormGate.lean ====
/- The first normalization and the low-rank decay gate: the call's two results and the reference's, one element at a
   time, and their equality. -/
module

public import proofs.«01_k».proof.Defs
public import proofs.«01_k».proof.Proof.Gen.NormGateIdeal.Value
public import proofs.«01_k».proof.Proof.Gen.NormGate.Frame
public import proofs.«01_k».proof.Proof.Gen.NormRefIdeal.Run
public import Idealize.ShloMosaic.Lib.Pointwise
public import Idealize.ShloMosaic.Lib.StableHlo.ReadAt

@[expose] public section

set_option maxRecDepth 16384

noncomputable section

namespace Cert.NormGateIdeal.Val

open Cert.NormGateIdeal Cert.NormGateIdeal.Gen
open Idealize.ShloMosaic Idealize.ShloMosaic.TcCoe

/-! ## The values -/

/-- One row divided by its root mean square, times the weight. -/
def normed (x w : Fin 4096 → EReal) (d : Fin 4096) : EReal :=
  x d * Ideal.rsqrt (Ideal.div (∑ e, x e * x e) (Ideal.ofBits .f32 0x45800000#32) + Ideal.ofBits .f32 0x3727C5AC#32) * w d

/-- The logarithm of the sigmoid, over sixteen. -/
def gateOf (z : EReal) : EReal := (min z 0 - Ideal.log1p (Ideal.exp (0 - max z (-z)))) * ((1 / 16 : ℝ) : EReal)

/-- A row's gate logit: its low-rank projection, projected up, and the bias. -/
def logit (y : Fin 4096 → EReal) (W : Fin 4096 → Fin 16 → EReal) (U : Fin 16 → EReal) (b : EReal) : EReal :=
  ∑ r, (∑ d, y d * W d r) * U r + b

/-- The column of the input projection's weight that a low-rank column is. -/
def lowCol (r : Fin 16) : Fin 14352 := ⟨6144 + r.val, by omega⟩

/-- The normalized rows. -/
def normAt (X : FVec Ideal S16384x4096 .f32) (w : FVec Ideal S1x4096 .f32) (R : Fin 16384) (d : Fin 4096) : EReal :=
  normed (fun e => X (ix2 R e)) (fun e => w (ix2 0 e)) d

/-- The gate. -/
def gateAt (X : FVec Ideal S16384x4096 .f32) (w : FVec Ideal S1x4096 .f32) (W : FVec Ideal S4096x14352 .f32) (U : FVec Ideal S16x1024 .f32)
    (b : FVec Ideal S1x1024 .f32) (R : Fin 16384) (C : Fin 1024) : EReal :=
  gateOf (logit (normAt X w R) (fun d r => W (ix2 d (lowCol r))) (fun r => U (ix2 r C)) (b (ix2 0 C)))

theorem sixteen : Ideal.ofBits FTy.f32 0x41800000#32 = ((16 : ℝ) : EReal) := by
  simp [Ideal.ofBits, Ideal.ieee]
  rw [← EReal.coe_mul]
  norm_num

theorem sixteenth : Ideal.ofBits FTy.f32 0x3D800000#32 = ((1 / 16 : ℝ) : EReal) := by
  simp [Ideal.ofBits, Ideal.ieee]
  rw [← EReal.coe_mul]
  norm_num

/-- The two ways of writing the logarithm of the sigmoid, at the infinities too: the correction is a real number. -/
theorem logSig (z : EReal) :
    -(max (-z) 0 + Ideal.log1p (Ideal.exp (-(max (-z) (- -z))))) = min z 0 - Ideal.log1p (Ideal.exp (0 - max z (-z))) := by
  have hL : ∃ l : ℝ, Ideal.log1p (Ideal.exp (0 - max z (-z))) = (l : EReal) := by
    induction z with
    | bot => exact ⟨0, by simp [Ideal.log1p, ← EReal.coe_one]⟩
    | top => exact ⟨0, by simp [Ideal.log1p, ← EReal.coe_one]⟩
    | coe x =>
      refine ⟨Real.log (1 + Real.exp (0 - max x (-x))), ?_⟩
      rw [← EReal.coe_neg, ← (EReal.coe_strictMono.monotone).map_max, ← EReal.coe_zero, ← EReal.coe_sub, Ideal.exp_coe, Ideal.log1p, ← EReal.coe_one, ← EReal.coe_add, Ideal.log_coe, if_neg]
      have := Real.exp_pos (0 - max x (-x))
      linarith
  have e : -(max (-z) (- -z)) = 0 - max z (-z) := by rw [neg_neg, max_comm, zero_sub]
  rw [e]
  obtain ⟨l, hl⟩ := hL
  rw [hl]
  have e2 : max (-z) 0 = - min z 0 := by
    rcases le_total z 0 with h | h
    · rw [min_eq_left h, max_eq_left (by simpa using h)]
    · rw [min_eq_right h, max_eq_right (by simpa using h), neg_zero]
  rw [e2, EReal.neg_add (Or.inr (EReal.coe_ne_top l)) (Or.inr (EReal.coe_ne_bot l)), neg_neg]

/-- A sum over 128 lanes of which only the first sixteen count. -/
theorem sum_lanes (f : Fin 128 → EReal) (h : ∀ r : Fin 128, 16 ≤ r.val → f r = 0) : ∑ r, f r = ∑ r : Fin 16, f ⟨r.val, by omega⟩ := by
  refine (Fin.sum_univ_add (a := 16) (b := 112) f).trans ?_
  rw [Finset.sum_eq_zero (s := Finset.univ) (f := fun i : Fin 112 => f (Fin.natAdd 16 i)) fun i _ => h _ (by show 16 ≤ 16 + i.val; omega), add_zero]
  rfl

/-! ## The body -/

theorem pay1_at (X : FVec Ideal S512x4096 .f32) (w : FVec Ideal S1x4096 .f32) (r : Fin 512) (d : Fin 4096) :
    k0_pay1 (F := Ideal) X w (ix2 r d) = normed (fun e => X (ix2 r e)) (fun e => w (ix2 0 e)) d := by
  unfold normed
  pointwise [k0_pay1]

theorem pay2_at (X : FVec Ideal S512x4096 .f32) (w : FVec Ideal S1x4096 .f32) (W : FVec Ideal S4096x128 .bf16) (U : FVec Ideal S128x1024 .f32)
    (b : FVec Ideal S1x1024 .f32) (r : Fin 512) (C : Fin 1024) :
    k0_pay2 (F := Ideal) X w W U b (ix2 r C)
      = gateOf (∑ l : Fin 128, (∑ d : Fin 4096, k0_pay1 (F := Ideal) X w (ix2 r d) * W (ix2 d l)) * U (ix2 l C) + b (ix2 0 C)) := by
  unfold k0_pay2
  generalize k0_pay1 (F := Ideal) X w = Y
  unfold gateOf
  rw [← sixteenth]
  pointwise []
  rfl

theorem index0 : ∀ t : Fin cfg0.N, (cfg0.win 0).index t = ![t.val, 0] :=
  (by decide +kernel : ∀ t : Fin grid0.N, win0_0.index t = ![t.val, 0])

theorem index1 : ∀ t : Fin cfg0.N, (cfg0.win 1).index t = ![0, 0] :=
  (by decide +kernel : ∀ t : Fin grid0.N, win0_1.index t = ![0, 0])

theorem index2 : ∀ t : Fin cfg0.N, (cfg0.win 2).index t = ![0, 0] :=
  (by decide +kernel : ∀ t : Fin grid0.N, win0_2.index t = ![0, 0])

theorem index3 : ∀ t : Fin cfg0.N, (cfg0.win 3).index t = ![0, 0] :=
  (by decide +kernel : ∀ t : Fin grid0.N, win0_3.index t = ![0, 0])

theorem index4 : ∀ t : Fin cfg0.N, (cfg0.win 4).index t = ![0, 0] :=
  (by decide +kernel : ∀ t : Fin grid0.N, win0_4.index t = ![0, 0])

theorem index5 : ∀ t : Fin cfg0.N, (cfg0.win 5).index t = ![t.val, 0] :=
  (by decide +kernel : ∀ t : Fin grid0.N, win0_5.index t = ![t.val, 0])

theorem index6 : ∀ t : Fin cfg0.N, (cfg0.win 6).index t = ![t.val, 0] :=
  (by decide +kernel : ∀ t : Fin grid0.N, win0_6.index t = ![t.val, 0])

theorem lt_N (t : Fin cfg0.N) : t.val < 32 := lt_of_lt_of_eq t.isLt N_0

section
variable (m : (ℓ : Loc nD τ sig) → Buf (Elt Ideal) ℓ) (c : Dev nD)

/-- The rows. -/
abbrev rows : FVec Ideal S16384x4096 .f32 := m ((c.tc : Thread nD τ).loc main_arg0)
/-- The normalization's weight. -/
abbrev scale : FVec Ideal S1x4096 .f32 := m ((c.tc : Thread nD τ).loc main_arg1)
/-- The input projection's weight. -/
abbrev weight : FVec Ideal S4096x14352 .f32 := m ((c.tc : Thread nD τ).loc main_arg2)
/-- The gate's second factor. -/
abbrev up : FVec Ideal S16x1024 .f32 := m ((c.tc : Thread nD τ).loc main_arg3)
/-- The gate's bias. -/
abbrev bias : FVec Ideal S1x1024 .f32 := m ((c.tc : Thread nD τ).loc main_arg4)

theorem sitofp_zero : (FloatOps.sitofp .f32 (0#32) : Ideal .f32) = (0 : EReal) := by
  show (((0#32 : BitVec 32).toInt : ℝ) : EReal) = 0
  simp

/-- The low-rank columns as the call takes them: in the first sixteen lanes. -/
theorem low_at (d : Fin 4096) (C : Fin 128) : (V m c main_v2 : Vec Ideal S4096x128 .bf16) (ix2 d C)
    = if h : C.val < 16 then weight m c (ix2 d (lowCol ⟨C.val, h⟩)) else (0 : EReal) := by
  unfold V
  after_reads_at
  rw [sitofp_zero]
  rfl

/-- The second factor as the call takes it: in the first sixteen rows. -/
theorem up_at (d : Fin 128) (C : Fin 1024) : (V m c main_v3 : Vec Ideal S128x1024 .f32) (ix2 d C)
    = if h : d.val < 16 then up m c (ix2 ⟨d.val, h⟩ C) else (0 : EReal) := by
  unfold V
  after_reads_at
  rw [sitofp_zero]

theorem rows_read (t : Fin cfg0.N) (r : Fin 512) (d : Fin 4096) (hr : 512 * t.val + r.val < 16384) :
    (iblk m c 0 t : Vec Ideal S512x4096 .f32) (ix2 r d) = rows m c (ix2 ⟨512 * t.val + r.val, hr⟩ d) := by
  show (V m c main_arg0 : Vec Ideal S16384x4096 .f32) (((cfg0.win 0).blk t).view.emb (ix2 r d)) = _
  rw [V_main_arg0]
  refine congrArg _ ?_
  funext a
  refine Fin.ext ?_
  refine ((cfg0.win 0).rect_emb_val t (ix2 r d) a rfl).trans ?_
  rw [index0]
  match a with
  | ⟨0, _⟩ => exact congrArg (· + r.val) (Nat.mul_comm t.val 512)
  | ⟨1, _⟩ => exact (congrArg (· + d.val) (Nat.zero_mul _)).trans (Nat.zero_add _)

theorem scale_read (t : Fin cfg0.N) (r : Fin 1) (d : Fin 4096) :
    (iblk m c 1 t : Vec Ideal S1x4096 .f32) (ix2 r d) = scale m c (ix2 r d) := by
  show (V m c main_arg1 : Vec Ideal S1x4096 .f32) (((cfg0.win 1).blk t).view.emb (ix2 r d)) = _
  rw [V_main_arg1]
  refine congrArg _ ?_
  funext a
  refine Fin.ext ?_
  refine ((cfg0.win 1).rect_emb_val t (ix2 r d) a rfl).trans ?_
  rw [index1]
  match a with
  | ⟨0, _⟩ => exact (congrArg (· + r.val) (Nat.zero_mul _)).trans (Nat.zero_add _)
  | ⟨1, _⟩ => exact (congrArg (· + d.val) (Nat.zero_mul _)).trans (Nat.zero_add _)

theorem low_read (t : Fin cfg0.N) (r : Fin 4096) (d : Fin 128) :
    (iblk m c 2 t : Vec Ideal S4096x128 .bf16) (ix2 r d) = (V m c main_v2 : Vec Ideal S4096x128 .bf16) (ix2 r d) := by
  show (V m c main_v2 : Vec Ideal S4096x128 .bf16) (((cfg0.win 2).blk t).view.emb (ix2 r d)) = _
  refine congrArg _ ?_
  funext a
  refine Fin.ext ?_
  refine ((cfg0.win 2).rect_emb_val t (ix2 r d) a rfl).trans ?_
  rw [index2]
  match a with
  | ⟨0, _⟩ => exact (congrArg (· + r.val) (Nat.zero_mul _)).trans (Nat.zero_add _)
  | ⟨1, _⟩ => exact (congrArg (· + d.val) (Nat.zero_mul _)).trans (Nat.zero_add _)

theorem up_read (t : Fin cfg0.N) (r : Fin 128) (d : Fin 1024) :
    (iblk m c 3 t : Vec Ideal S128x1024 .f32) (ix2 r d) = (V m c main_v3 : Vec Ideal S128x1024 .f32) (ix2 r d) := by
  show (V m c main_v3 : Vec Ideal S128x1024 .f32) (((cfg0.win 3).blk t).view.emb (ix2 r d)) = _
  refine congrArg _ ?_
  funext a
  refine Fin.ext ?_
  refine ((cfg0.win 3).rect_emb_val t (ix2 r d) a rfl).trans ?_
  rw [index3]
  match a with
  | ⟨0, _⟩ => exact (congrArg (· + r.val) (Nat.zero_mul _)).trans (Nat.zero_add _)
  | ⟨1, _⟩ => exact (congrArg (· + d.val) (Nat.zero_mul _)).trans (Nat.zero_add _)

theorem bias_read (t : Fin cfg0.N) (r : Fin 1) (d : Fin 1024) :
    (iblk m c 4 t : Vec Ideal S1x1024 .f32) (ix2 r d) = bias m c (ix2 r d) := by
  show (V m c main_arg4 : Vec Ideal S1x1024 .f32) (((cfg0.win 4).blk t).view.emb (ix2 r d)) = _
  rw [V_main_arg4]
  refine congrArg _ ?_
  funext a
  refine Fin.ext ?_
  refine ((cfg0.win 4).rect_emb_val t (ix2 r d) a rfl).trans ?_
  rw [index4]
  match a with
  | ⟨0, _⟩ => exact (congrArg (· + r.val) (Nat.zero_mul _)).trans (Nat.zero_add _)
  | ⟨1, _⟩ => exact (congrArg (· + d.val) (Nat.zero_mul _)).trans (Nat.zero_add _)

theorem emb5 (t : Fin cfg0.N) (r : Fin 512) (d : Fin 4096) (hr : 512 * t.val + r.val < 16384) :
    ((cfg0.win 5).blk t).view.emb (ix2 r d) = (ix2 ⟨512 * t.val + r.val, hr⟩ d : S16384x4096.Idx) := by
  funext a
  refine Fin.ext ?_
  refine ((cfg0.win 5).rect_emb_val t (ix2 r d) a rfl).trans ?_
  rw [index5]
  match a with
  | ⟨0, _⟩ => exact congrArg (· + r.val) (Nat.mul_comm t.val 512)
  | ⟨1, _⟩ => exact (congrArg (· + d.val) (Nat.zero_mul _)).trans (Nat.zero_add _)

theorem cover5 (j : S16384x4096.Idx) : ∃ t y, (cfg0.win 5).flush t = true ∧ ((cfg0.win 5).blk t).view.emb y = j := by
  have h0 : (j (0 : Fin 2)).val < 16384 := (j (0 : Fin 2)).isLt
  have ht : (j (0 : Fin 2)).val / 512 < cfg0.N := lt_of_lt_of_eq (by omega) N_0.symm
  have e := emb5 ⟨(j (0 : Fin 2)).val / 512, ht⟩ ⟨(j (0 : Fin 2)).val % 512, by omega⟩ (j (1 : Fin 2))
    (by show 512 * ((j (0 : Fin 2)).val / 512) + (j (0 : Fin 2)).val % 512 < 16384; omega)
  refine ⟨_, _, flush0_5 _, e.trans ?_⟩
  funext a
  match a with
  | ⟨0, _⟩ => exact Fin.ext (by show 512 * ((j (0 : Fin 2)).val / 512) + (j (0 : Fin 2)).val % 512 = (j (0 : Fin 2)).val; omega)
  | ⟨1, _⟩ => rfl

theorem emb6 (t : Fin cfg0.N) (r : Fin 512) (d : Fin 1024) (hr : 512 * t.val + r.val < 16384) :
    ((cfg0.win 6).blk t).view.emb (ix2 r d) = (ix2 ⟨512 * t.val + r.val, hr⟩ d : S16384x1024.Idx) := by
  funext a
  refine Fin.ext ?_
  refine ((cfg0.win 6).rect_emb_val t (ix2 r d) a rfl).trans ?_
  rw [index6]
  match a with
  | ⟨0, _⟩ => exact congrArg (· + r.val) (Nat.mul_comm t.val 512)
  | ⟨1, _⟩ => exact (congrArg (· + d.val) (Nat.zero_mul _)).trans (Nat.zero_add _)

theorem cover6 (j : S16384x1024.Idx) : ∃ t y, (cfg0.win 6).flush t = true ∧ ((cfg0.win 6).blk t).view.emb y = j := by
  have h0 : (j (0 : Fin 2)).val < 16384 := (j (0 : Fin 2)).isLt
  have ht : (j (0 : Fin 2)).val / 512 < cfg0.N := lt_of_lt_of_eq (by omega) N_0.symm
  have e := emb6 ⟨(j (0 : Fin 2)).val / 512, ht⟩ ⟨(j (0 : Fin 2)).val % 512, by omega⟩ (j (1 : Fin 2))
    (by show 512 * ((j (0 : Fin 2)).val / 512) + (j (0 : Fin 2)).val % 512 < 16384; omega)
  refine ⟨_, _, flush0_6 _, e.trans ?_⟩
  funext a
  match a with
  | ⟨0, _⟩ => exact Fin.ext (by show 512 * ((j (0 : Fin 2)).val / 512) + (j (0 : Fin 2)).val % 512 = (j (0 : Fin 2)).val; omega)
  | ⟨1, _⟩ => rfl

/-- The body leaves the normalized rows of its block in the first output. -/
theorem out5_eq (x0 : Vec Ideal S512x4096 .f32) (x1 : Vec Ideal S1x4096 .f32) (x2 : Vec Ideal S4096x128 .bf16) (x3 : Vec Ideal S128x1024 .f32)
    (x4 : Vec Ideal S1x1024 .f32) : out0_5 (F := Ideal) x0 x1 x2 x3 x4 = k0_pay1 x0 x1 := by
  have z0 : (![0, 0] : Fin S512x4096.rank → Nat) = fun _ => 0 := funext fun a => by fin_cases a <;> rfl
  have z1 : (![0, 0] : Fin S1x4096.rank → Nat) = fun _ => 0 := funext fun a => by fin_cases a <;> rfl
  unfold out0_5
  rw [View.canon_unit_zero z0, View.ld_unit_zero z0, View.ld_unit_zero z1]

/-- And their gate in the second. -/
theorem out6_eq (x0 : Vec Ideal S512x4096 .f32) (x1 : Vec Ideal S1x4096 .f32) (x2 : Vec Ideal S4096x128 .bf16) (x3 : Vec Ideal S128x1024 .f32)
    (x4 : Vec Ideal S1x1024 .f32) : out0_6 (F := Ideal) x0 x1 x2 x3 x4 = k0_pay2 x0 x1 x2 x3 x4 := by
  have z0 : (![0, 0] : Fin S512x4096.rank → Nat) = fun _ => 0 := funext fun a => by fin_cases a <;> rfl
  have z1 : (![0, 0] : Fin S1x4096.rank → Nat) = fun _ => 0 := funext fun a => by fin_cases a <;> rfl
  have z2 : (![0, 0] : Fin S4096x128.rank → Nat) = fun _ => 0 := funext fun a => by fin_cases a <;> rfl
  have z3 : (![0, 0] : Fin S128x1024.rank → Nat) = fun _ => 0 := funext fun a => by fin_cases a <;> rfl
  have z4 : (![0, 0] : Fin S1x1024.rank → Nat) = fun _ => 0 := funext fun a => by fin_cases a <;> rfl
  have z6 : (![0, 0] : Fin S512x1024.rank → Nat) = fun _ => 0 := funext fun a => by fin_cases a <;> rfl
  unfold out0_6
  rw [View.canon_unit_zero z6, View.ld_unit_zero z0, View.ld_unit_zero z1, View.ld_unit_zero z2, View.ld_unit_zero z3, View.ld_unit_zero z4]

/-- The normalized rows from the launch's arguments. -/
def normArr : FVec Ideal S16384x4096 .bf16 := fun j => normAt (rows m c) (scale m c) (j 0) (j 1)

/-- The gate from the launch's arguments. -/
def gateArr : FVec Ideal S16384x1024 .f32 := fun j => gateAt (rows m c) (scale m c) (weight m c) (up m c) (bias m c) (j 0) (j 1)

/-- A block's normalized rows are the whole array's. -/
theorem block_norm (t : Fin cfg0.N) (r : Fin 512) (d : Fin 4096) (hr : 512 * t.val + r.val < 16384) :
    k0_pay1 (F := Ideal) (iblk m c 0 t) (iblk m c 1 t) (ix2 r d) = normAt (rows m c) (scale m c) ⟨512 * t.val + r.val, hr⟩ d := by
  refine (pay1_at _ _ r d).trans ?_
  unfold normAt
  have e0 : (fun e => (iblk m c 0 t : Vec Ideal S512x4096 .f32) (ix2 r e)) = fun e => rows m c (ix2 ⟨512 * t.val + r.val, hr⟩ e) :=
    funext fun e => rows_read m c t r e hr
  have e1 : (fun e => (iblk m c 1 t : Vec Ideal S1x4096 .f32) (ix2 0 e)) = fun e => scale m c (ix2 0 e) :=
    funext fun e => scale_read m c t 0 e
  exact congrArg₂ (fun p q => normed p q d) e0 e1

/-- The padded lanes add nothing to a gate logit. -/
theorem block_logit (t : Fin cfg0.N) (y : Fin 4096 → EReal) (C : Fin 1024) :
    ∑ l : Fin 128, (∑ d : Fin 4096, y d * (iblk m c 2 t : Vec Ideal S4096x128 .bf16) (ix2 d l)) * (iblk m c 3 t : Vec Ideal S128x1024 .f32) (ix2 l C)
        + (iblk m c 4 t : Vec Ideal S1x1024 .f32) (ix2 0 C)
      = logit y (fun d r => weight m c (ix2 d (lowCol r))) (fun r => up m c (ix2 r C)) (bias m c (ix2 0 C)) := by
  unfold logit
  rw [bias_read m c t 0 C]
  refine congrArg (· + bias m c (ix2 0 C)) ?_
  rw [sum_lanes _ fun l hl => by
    rw [up_read m c t l C, up_at, dif_neg (by omega), mul_zero]]
  refine Finset.sum_congr rfl fun r _ => ?_
  rw [up_read m c t _ C, up_at, dif_pos r.isLt]
  refine congrArg (· * up m c (ix2 r C)) (Finset.sum_congr rfl fun d _ => ?_)
  rw [low_read m c t d _, low_at, dif_pos r.isLt]

/-- The first result after the run. -/
theorem final5 : (dats (F := Ideal) m 0 c).arrAt 5 cfg0.N = normArr m c := by
  refine Pipeline.Dat.arrAt_eq_of_cover (dats (F := Ideal) m 0 c) 5 _ ?_ ?_
  · intro t _
    rw [Cert.NormGateIdeal.Value.flushed5, out5_eq]
    have ht := lt_N t
    funext y
    obtain ⟨r, C, rfl⟩ : ∃ (r : Fin 512) (C : Fin 4096), y = ix2 r C := ⟨y 0, y 1, eq_ix2 y⟩
    show k0_pay1 (F := Ideal) (iblk m c 0 t) (iblk m c 1 t) (ix2 r C) = normArr m c (((cfg0.win 5).blk t).view.emb (ix2 r C))
    rw [emb5 t r C (by omega)]
    exact block_norm m c t r C (by omega)
  · intro j
    obtain ⟨t, y, hf, e⟩ := cover5 j
    refine ⟨t, hf, ?_⟩
    have := View.emb_mem_set ((cfg0.win 5).blk t).view y
    rw [e] at this
    exact this

/-- The second result after the run. -/
theorem final6 : (dats (F := Ideal) m 0 c).arrAt 6 cfg0.N = gateArr m c := by
  refine Pipeline.Dat.arrAt_eq_of_cover (dats (F := Ideal) m 0 c) 6 _ ?_ ?_
  · intro t _
    rw [Cert.NormGateIdeal.Value.flushed6, out6_eq]
    have ht := lt_N t
    funext y
    obtain ⟨r, C, rfl⟩ : ∃ (r : Fin 512) (C : Fin 1024), y = ix2 r C := ⟨y 0, y 1, eq_ix2 y⟩
    show k0_pay2 (F := Ideal) (iblk m c 0 t) (iblk m c 1 t) (iblk m c 2 t) (iblk m c 3 t) (iblk m c 4 t) (ix2 r C) = gateArr m c (((cfg0.win 6).blk t).view.emb (ix2 r C))
    rw [emb6 t r C (by omega)]
    refine (pay2_at _ _ _ _ _ r C).trans ?_
    show _ = gateAt (rows m c) (scale m c) (weight m c) (up m c) (bias m c) (⟨512 * t.val + r.val, by omega⟩ : Fin 16384) C
    unfold gateAt
    refine congrArg gateOf ?_
    rw [← block_logit m c t]
    simp only [block_norm m c t r _ (by omega)]
  · intro j
    obtain ⟨t, y, hf, e⟩ := cover6 j
    refine ⟨t, hf, ?_⟩
    have := View.emb_mem_set ((cfg0.win 6).blk t).view y
    rw [e] at this
    exact this

end

end Cert.NormGateIdeal.Val

namespace Cert.NormRefIdeal.Val

open Cert.NormRefIdeal Cert.NormRefIdeal.Gen
open Idealize.ShloMosaic Idealize.ShloMosaic.TcCoe

/-- The reference's normalized rows, before any change of format. -/
def normRef (X : FVec Ideal S16384x4096 .f32) (w : FVec Ideal S1x4096 .f32) : FVec Ideal S16384x4096 .f32 :=
  mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ w shapeCasts_S1x4096_S4096)))

/-- The reference's gate logits from its normalized rows. -/
def logitRef (Y : FVec Ideal S16384x4096 .f32) (W : FVec Ideal S4096x14352 .f32) (U : FVec Ideal S16x1024 .f32) (b : FVec Ideal S1x1024 .f32) : FVec Ideal S16384x1024 .f32 :=
  addf (Host.dotGeneral dot_S16384x16_S16x1024_S16384x1024_1_0_0_1_n_n none (extractStridedSlice S16384x16 ![0, 6144] (Host.dotGeneral dot_S16384x4096_S4096x14352_S16384x14352_1_0_0_1_n_n none Y W) slices_S16384x14352_S16384x16_0_6144) U) (broadcastInDim S16384x1024 ![0, 1] bcast_S1x1024_S16384x1024_0_1 (broadcastInDim S1x1024 ![1] bcast_S1024_S1x1024_1 (shapeCast _ b shapeCasts_S1x1024_S1024)))

/-- The reference's gate from its logits. -/
def gateRef (Z : FVec Ideal S16384x1024 .f32) : FVec Ideal S16384x1024 .f32 :=
  Host.divf (Host.negf (select (cmpf .une (subf (Host.negf Z) (broadcastInDim S16384x1024 ![] bcast_S_S16384x1024 (constant S_ .f32 0x00000000#32))) (subf (Host.negf Z) (broadcastInDim S16384x1024 ![] bcast_S_S16384x1024 (constant S_ .f32 0x00000000#32)))) (addf (Host.negf Z) (broadcastInDim S16384x1024 ![] bcast_S_S16384x1024 (constant S_ .f32 0x00000000#32))) (addf (maximumf (Host.negf Z) (broadcastInDim S16384x1024 ![] bcast_S_S16384x1024 (constant S_ .f32 0x00000000#32))) (Host.log1p (Host.exp (Host.negf (Host.absf (subf (Host.negf Z) (broadcastInDim S16384x1024 ![] bcast_S_S16384x1024 (constant S_ .f32 0x00000000#32)))))))))) (broadcastInDim S16384x1024 ![] bcast_S_S16384x1024 (constant (F := Ideal) S_ .f32 0x41800000#32))

theorem norm_at (X : FVec Ideal S16384x4096 .f32) (w : FVec Ideal S1x4096 .f32) (R : Fin 16384) (d : Fin 4096) :
    normRef X w (ix2 R d) = Cert.NormGateIdeal.Val.normAt X w R d := by
  unfold normRef Cert.NormGateIdeal.Val.normAt Cert.NormGateIdeal.Val.normed
  pointwise []

theorem logit_at (Y : FVec Ideal S16384x4096 .f32) (W : FVec Ideal S4096x14352 .f32) (U : FVec Ideal S16x1024 .f32) (b : FVec Ideal S1x1024 .f32)
    (R : Fin 16384) (C : Fin 1024) :
    logitRef Y W U b (ix2 R C) = Cert.NormGateIdeal.Val.logit (fun d => Y (ix2 R d)) (fun d r => W (ix2 d (Cert.NormGateIdeal.Val.lowCol r)))
      (fun r => U (ix2 r C)) (b (ix2 0 C)) := by
  unfold logitRef Cert.NormGateIdeal.Val.logit Cert.NormGateIdeal.Val.lowCol
  pointwise []

theorem gate_at (Z : FVec Ideal S16384x1024 .f32) (R : Fin 16384) (C : Fin 1024) :
    gateRef Z (ix2 R C) = Cert.NormGateIdeal.Val.gateOf (Z (ix2 R C)) := by
  unfold gateRef Cert.NormGateIdeal.Val.gateOf
  rw [← Cert.NormGateIdeal.Val.logSig, ← Ideal.div_coe (by norm_num : (16 : ℝ) ≠ 0), ← Cert.NormGateIdeal.Val.sixteen]
  pointwise []
  rw [if_neg (not_not_intro rfl)]
  rfl

theorem ref_gate_at (X : FVec Ideal S16384x4096 .f32) (w : FVec Ideal S1x4096 .f32) (W : FVec Ideal S4096x14352 .f32) (U : FVec Ideal S16x1024 .f32)
    (b : FVec Ideal S1x1024 .f32) (R : Fin 16384) (C : Fin 1024) :
    gateRef (logitRef (normRef X w) W U b) (ix2 R C) = Cert.NormGateIdeal.Val.gateAt X w W U b R C := by
  rw [gate_at, logit_at]
  unfold Cert.NormGateIdeal.Val.gateAt
  simp only [norm_at]

end Cert.NormRefIdeal.Val

namespace Cert.Proof

open Idealize.ShloMosaic Idealize.ShloMosaic.TcCoe Idealize.SL.Sem

theorem frame_norm : quiescent_NormGate := fun m g _ => Cert.NormGate.Gen.frame m g
theorem frame_norm_ideal : quiescent_NormGateIdeal := fun m g _ => Cert.NormGateIdeal.Gen.frame m g
theorem frame_norm_reference : quiescent_NormRefIdeal := fun m g _ =>
  θ_run_mono (Cert.NormRefIdeal.Value.run m g) fun r h => ⟨fun c => (h c).2.2, sem_eq_zero_of_no_sems (by decide) r.2⟩

/-- The call's normalized rows and gate are the reference's. -/
theorem algebraic_norm : algebraic_NormGateIdeal_NormRefIdeal := fun m g m' g' _ hm => by
  refine ⟨fun c => Cert.NormGateIdeal.Val.normArr m c, fun c => Cert.NormGateIdeal.Val.gateArr m c, ?_, ?_⟩
  · exact θ_run_mono (Cert.NormGateIdeal.Value.run_blocks m g) fun r h c =>
      ⟨(h c).1.trans (Cert.NormGateIdeal.Val.final5 m c), (h c).2.1.trans (Cert.NormGateIdeal.Val.final6 m c), (h c).2.2⟩
  · refine θ_run_mono (Cert.NormRefIdeal.Value.run m' g') fun r h c => ⟨(h c).1.trans ?_, (h c).2.1.trans ?_, (h c).2.2⟩
    · obtain ⟨h0, h1, h2, h3, h4⟩ := hm c
      rw [h0, h1]
      funext j
      have hj : j = ix2 (j (0 : Fin 2)) (j (1 : Fin 2)) := eq_ix2 j
      rw [hj]
      exact Cert.NormRefIdeal.Val.norm_at _ _ _ _
    · obtain ⟨h0, h1, h2, h3, h4⟩ := hm c
      unfold Cert.NormRefIdeal.Value.res_main_v23
      rw [h0, h1, h2, h3, h4]
      funext j
      have hj : j = ix2 (j (0 : Fin 2)) (j (1 : Fin 2)) := eq_ix2 j
      rw [hj]
      exact Cert.NormRefIdeal.Val.ref_gate_at _ _ _ _ _ _ _

end Cert.Proof

end
-- ==== Proof.TopFour.lean ====
/- The largest, the next one and so on, of a row: taking the maximum again and again, each time blotting out the first
   place that has it, goes through the row as a stable sort by greater value does. -/
module

public import Idealize.ShloMosaic.PureOps.Ideal
public import Idealize.ShloMosaic.PureOps.Reduce
public import Idealize.ShloMosaic.Lib.SortPrefix

@[expose] public section

noncomputable section

namespace Cert.TopFour

open Idealize.ShloMosaic

/-! ## The order of a row -/

/-- One entry goes before another if it is greater. -/
def greater {n : Nat} (g : Fin n → EReal) (a b : Fin n) : Bool := decide (g b < g a)

/-- The same, and of equal entries the one that stands first. -/
def ahead {n : Nat} (g : Fin n → EReal) (a b : Fin n) : Bool :=
  (fun x y : EReal => decide (y < x)) (g a) (g b) || (decide (g a = g b) && decide (a < b))

theorem ahead_strict {n : Nat} (g : Fin n → EReal) : StrictTotalBefore (ahead g) :=
  StrictTotalBefore.of_key_then_position (fun x y : EReal => decide (y < x)) g (fun a => by simp)
    (fun a b c h k => by simp only [decide_eq_true_eq] at *; exact lt_trans k h)
    (fun a b => by
      simp only [decide_eq_true_eq]
      rcases lt_trichotomy a b with h | h | h
      · exact Or.inr (Or.inr h)
      · exact Or.inr (Or.inl h)
      · exact Or.inl h)

theorem sort_ties {n : Nat} (g : Fin n → EReal) (l : List (Fin n)) (hl : l.Pairwise (· < ·)) :
    stableSort (greater g) l = stableSort (ahead g) l := by
  induction l with
  | nil => rfl
  | cons a l ih =>
    rw [List.pairwise_cons] at hl
    unfold stableSort
    rw [ih hl.2]
    refine insertBefore_congr _ _ a _ fun b hb => ?_
    have hb' := hl.1 b ((perm_stableSort (ahead g) l).mem_iff.mp hb)
    have h2 : ¬ b < a := fun h => absurd h (not_lt.mpr (le_of_lt hb'))
    simp [greater, ahead, h2]

/-- The place in the row of the entry that a sort puts at place `k`. -/
def order {n : Nat} (g : Fin n → EReal) : Fin n → Fin n := sortedFrom (greater g)

theorem order_eq {n : Nat} (g : Fin n → EReal) : order g = sortedFrom (ahead g) := by
  have h : sortPositions n (greater g) = sortPositions n (ahead g) := sort_ties g _ (List.pairwise_lt_finRange n)
  funext k
  refine Fin.ext ?_
  unfold order sortedFrom
  simp only [List.get_eq_getElem, Fin.val_cast, h]

theorem order_bij {n : Nat} (g : Fin n → EReal) : Function.Bijective (order g) :=
  ⟨sortedFrom_injective _, sortedFrom_surjective _⟩

theorem order_le {n : Nat} (g : Fin n → EReal) (i j : Fin n) (h : i < j) :
    g (order g j) < g (order g i) ∨ (g (order g j) = g (order g i) ∧ order g i < order g j) := by
  have hs := ahead_strict g
  have hn := sortedFrom_noInversion (ahead g) (ahead g) hs.asymm (fun _ _ h => h) hs.negTrans i j h
  rw [← order_eq g] at hn
  have hne : order g i ≠ order g j := fun e => absurd ((order_bij g).1 e) (ne_of_lt h)
  rcases hs.total _ _ hne with ha | ha
  · simp only [ahead, Bool.or_eq_true, Bool.and_eq_true, decide_eq_true_eq] at ha
    rcases ha with ha | ⟨ha, hb⟩
    · exact Or.inl ha
    · exact Or.inr ⟨ha.symm, hb⟩
  · rw [hn] at ha
    exact absurd ha (by decide)

/-- The order is a stable sort's. -/
theorem order_def {n : Nat} (g : Fin n → EReal) : order g = sortedFrom (greater g) := rfl

attribute [irreducible] order

/-! ## Taking the maximum -/

/-- The maximum of the lanes. -/
def top (f : Fin 128 → EReal) : EReal := Finset.univ.fold max ⊥ f

/-- The first lane that has it. -/
def first (f : Fin 128 → EReal) : BitVec 32 :=
  Finset.univ.fold IntOp.minsi 2147483647#32 fun l => if f l = top f then BitVec.ofNat 32 l.val else 128#32

/-- The lanes with that one blotted out. -/
def rest (f : Fin 128 → EReal) : Fin 128 → EReal := fun l => if BitVec.ofNat 32 l.val = first f then ⊥ else f l

/-- Lane `p` is the first of those with the maximum. -/
structure Leads (f : Fin 128 → EReal) (p : Fin 128) : Prop where
  ge : ∀ l, f l ≤ f p
  gt : ∀ l, l < p → f l < f p

theorem top_eq {f : Fin 128 → EReal} {p : Fin 128} (h : Leads f p) : top f = f p := by
  refine le_antisymm ?_ ?_
  · exact (Finset.fold_max_le _).mpr ⟨bot_le, fun l _ => h.ge l⟩
  · exact (Finset.le_fold_max _).mpr (Or.inr ⟨p, Finset.mem_univ _, le_refl _⟩)

/-- A number as a word, the large ones cut down to the greatest signed word. -/
def word (n : ℕ) : BitVec 32 := BitVec.ofNat 32 (min n 2147483647)

theorem word_min (a b : ℕ) : IntOp.minsi (word a) (word b) = word (min a b) := by
  have hi : ∀ n : ℕ, (word n).toInt = ((min n 2147483647 : ℕ) : ℤ) := fun n => by
    unfold word
    rw [BitVec.toInt_ofNat']
    have : min n 2147483647 < 2147483648 := by omega
    generalize min n 2147483647 = k at this
    rw [Int.bmod_def]
    split <;> omega
  apply BitVec.eq_of_toInt_eq
  rw [hi]
  unfold IntOp.minsi
  rw [apply_ite BitVec.toInt]
  simp only [BitVec.sle, BitVec.slt, hi]
  split <;> rename_i hh <;> simp at hh <;> omega

theorem first_eq {f : Fin 128 → EReal} {p : Fin 128} (h : Leads f p) : first f = BitVec.ofNat 32 p.val := by
  have e : first f = Finset.univ.fold IntOp.minsi (word 2147483647) fun l : Fin 128 => word (if f l = top f then l.val else 128) := by
    unfold first
    refine Finset.fold_congr fun l _ => ?_
    split
    · unfold word
      rw [min_eq_left (by omega)]
    · rfl
  rw [e, Finset.fold_hom (fun x y => (word_min x y).symm)]
  have n : Finset.univ.fold min 2147483647 (fun l : Fin 128 => if f l = top f then l.val else 128) = p.val := by
    refine le_antisymm ?_ ?_
    · refine (Finset.fold_min_le _).mpr (Or.inr ⟨p, Finset.mem_univ _, ?_⟩)
      rw [if_pos (top_eq h).symm]
    · refine (Finset.le_fold_min _).mpr ⟨by omega, fun l _ => ?_⟩
      split
      · rename_i hl
        rw [top_eq h] at hl
        by_contra hc
        exact absurd hl (ne_of_lt (h.gt l (by rw [Fin.lt_def]; omega)))
      · omega
  rw [n]
  unfold word
  rw [min_eq_left (by omega)]

theorem lane_inj (a b : Fin 128) : BitVec.ofNat 32 a.val = BitVec.ofNat 32 b.val ↔ a = b := by
  constructor
  · intro h
    have := congrArg BitVec.toNat h
    simp only [BitVec.toNat_ofNat] at this
    exact Fin.ext (by omega)
  · rintro rfl
    rfl

theorem rest_eq {f : Fin 128 → EReal} {p : Fin 128} (h : Leads f p) : rest f = fun l => if l = p then ⊥ else f l := by
  funext l
  unfold rest
  rw [first_eq h]
  simp only [lane_inj]

/-! ## Going through the row -/

/-- The lane of an entry. -/
def lane (e : Fin 32) : Fin 128 := ⟨e.val, by omega⟩

/-- The row in the first 32 lanes, without the `k` entries that come first in the order. -/
def held (g : Fin 32 → EReal) (k : ℕ) : Fin 128 → EReal :=
  fun l => if h : l.val < 32 then (if ∃ j : Fin 32, j.val < k ∧ order g j = ⟨l.val, h⟩ then ⊥ else g ⟨l.val, h⟩) else ⊥

variable {g : Fin 32 → EReal} (hg : ∀ e, ⊥ < g e)

theorem held_at (g : Fin 32 → EReal) (k : Fin 32) : held g k.val (lane (order g k)) = g (order g k) := by
  unfold held
  rw [dif_pos (show (lane (order g k)).val < 32 from (order g k).isLt), if_neg]
  · rfl
  · rintro ⟨j, hj, e⟩
    have e' : order g j = order g k := e
    exact absurd (congrArg Fin.val ((order_bij g).1 e')) (Nat.ne_of_lt hj)

include hg in
theorem held_leads (k : Fin 32) : Leads (held g k.val) (lane (order g k)) := by
  have hcase : ∀ l : Fin 128, held g k.val l = ⊥ ∨ ∃ j : Fin 32, k ≤ j ∧ l = lane (order g j) ∧ held g k.val l = g (order g j) := by
    intro l
    unfold held
    split
    · rename_i hl
      split
      · exact Or.inl rfl
      · rename_i hn
        obtain ⟨j, hj⟩ := (order_bij g).2 ⟨l.val, hl⟩
        refine Or.inr ⟨j, ?_, ?_, ?_⟩
        · by_contra hc
          exact hn ⟨j, Fin.lt_def.mp (not_le.mp hc), hj⟩
        · rw [hj]; rfl
        · rw [hj]
    · exact Or.inl rfl
  constructor
  · intro l
    rw [held_at]
    rcases hcase l with h | ⟨j, hj, rfl, h⟩
    · rw [h]; exact bot_le
    · rw [h]
      rcases lt_or_eq_of_le hj with hlt | rfl
      · rcases order_le g k j hlt with h1 | ⟨h1, _⟩
        · exact le_of_lt h1
        · exact le_of_eq h1
      · exact le_refl _
  · intro l hl
    rw [held_at]
    rcases hcase l with h | ⟨j, hj, rfl, h⟩
    · rw [h]; exact hg _
    · rw [h]
      rcases lt_or_eq_of_le hj with hlt | rfl
      · rcases order_le g k j hlt with h1 | ⟨_, h1⟩
        · exact h1
        · exact absurd hl (not_lt.mpr (le_of_lt (by rw [Fin.lt_def] at h1 ⊢; exact h1)))
      · exact absurd hl (lt_irrefl _)

include hg in
theorem top_held (k : Fin 32) : top (held g k.val) = g (order g k) := (top_eq (held_leads hg k)).trans (held_at g k)

include hg in
theorem first_held (k : Fin 32) : first (held g k.val) = BitVec.ofNat 32 (order g k).val := first_eq (held_leads hg k)

include hg in
theorem rest_held (k : Fin 32) : rest (held g k.val) = held g (k.val + 1) := by
  rw [rest_eq (held_leads hg k)]
  funext l
  unfold held
  by_cases hl : l.val < 32
  · rw [dif_pos hl, dif_pos hl]
    by_cases e : l = lane (order g k)
    · rw [if_pos e, if_pos ⟨k, Nat.lt_succ_self _, Fin.ext (congrArg Fin.val e).symm⟩]
    · rw [if_neg e]
      refine if_congr ?_ rfl rfl
      constructor
      · rintro ⟨j, hj, h⟩
        exact ⟨j, Nat.lt_succ_of_lt hj, h⟩
      · rintro ⟨j, hj, h⟩
        refine ⟨j, ?_, h⟩
        by_contra hc
        have e2 : j = k := Fin.ext (Nat.le_antisymm (Nat.le_of_lt_succ hj) (not_lt.mp hc))
        rw [e2] at h
        exact e (Fin.ext (congrArg Fin.val h).symm)
  · rw [dif_neg hl, dif_neg hl]
    split <;> rfl

theorem held_zero (g : Fin 32 → EReal) : held g 0 = fun l : Fin 128 => if h : l.val < 32 then g ⟨l.val, h⟩ else ⊥ := by
  funext l
  unfold held
  split
  · rw [if_neg]
    rintro ⟨j, hj, _⟩
    exact absurd hj (Nat.not_lt_zero _)
  · rfl

end Cert.TopFour

end
-- ==== Proof.Router.lean ====
/- The router: the experts each row is sent to and their weights, one element at a time, and the reference's. -/
module

public import proofs.«01_k».proof.Defs
public import proofs.«01_k».proof.Proof.TopFour
public import proofs.«01_k».proof.Proof.Gen.RouterIdeal.Value
public import Idealize.ShloMosaic.Lib.Pointwise
public import Idealize.ShloMosaic.Lib.StableHlo.ReadAt

@[expose] public section

set_option maxRecDepth 16384

noncomputable section

namespace Cert.RouterIdeal.Val

open Cert.RouterIdeal Cert.RouterIdeal.Gen Cert.TopFour
open Idealize.ShloMosaic Idealize.ShloMosaic.TcCoe

theorem low_bits : Ideal.ofBits FTy.f32 0xFF800000#32 = (⊥ : EReal) := by
  simp [Ideal.ofBits, Ideal.ieee]

theorem pick_eq {α : Type} (a b : BitVec 32) (x y : α) : Scalar.select (IntOp.cmpi .eq a b) x y = if a = b then x else y := by
  unfold Scalar.select
  exact if_congr IntOp.cmpi_eq rfl rfl

theorem lane_lt {α : Type} (l : Fin 128) (x y : α) :
    Scalar.select (IntOp.cmpi .slt (BitVec.ofNat 32 l.val) 32#32) x y = if l.val < 32 then x else y := by
  unfold Scalar.select
  refine if_congr (IntOp.cmpi_slt.trans ?_) rfl rfl
  rw [BitVec.toInt_ofNat', BitVec.toInt_ofNat']
  simp only [Int.bmod_def]
  have := l.isLt
  split <;> split <;> omega

/-! ## One round -/

/-- A row of a block. -/
abbrev line (X : FVec Ideal S512x128 .f32) (r : Fin 512) : Fin 128 → EReal := fun l => X (ix2 r l)

/-- The lanes' numbers. -/
abbrev lanes : IVec S512x128 32 := iota .tc S512x128 32 [1] iota_S512x128_d1_w32

theorem max_at (X : FVec Ideal S512x128 .f32) (r : Fin 512) :
    (shapeCast S512x1 (multiReduction (F := Ideal) .maximumf [1] S512 X 0xFF800000#32 reduces_S512x128_S512 (.inl rfl) rfl) shapeCasts_S512_S512x1 : FVec Ideal S512x1 .f32) (ix2 r 0)
      = top (line X r) := by
  unfold top line
  rw [← low_bits]
  pointwise []

theorem min_at (X : FVec Ideal S512x128 .f32) (M : FVec Ideal S512x1 .f32) (r : Fin 512) (h : M (ix2 r 0) = top (line X r)) :
    (shapeCast S512x1 (multiReductionI .minsi [1] S512
      (select (cmpf .oeq X (broadcastTo S512x128 M broadcasts_S512x1_S512x128)) lanes (broadcast S512x128 128#32)) 2147483647#32 reduces_S512x128_S512 rfl) shapeCasts_S512_S512x1 : IVec S512x1 32) (ix2 r 0)
      = first (line X r) := by
  unfold first
  rw [← h]
  pointwise [lanes]

theorem rest_at (X : FVec Ideal S512x128 .f32) (I : IVec S512x1 32) (r : Fin 512) (h : I (ix2 r 0) = first (line X r)) :
    line (select (cmpi .eq lanes (broadcastTo S512x128 I broadcasts_S512x1_S512x128)) (broadcast S512x128 (Scalar.ofBits .f32 0xFF800000#32)) X) r = rest (line X r) := by
  funext l
  unfold rest
  rw [← h, ← low_bits]
  pointwise [lanes]
  exact pick_eq _ _ _ _

/-! ## The four rounds of a row -/

section
variable (Z : FVec Ideal S512x128 .f32) (r : Fin 512) (g : Fin 32 → EReal) (hg : ∀ e, ⊥ < g e)
  (hZ : ∀ e : Fin 32, Z (ix2 r (lane e)) = g e)

include hZ in
theorem start : line (k0_pay5 (F := Ideal) Z k0_pay3 k0_pay4) r = held g 0 := by
  rw [held_zero]
  funext l
  unfold line
  have e : k0_pay5 (F := Ideal) Z k0_pay3 k0_pay4 (ix2 r l) = if l.val < 32 then Z (ix2 r l) else ⊥ := by
    rw [← low_bits]
    pointwise [k0_pay5, k0_pay3, k0_pay4]
    exact lane_lt _ _ _
  rw [e]
  split
  · rename_i h
    exact hZ ⟨l.val, h⟩
  · rfl

include hg hZ

theorem val0 : k0_pay6 (F := Ideal) Z k0_pay3 k0_pay4 (ix2 r 0) = g (order g 0) :=
  (max_at _ r).trans (by rw [start Z r g hZ]; exact top_held hg 0)

theorem idx0 : k0_pay7 (F := Ideal) Z lanes k0_pay3 k0_pay4 (ix2 r 0) = BitVec.ofNat 32 (order g 0).val :=
  (min_at _ _ r (max_at _ r)).trans (by rw [start Z r g hZ]; exact first_held hg 0)

theorem cur1 : line (k0_pay9 (F := Ideal) Z lanes k0_pay3 k0_pay4) r = held g 1 :=
  (rest_at _ _ r (min_at _ _ r (max_at _ r))).trans (by rw [start Z r g hZ]; exact rest_held hg 0)

theorem val1 : k0_pay10 (F := Ideal) Z lanes k0_pay3 k0_pay4 (ix2 r 0) = g (order g 1) :=
  (max_at _ r).trans (by rw [cur1 Z r g hg hZ]; exact top_held hg 1)

theorem idx1 : k0_pay11 (F := Ideal) Z lanes k0_pay3 k0_pay4 (ix2 r 0) = BitVec.ofNat 32 (order g 1).val :=
  (min_at _ _ r (max_at _ r)).trans (by rw [cur1 Z r g hg hZ]; exact first_held hg 1)

theorem cur2 : line (k0_pay14 (F := Ideal) Z lanes k0_pay3 k0_pay4) r = held g 2 :=
  (rest_at _ _ r (min_at _ _ r (max_at _ r))).trans (by rw [cur1 Z r g hg hZ]; exact rest_held hg 1)

theorem val2 : k0_pay15 (F := Ideal) Z lanes k0_pay3 k0_pay4 (ix2 r 0) = g (order g 2) :=
  (max_at _ r).trans (by rw [cur2 Z r g hg hZ]; exact top_held hg 2)

theorem idx2 : k0_pay16 (F := Ideal) Z lanes k0_pay3 k0_pay4 (ix2 r 0) = BitVec.ofNat 32 (order g 2).val :=
  (min_at _ _ r (max_at _ r)).trans (by rw [cur2 Z r g hg hZ]; exact first_held hg 2)

theorem cur3 : line (k0_pay18 (F := Ideal) (k0_pay14 Z lanes k0_pay3 k0_pay4) (k0_pay17 Z lanes k0_pay3 k0_pay4)) r = held g 3 :=
  (rest_at _ _ r (min_at _ _ r (max_at _ r))).trans (by rw [cur2 Z r g hg hZ]; exact rest_held hg 2)

theorem val3 : k0_pay19 (F := Ideal) (k0_pay14 Z lanes k0_pay3 k0_pay4) (k0_pay17 Z lanes k0_pay3 k0_pay4) (ix2 r 0) = g (order g 3) :=
  (max_at _ r).trans (by rw [cur3 Z r g hg hZ]; exact top_held hg 3)

theorem idx3 : k0_pay20 (F := Ideal) lanes (k0_pay14 Z lanes k0_pay3 k0_pay4) (k0_pay17 Z lanes k0_pay3 k0_pay4) (ix2 r 0) = BitVec.ofNat 32 (order g 3).val :=
  (min_at _ _ r (max_at _ r)).trans (by rw [cur3 Z r g hg hZ]; exact first_held hg 3)

end

/-! ## The two results of a row -/

/-- The expert in a lane: the first four of the row's order. -/
def expertOf (g : Fin 32 → EReal) (l : Fin 128) : BitVec 32 :=
  if h : l.val < 4 then BitVec.ofNat 32 (order g ⟨l.val, by omega⟩).val else 0#32

/-- How far below the greatest an entry of the order is, as an exponential. -/
def weightOf (g : Fin 32 → EReal) (k : Fin 4) : EReal := Ideal.exp (g (order g ⟨k.val, by omega⟩) - g (order g 0))

/-- Its weight: among the four. -/
def shareOf (g : Fin 32 → EReal) (l : Fin 128) : EReal :=
  if h : l.val < 4 then Ideal.div (weightOf g ⟨l.val, h⟩) (∑ k, weightOf g k) else 0

theorem four {α : Type} (l : Fin 128) (a : Fin 4 → α) (z : α) :
    Scalar.select (IntOp.cmpi .eq (BitVec.ofNat 32 l.val) 3#32) (a 3) (Scalar.select (IntOp.cmpi .eq (BitVec.ofNat 32 l.val) 2#32) (a 2)
      (Scalar.select (IntOp.cmpi .eq (BitVec.ofNat 32 l.val) 1#32) (a 1) (Scalar.select (IntOp.cmpi .eq (BitVec.ofNat 32 l.val) 0#32) (a 0) z)))
      = if h : l.val < 4 then a ⟨l.val, h⟩ else z := by
  simp only [pick_eq]
  have e3 : BitVec.ofNat 32 l.val = 3#32 ↔ l = 3 := lane_inj l 3
  have e2 : BitVec.ofNat 32 l.val = 2#32 ↔ l = 2 := lane_inj l 2
  have e1 : BitVec.ofNat 32 l.val = 1#32 ↔ l = 1 := lane_inj l 1
  have e0 : BitVec.ofNat 32 l.val = 0#32 ↔ l = 0 := lane_inj l 0
  simp only [e0, e1, e2, e3]
  by_cases h3 : l = 3
  · subst h3; rfl
  by_cases h2 : l = 2
  · subst h2; rfl
  by_cases h1 : l = 1
  · subst h1; rfl
  by_cases h0 : l = 0
  · subst h0; rfl
  rw [if_neg h3, if_neg h2, if_neg h1, if_neg h0, dif_neg]
  simp only [Fin.ext_iff] at h0 h1 h2 h3
  have a0 : ((0 : Fin 128) : ℕ) = 0 := rfl
  have a1 : ((1 : Fin 128) : ℕ) = 1 := rfl
  have a2 : ((2 : Fin 128) : ℕ) = 2 := rfl
  have a3 : ((3 : Fin 128) : ℕ) = 3 := rfl
  omega

/-- A block's experts from its logits. -/
def experts (Z : FVec Ideal S512x128 .f32) : IVec S512x128 32 :=
  k0_pay22 (F := Ideal) lanes (k0_pay13 Z lanes k0_pay3 k0_pay4) (k0_pay14 Z lanes k0_pay3 k0_pay4) (k0_pay16 Z lanes k0_pay3 k0_pay4) (k0_pay17 Z lanes k0_pay3 k0_pay4)

/-- A block's weights from its logits. -/
def shares (Z : FVec Ideal S512x128 .f32) : FVec Ideal S512x128 .f32 :=
  k0_pay30 (F := Ideal) lanes
    (k0_pay25 (k0_pay6 Z k0_pay3 k0_pay4) (k0_pay15 Z lanes k0_pay3 k0_pay4))
    (k0_pay26 (k0_pay6 Z k0_pay3 k0_pay4) (k0_pay14 Z lanes k0_pay3 k0_pay4) (k0_pay17 Z lanes k0_pay3 k0_pay4))
    (k0_pay27 (k0_pay6 Z k0_pay3 k0_pay4) (k0_pay10 Z lanes k0_pay3 k0_pay4) (k0_pay14 Z lanes k0_pay3 k0_pay4) (k0_pay15 Z lanes k0_pay3 k0_pay4) (k0_pay17 Z lanes k0_pay3 k0_pay4))
    (k0_pay29 lanes (k0_pay6 Z k0_pay3 k0_pay4) (k0_pay10 Z lanes k0_pay3 k0_pay4) (k0_pay14 Z lanes k0_pay3 k0_pay4) (k0_pay15 Z lanes k0_pay3 k0_pay4) (k0_pay17 Z lanes k0_pay3 k0_pay4))

/-- Four words laid in the first four lanes. -/
theorem words_at (i0 i1 i2 i3 : IVec S512x1 32) (r : Fin 512) (l : Fin 128) :
    (select (cmpi .eq lanes (broadcast S512x128 3#32)) (broadcastTo S512x128 (shapeCast S512x1 i3 shapeCasts_S512x1_S512x1) broadcasts_S512x1_S512x128)
      (select (cmpi .eq lanes (broadcast S512x128 2#32)) (broadcastTo S512x128 (shapeCast S512x1 i2 shapeCasts_S512x1_S512x1) broadcasts_S512x1_S512x128)
      (select (cmpi .eq lanes (broadcast S512x128 1#32)) (broadcastTo S512x128 (shapeCast S512x1 i1 shapeCasts_S512x1_S512x1) broadcasts_S512x1_S512x128)
      (select (cmpi .eq lanes (broadcast S512x128 0#32)) (broadcastTo S512x128 (shapeCast S512x1 i0 shapeCasts_S512x1_S512x1) broadcasts_S512x1_S512x128)
      (broadcast S512x128 0#32)))) : IVec S512x128 32) (ix2 r l)
      = if h : l.val < 4 then (![i0 (ix2 r 0), i1 (ix2 r 0), i2 (ix2 r 0), i3 (ix2 r 0)] : Fin 4 → BitVec 32) ⟨l.val, h⟩ else 0#32 := by
  rw [← four l _ (0#32)]
  pointwise [lanes]

/-- Four numbers laid in the first four lanes. -/
theorem numbers_at (i0 i1 i2 i3 : FVec Ideal S512x1 .f32) (r : Fin 512) (l : Fin 128) :
    (select (cmpi .eq lanes (broadcast S512x128 3#32)) (broadcastTo S512x128 (shapeCast S512x1 i3 shapeCasts_S512x1_S512x1) broadcasts_S512x1_S512x128)
      (select (cmpi .eq lanes (broadcast S512x128 2#32)) (broadcastTo S512x128 (shapeCast S512x1 i2 shapeCasts_S512x1_S512x1) broadcasts_S512x1_S512x128)
      (select (cmpi .eq lanes (broadcast S512x128 1#32)) (broadcastTo S512x128 (shapeCast S512x1 i1 shapeCasts_S512x1_S512x1) broadcasts_S512x1_S512x128)
      (select (cmpi .eq lanes (broadcast S512x128 0#32)) (broadcastTo S512x128 (shapeCast S512x1 i0 shapeCasts_S512x1_S512x1) broadcasts_S512x1_S512x128)
      (broadcast S512x128 (Scalar.ofBits .f32 0x00000000#32))))) : FVec Ideal S512x128 .f32) (ix2 r l)
      = if h : l.val < 4 then (![i0 (ix2 r 0), i1 (ix2 r 0), i2 (ix2 r 0), i3 (ix2 r 0)] : Fin 4 → EReal) ⟨l.val, h⟩ else 0 := by
  rw [← four l _ (0 : EReal)]
  pointwise [lanes]

/-- The weights from the four greatest. -/
theorem weights_at (v43 v60 v77 : FVec Ideal S512x1 .f32) (v75 : FVec Ideal S512x128 .f32) (v85 : IVec S512x128 1) (r : Fin 512) (l : Fin 128) :
    k0_pay30 (F := Ideal) lanes (k0_pay25 v43 v77) (k0_pay26 v43 v75 v85) (k0_pay27 v43 v60 v75 v77 v85) (k0_pay29 lanes v43 v60 v75 v77 v85) (ix2 r l)
      = if h : l.val < 4 then
          Ideal.div ((![Ideal.exp (v43 (ix2 r 0) - v43 (ix2 r 0)), Ideal.exp (v60 (ix2 r 0) - v43 (ix2 r 0)), Ideal.exp (v77 (ix2 r 0) - v43 (ix2 r 0)),
            Ideal.exp (k0_pay19 (F := Ideal) v75 v85 (ix2 r 0) - v43 (ix2 r 0))] : Fin 4 → EReal) ⟨l.val, h⟩)
            (Ideal.exp (v43 (ix2 r 0) - v43 (ix2 r 0)) + Ideal.exp (v60 (ix2 r 0) - v43 (ix2 r 0)) + Ideal.exp (v77 (ix2 r 0) - v43 (ix2 r 0))
              + Ideal.exp (k0_pay19 (F := Ideal) v75 v85 (ix2 r 0) - v43 (ix2 r 0)))
        else 0 := by
  unfold k0_pay30 k0_pay29 k0_pay27 k0_pay26 k0_pay25 k0_pay24 k0_pay23
  generalize k0_pay19 (F := Ideal) v75 v85 = v94
  refine (numbers_at _ _ _ _ r l).trans ?_
  split
  · rename_i h
    obtain ⟨n, hn⟩ := l
    dsimp only at h ⊢
    interval_cases n <;> rfl
  · rfl

section
variable (Z : FVec Ideal S512x128 .f32) (r : Fin 512) (g : Fin 32 → EReal) (hg : ∀ e, ⊥ < g e)
  (hZ : ∀ e : Fin 32, Z (ix2 r (lane e)) = g e)
include hg hZ

theorem experts_at (l : Fin 128) : experts Z (ix2 r l) = expertOf g l := by
  refine (words_at _ _ _ _ r l).trans ?_
  unfold expertOf
  rw [idx0 Z r g hg hZ, idx1 Z r g hg hZ, idx2 Z r g hg hZ, idx3 Z r g hg hZ]
  split
  · rename_i h
    obtain ⟨n, hn⟩ := l
    dsimp only at h ⊢
    interval_cases n <;> rfl
  · rfl

theorem shares_at (l : Fin 128) : shares Z (ix2 r l) = shareOf g l := by
  refine (weights_at _ _ _ _ _ r l).trans ?_
  rw [val0 Z r g hg hZ, val1 Z r g hg hZ, val2 Z r g hg hZ, val3 Z r g hg hZ]
  unfold shareOf
  split
  · rename_i h
    rw [Fin.sum_univ_four]
    obtain ⟨n, hn⟩ := l
    dsimp only at h ⊢
    interval_cases n <;> rfl
  · rfl

end

end Cert.RouterIdeal.Val

end
-- ==== Proof.RouterRun.lean ====
/- What the router's body leaves in its first two outputs, the first point and the later ones alike; the blocks it
   reads; and the two results after the run. -/
module

public import proofs.«01_k».proof.Proof.Router

@[expose] public section

set_option maxRecDepth 16384

noncomputable section

namespace Cert.RouterIdeal.Val

open Cert.RouterIdeal Cert.RouterIdeal.Gen Cert.TopFour
open Idealize.ShloMosaic Idealize.ShloMosaic.TcCoe

/-! ## What the body leaves -/

theorem z0 : (![0, 0] : Fin S512x4096.rank → Nat) = fun _ => 0 := funext fun a => by fin_cases a <;> rfl
theorem z1 : (![0, 0] : Fin S1x4096.rank → Nat) = fun _ => 0 := funext fun a => by fin_cases a <;> rfl
theorem z2 : (![0, 0] : Fin S4096x128.rank → Nat) = fun _ => 0 := funext fun a => by fin_cases a <;> rfl
theorem z3 : (![0, 0] : Fin S1x128.rank → Nat) = fun _ => 0 := funext fun a => by fin_cases a <;> rfl
theorem z4 : (![0, 0] : Fin S512x128.rank → Nat) = fun _ => 0 := funext fun a => by fin_cases a <;> rfl

theorem outA4 (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S512x128 .i32) (harg5 : arg5.IsWhole) (arg6 : Memref sig .tc .vmem S512x128 .f32) (harg6 : arg6.IsWhole)
    (arg7 : Memref sig .tc .vmem S512x128 .i32) (harg7 : arg7.IsWhole) (arg8 : Memref sig .tc .vmem S1x128 .f32) (harg8 : arg8.IsWhole) (arg9 : Memref sig .tc .vmem S1x128 .f32) (harg9 : arg9.IsWhole) (hc : cond0_0 i)
    (x0 : Vec Ideal S512x4096 .f32) (x1 : Vec Ideal S1x4096 .f32) (x2 : Vec Ideal S4096x128 .f32) (x3 : Vec Ideal S1x128 .f32) :
    out0_A_4 (F := Ideal) c i arg1 harg1 arg2 harg2 arg3 harg3 arg4 harg4 arg5 harg5 arg6 harg6 arg7 harg7 arg8 harg8 arg9 harg9 hc x0 x1 x2 x3 = experts (k0_pay2 x0 x1 x2 x3) := by
  unfold out0_A_4
  rw [View.read_writes_eq_canon _ _ _ (cover0_A_4 (F := Ideal) c i arg1 harg1 arg2 harg2 arg3 harg3 arg4 harg4 arg5 harg5 arg6 harg6 arg7 harg7 arg8 harg8 arg9 harg9 hc x0 x1 x2 x3)]
  unfold kernelRun0_A
  dsimp only
  rw [View.canon_unit_zero (S := S512x128) z4]
  sl_unfold_words
  simp only [View.readAt_eq_ld, harg1.read_unread, harg2.read_unread, harg3.read_unread, harg4.read_unread, View.ld_unit_zero (S := S512x4096) z0, View.ld_unit_zero (S := S1x4096) z1,
    View.ld_unit_zero (S := S4096x128) z2, View.ld_unit_zero (S := S1x128) z3]
  rfl

theorem outA5 (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S512x128 .i32) (harg5 : arg5.IsWhole) (arg6 : Memref sig .tc .vmem S512x128 .f32) (harg6 : arg6.IsWhole)
    (arg7 : Memref sig .tc .vmem S512x128 .i32) (harg7 : arg7.IsWhole) (arg8 : Memref sig .tc .vmem S1x128 .f32) (harg8 : arg8.IsWhole) (arg9 : Memref sig .tc .vmem S1x128 .f32) (harg9 : arg9.IsWhole) (hc : cond0_0 i)
    (x0 : Vec Ideal S512x4096 .f32) (x1 : Vec Ideal S1x4096 .f32) (x2 : Vec Ideal S4096x128 .f32) (x3 : Vec Ideal S1x128 .f32) :
    out0_A_5 (F := Ideal) c i arg1 harg1 arg2 harg2 arg3 harg3 arg4 harg4 arg5 harg5 arg6 harg6 arg7 harg7 arg8 harg8 arg9 harg9 hc x0 x1 x2 x3 = shares (k0_pay2 x0 x1 x2 x3) := by
  unfold out0_A_5
  rw [View.read_writes_eq_canon _ _ _ (cover0_A_5 (F := Ideal) c i arg1 harg1 arg2 harg2 arg3 harg3 arg4 harg4 arg5 harg5 arg6 harg6 arg7 harg7 arg8 harg8 arg9 harg9 hc x0 x1 x2 x3)]
  unfold kernelRun0_A
  dsimp only
  rw [View.canon_unit_zero (S := S512x128) z4]
  sl_unfold_words
  simp only [View.readAt_eq_ld, harg1.read_unread, harg2.read_unread, harg3.read_unread, harg4.read_unread, View.ld_unit_zero (S := S512x4096) z0, View.ld_unit_zero (S := S1x4096) z1,
    View.ld_unit_zero (S := S4096x128) z2, View.ld_unit_zero (S := S1x128) z3]
  rfl

theorem outB4 (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S512x128 .i32) (harg5 : arg5.IsWhole) (arg6 : Memref sig .tc .vmem S512x128 .f32) (harg6 : arg6.IsWhole)
    (arg7 : Memref sig .tc .vmem S512x128 .i32) (harg7 : arg7.IsWhole) (arg8 : Memref sig .tc .vmem S1x128 .f32) (harg8 : arg8.IsWhole) (arg9 : Memref sig .tc .vmem S1x128 .f32) (harg9 : arg9.IsWhole) (hc : ¬cond0_0 i)
    (x0 : Vec Ideal S512x4096 .f32) (x1 : Vec Ideal S1x4096 .f32) (x2 : Vec Ideal S4096x128 .f32) (x3 : Vec Ideal S1x128 .f32) (xs : Vec Ideal S1x128 .f32) :
    out0_B_4 (F := Ideal) c i arg1 harg1 arg2 harg2 arg3 harg3 arg4 harg4 arg5 harg5 arg6 harg6 arg7 harg7 arg8 harg8 arg9 harg9 hc x0 x1 x2 x3 xs = experts (k0_pay2 x0 x1 x2 x3) := by
  unfold out0_B_4
  rw [View.read_writes_eq_canon _ _ _ (cover0_B_4 (F := Ideal) c i arg1 harg1 arg2 harg2 arg3 harg3 arg4 harg4 arg5 harg5 arg6 harg6 arg7 harg7 arg8 harg8 arg9 harg9 hc x0 x1 x2 x3 xs)]
  unfold kernelRun0_B
  dsimp only
  rw [View.canon_unit_zero (S := S512x128) z4]
  sl_unfold_words
  simp only [View.readAt_eq_ld, harg1.read_unread, harg2.read_unread, harg3.read_unread, harg4.read_unread, View.ld_unit_zero (S := S512x4096) z0, View.ld_unit_zero (S := S1x4096) z1,
    View.ld_unit_zero (S := S4096x128) z2, View.ld_unit_zero (S := S1x128) z3]
  rfl

theorem outB5 (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S512x128 .i32) (harg5 : arg5.IsWhole) (arg6 : Memref sig .tc .vmem S512x128 .f32) (harg6 : arg6.IsWhole)
    (arg7 : Memref sig .tc .vmem S512x128 .i32) (harg7 : arg7.IsWhole) (arg8 : Memref sig .tc .vmem S1x128 .f32) (harg8 : arg8.IsWhole) (arg9 : Memref sig .tc .vmem S1x128 .f32) (harg9 : arg9.IsWhole) (hc : ¬cond0_0 i)
    (x0 : Vec Ideal S512x4096 .f32) (x1 : Vec Ideal S1x4096 .f32) (x2 : Vec Ideal S4096x128 .f32) (x3 : Vec Ideal S1x128 .f32) (xs : Vec Ideal S1x128 .f32) :
    out0_B_5 (F := Ideal) c i arg1 harg1 arg2 harg2 arg3 harg3 arg4 harg4 arg5 harg5 arg6 harg6 arg7 harg7 arg8 harg8 arg9 harg9 hc x0 x1 x2 x3 xs = shares (k0_pay2 x0 x1 x2 x3) := by
  unfold out0_B_5
  rw [View.read_writes_eq_canon _ _ _ (cover0_B_5 (F := Ideal) c i arg1 harg1 arg2 harg2 arg3 harg3 arg4 harg4 arg5 harg5 arg6 harg6 arg7 harg7 arg8 harg8 arg9 harg9 hc x0 x1 x2 x3 xs)]
  unfold kernelRun0_B
  dsimp only
  rw [View.canon_unit_zero (S := S512x128) z4]
  sl_unfold_words
  simp only [View.readAt_eq_ld, harg1.read_unread, harg2.read_unread, harg3.read_unread, harg4.read_unread, View.ld_unit_zero (S := S512x4096) z0, View.ld_unit_zero (S := S1x4096) z1,
    View.ld_unit_zero (S := S4096x128) z2, View.ld_unit_zero (S := S1x128) z3]
  rfl

/-! ## Real numbers -/

/-- Neither infinity. -/
def IsReal (x : EReal) : Prop := ∃ a : ℝ, x = (a : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem coe_sum {n : ℕ} (a : Fin n → ℝ) : ((∑ i, a i : ℝ) : EReal) = ∑ i, (a i : EReal) := by
  induction n with
  | zero => simp
  | succ n ih => rw [Fin.sum_univ_succ, Fin.sum_univ_succ, EReal.coe_add, ih]

theorem IsReal.sum {n : ℕ} {f : Fin n → EReal} (h : ∀ i, IsReal (f i)) : IsReal (∑ i, f i) := by
  choose a ha using h
  exact ⟨∑ i, a i, by rw [coe_sum]; exact Finset.sum_congr rfl fun i _ => ha i⟩

theorem IsReal.self_sub {x : EReal} (hx : IsReal x) : x - x = 0 := by
  obtain ⟨a, rfl⟩ := hx
  rw [← EReal.coe_sub, sub_self, EReal.coe_zero]

theorem IsReal.bot_lt {x : EReal} (hx : IsReal x) : ⊥ < x := by
  obtain ⟨a, rfl⟩ := hx
  exact EReal.bot_lt_coe a

theorem width : Ideal.ofBits FTy.f32 0x45800000#32 = ((4096 : ℝ) : EReal) := by
  simp [Ideal.ofBits, Ideal.ieee]
  rw [← EReal.coe_mul]
  norm_num

theorem small : ∃ e : ℝ, 0 < e ∧ Ideal.ofBits FTy.f32 0x3727C5AC#32 = (e : EReal) := by
  refine ⟨10995116 / 1099511627776, by norm_num, ?_⟩
  simp [Ideal.ofBits, Ideal.ieee]
  rw [← EReal.coe_mul]
  norm_num

/-! ## The logits -/

/-- One row divided by its root mean square, times the weight. -/
def normed (x w : Fin 4096 → EReal) (d : Fin 4096) : EReal :=
  x d * Ideal.rsqrt (Ideal.div (∑ e, x e * x e) (Ideal.ofBits .f32 0x45800000#32) + Ideal.ofBits .f32 0x3727C5AC#32) * w d

theorem square_nonneg (x : EReal) : 0 ≤ x * x := by
  induction x with
  | bot => simp
  | top => simp
  | coe a => rw [← EReal.coe_mul]; exact_mod_cast mul_self_nonneg a

theorem square_top {x : EReal} (h : ¬ IsReal x) : x * x = ⊤ := by
  induction x with
  | bot => simp
  | top => simp
  | coe a => exact absurd ⟨a, rfl⟩ h

/-- A row with an infinity in it is divided by infinity, and is zero. -/
theorem normed_real {x w : Fin 4096 → EReal} (hw : ∀ d, IsReal (w d)) (d : Fin 4096) : IsReal (normed x w d) := by
  by_cases hx : ∀ d, IsReal (x d)
  swap
  · obtain ⟨i, hi⟩ := not_forall.mp hx
    obtain ⟨e, he, hb⟩ := small
    have ht : ∑ e, x e * x e = ⊤ := by
      refine top_le_iff.mp ?_
      rw [← square_top hi]
      exact Finset.single_le_sum (f := fun e => x e * x e) (fun j _ => square_nonneg (x j)) (Finset.mem_univ i)
    refine ⟨0, ?_⟩
    unfold normed
    rw [ht, width, hb, Ideal.div_coe (by norm_num), EReal.top_mul_coe_of_pos (by norm_num), EReal.top_add_coe]
    show x d * 0 * w d = 0
    rw [mul_zero, zero_mul]
  refine ((hx d).mul ?_).mul (hw d)
  choose a ha using hx
  obtain ⟨e, he, hb⟩ := small
  have hs : ∑ e, x e * x e = ((∑ i, a i * a i : ℝ) : EReal) := by
    rw [coe_sum]
    exact Finset.sum_congr rfl fun i _ => by rw [ha i, EReal.coe_mul]
  have h0 : (0 : ℝ) ≤ ∑ i, a i * a i := Finset.sum_nonneg fun i _ => mul_self_nonneg _
  have hp : 0 < (∑ i, a i * a i) * (1 / 4096) + e := by positivity
  rw [hs, width, hb, Ideal.div_coe (by norm_num), ← EReal.coe_mul, ← EReal.coe_add, Ideal.rsqrt_coe, if_neg (not_lt.mpr (le_of_lt hp)), if_neg (ne_of_gt hp)]
  exact ⟨_, rfl⟩

/-- A row's logit. -/
def logit (y W : Fin 4096 → EReal) (b : EReal) : EReal := ∑ d, y d * W d + b

theorem logit_low {y W : Fin 4096 → EReal} {b : EReal} (hy : ∀ d, IsReal (y d)) (hW : ∀ d, IsReal (W d)) (hb : ⊥ < b) : ⊥ < logit y W b :=
  EReal.bot_lt_add_iff.mpr ⟨(IsReal.sum fun d => (hy d).mul (hW d)).bot_lt, hb⟩

/-- The product taken in a high and a low part of either side: on real numbers the low parts are zero. -/
theorem pay2_at (X : FVec Ideal S512x4096 .f32) (w : FVec Ideal S1x4096 .f32) (W : FVec Ideal S4096x128 .f32) (b : FVec Ideal S1x128 .f32) (r : Fin 512) (l : Fin 128)
    (hw : ∀ d, IsReal (w (ix2 0 d))) (hW : ∀ d, IsReal (W (ix2 d l))) :
    k0_pay2 (F := Ideal) X w W b (ix2 r l) = logit (normed (fun d => X (ix2 r d)) (fun d => w (ix2 0 d))) (fun d => W (ix2 d l)) (b (ix2 0 l)) := by
  have hy := fun d => normed_real (x := fun d => X (ix2 r d)) hw d
  have e : k0_pay2 (F := Ideal) X w W b (ix2 r l)
      = ∑ d, normed (fun d => X (ix2 r d)) (fun d => w (ix2 0 d)) d * W (ix2 d l)
        + (∑ d, normed (fun d => X (ix2 r d)) (fun d => w (ix2 0 d)) d * (W (ix2 d l) - W (ix2 d l))
          + ∑ d, (normed (fun d => X (ix2 r d)) (fun d => w (ix2 0 d)) d - normed (fun d => X (ix2 r d)) (fun d => w (ix2 0 d)) d) * W (ix2 d l))
        + b (ix2 0 l) := by
    unfold normed
    pointwise [k0_pay2]
  rw [e]
  unfold logit
  rw [Finset.sum_eq_zero (f := fun d => normed (fun d => X (ix2 r d)) (fun d => w (ix2 0 d)) d * (W (ix2 d l) - W (ix2 d l))) fun d _ => by
      rw [(hW d).self_sub, mul_zero],
    Finset.sum_eq_zero (f := fun d => (normed (fun d => X (ix2 r d)) (fun d => w (ix2 0 d)) d - normed (fun d => X (ix2 r d)) (fun d => w (ix2 0 d)) d) * W (ix2 d l)) fun d _ => by
      rw [(hy d).self_sub, zero_mul], add_zero, add_zero]

/-- The logits of every row. -/
def logitAt (X : FVec Ideal S16384x4096 .f32) (w : FVec Ideal S1x4096 .f32) (W : FVec Ideal S4096x32 .f32) (b : FVec Ideal S1x32 .f32) (R : Fin 16384) (e : Fin 32) : EReal :=
  logit (normed (fun d => X (ix2 R d)) (fun d => w (ix2 0 d))) (fun d => W (ix2 d e)) (b (ix2 0 e))

/-! ## The blocks -/

theorem index0 : ∀ t : Fin cfg0.N, (cfg0.win 0).index t = ![t.val, 0] :=
  (by decide +kernel : ∀ t : Fin grid0.N, win0_0.index t = ![t.val, 0])

theorem index1 : ∀ t : Fin cfg0.N, (cfg0.win 1).index t = ![0, 0] :=
  (by decide +kernel : ∀ t : Fin grid0.N, win0_1.index t = ![0, 0])

theorem index2 : ∀ t : Fin cfg0.N, (cfg0.win 2).index t = ![0, 0] :=
  (by decide +kernel : ∀ t : Fin grid0.N, win0_2.index t = ![0, 0])

theorem index3 : ∀ t : Fin cfg0.N, (cfg0.win 3).index t = ![0, 0] :=
  (by decide +kernel : ∀ t : Fin grid0.N, win0_3.index t = ![0, 0])

theorem index4 : ∀ t : Fin cfg0.N, (cfg0.win 4).index t = ![t.val, 0] :=
  (by decide +kernel : ∀ t : Fin grid0.N, win0_4.index t = ![t.val, 0])

theorem index5 : ∀ t : Fin cfg0.N, (cfg0.win 5).index t = ![t.val, 0] :=
  (by decide +kernel : ∀ t : Fin grid0.N, win0_5.index t = ![t.val, 0])

theorem lt_N (t : Fin cfg0.N) : t.val < 32 := lt_of_lt_of_eq t.isLt N_0

section
variable (m : (ℓ : Loc nD τ sig) → Buf (Elt Ideal) ℓ) (c : Dev nD)

/-- The rows. -/
abbrev rows : FVec Ideal S16384x4096 .f32 := m ((c.tc : Thread nD τ).loc main_arg0)
/-- The normalization's weight. -/
abbrev scale : FVec Ideal S1x4096 .f32 := m ((c.tc : Thread nD τ).loc main_arg1)
/-- The router's weight. -/
abbrev weight : FVec Ideal S4096x32 .f32 := m ((c.tc : Thread nD τ).loc main_arg2)
/-- Its bias. -/
abbrev bias : FVec Ideal S1x32 .f32 := m ((c.tc : Thread nD τ).loc main_arg3)

theorem weight_at (d : Fin 4096) (C : Fin 128) : (V m c main_v0 : Vec Ideal S4096x128 .f32) (ix2 d C)
    = if h : C.val < 32 then weight m c (ix2 d ⟨C.val, h⟩) else (FloatOps.sitofp .f32 (0#32) : Ideal .f32) := by
  unfold V
  after_reads_at

theorem bias_at (d : Fin 1) (C : Fin 128) : (V m c main_v1 : Vec Ideal S1x128 .f32) (ix2 d C)
    = if h : C.val < 32 then bias m c (ix2 d ⟨C.val, h⟩) else (FloatOps.sitofp .f32 (0#32) : Ideal .f32) := by
  obtain rfl : d = 0 := Subsingleton.elim _ _
  unfold V
  after_reads_at

theorem rows_read (t : Fin cfg0.N) (r : Fin 512) (d : Fin 4096) (hr : 512 * t.val + r.val < 16384) :
    (iblk m c 0 t : Vec Ideal S512x4096 .f32) (ix2 r d) = rows m c (ix2 ⟨512 * t.val + r.val, hr⟩ d) := by
  show (V m c main_arg0 : Vec Ideal S16384x4096 .f32) (((cfg0.win 0).blk t).view.emb (ix2 r d)) = _
  rw [V_main_arg0]
  refine congrArg _ ?_
  funext a
  refine Fin.ext ?_
  refine ((cfg0.win 0).rect_emb_val t (ix2 r d) a rfl).trans ?_
  rw [index0]
  match a with
  | ⟨0, _⟩ => exact congrArg (· + r.val) (Nat.mul_comm t.val 512)
  | ⟨1, _⟩ => exact (congrArg (· + d.val) (Nat.zero_mul _)).trans (Nat.zero_add _)

theorem scale_read (t : Fin cfg0.N) (r : Fin 1) (d : Fin 4096) :
    (iblk m c 1 t : Vec Ideal S1x4096 .f32) (ix2 r d) = scale m c (ix2 r d) := by
  show (V m c main_arg1 : Vec Ideal S1x4096 .f32) (((cfg0.win 1).blk t).view.emb (ix2 r d)) = _
  rw [V_main_arg1]
  refine congrArg _ ?_
  funext a
  refine Fin.ext ?_
  refine ((cfg0.win 1).rect_emb_val t (ix2 r d) a rfl).trans ?_
  rw [index1]
  match a with
  | ⟨0, _⟩ => exact (congrArg (· + r.val) (Nat.zero_mul _)).trans (Nat.zero_add _)
  | ⟨1, _⟩ => exact (congrArg (· + d.val) (Nat.zero_mul _)).trans (Nat.zero_add _)

theorem weight_read (t : Fin cfg0.N) (r : Fin 4096) (e : Fin 32) :
    (iblk m c 2 t : Vec Ideal S4096x128 .f32) (ix2 r (lane e)) = weight m c (ix2 r e) := by
  have h : (iblk m c 2 t : Vec Ideal S4096x128 .f32) (ix2 r (lane e)) = (V m c main_v0 : Vec Ideal S4096x128 .f32) (ix2 r (lane e)) := by
    show (V m c main_v0 : Vec Ideal S4096x128 .f32) (((cfg0.win 2).blk t).view.emb (ix2 r (lane e))) = _
    refine congrArg _ ?_
    funext a
    refine Fin.ext ?_
    refine ((cfg0.win 2).rect_emb_val t (ix2 r (lane e)) a rfl).trans ?_
    rw [index2]
    match a with
    | ⟨0, _⟩ => exact (congrArg (· + r.val) (Nat.zero_mul _)).trans (Nat.zero_add _)
    | ⟨1, _⟩ => exact (congrArg (· + e.val) (Nat.zero_mul _)).trans (Nat.zero_add _)
  rw [h, weight_at, dif_pos (show (lane e).val < 32 from e.isLt)]
  rfl

theorem bias_read (t : Fin cfg0.N) (r : Fin 1) (e : Fin 32) :
    (iblk m c 3 t : Vec Ideal S1x128 .f32) (ix2 r (lane e)) = bias m c (ix2 r e) := by
  have h : (iblk m c 3 t : Vec Ideal S1x128 .f32) (ix2 r (lane e)) = (V m c main_v1 : Vec Ideal S1x128 .f32) (ix2 r (lane e)) := by
    show (V m c main_v1 : Vec Ideal S1x128 .f32) (((cfg0.win 3).blk t).view.emb (ix2 r (lane e))) = _
    refine congrArg _ ?_
    funext a
    refine Fin.ext ?_
    refine ((cfg0.win 3).rect_emb_val t (ix2 r (lane e)) a rfl).trans ?_
    rw [index3]
    match a with
    | ⟨0, _⟩ => exact (congrArg (· + r.val) (Nat.zero_mul _)).trans (Nat.zero_add _)
    | ⟨1, _⟩ => exact (congrArg (· + e.val) (Nat.zero_mul _)).trans (Nat.zero_add _)
  rw [h, bias_at, dif_pos (show (lane e).val < 32 from e.isLt)]
  rfl

theorem emb4 (t : Fin cfg0.N) (r : Fin 512) (d : Fin 128) (hr : 512 * t.val + r.val < 16384) :
    ((cfg0.win 4).blk t).view.emb (ix2 r d) = (ix2 ⟨512 * t.val + r.val, hr⟩ d : S16384x128.Idx) := by
  funext a
  refine Fin.ext ?_
  refine ((cfg0.win 4).rect_emb_val t (ix2 r d) a rfl).trans ?_
  rw [index4]
  match a with
  | ⟨0, _⟩ => exact congrArg (· + r.val) (Nat.mul_comm t.val 512)
  | ⟨1, _⟩ => exact (congrArg (· + d.val) (Nat.zero_mul _)).trans (Nat.zero_add _)

theorem cover4 (j : S16384x128.Idx) : ∃ t y, (cfg0.win 4).flush t = true ∧ ((cfg0.win 4).blk t).view.emb y = j := by
  have h0 : (j (0 : Fin 2)).val < 16384 := (j (0 : Fin 2)).isLt
  have ht : (j (0 : Fin 2)).val / 512 < cfg0.N := lt_of_lt_of_eq (by omega) N_0.symm
  have e := emb4 ⟨(j (0 : Fin 2)).val / 512, ht⟩ ⟨(j (0 : Fin 2)).val % 512, by omega⟩ (j (1 : Fin 2))
    (by show 512 * ((j (0 : Fin 2)).val / 512) + (j (0 : Fin 2)).val % 512 < 16384; omega)
  refine ⟨_, _, flush0_4 _, e.trans ?_⟩
  funext a
  match a with
  | ⟨0, _⟩ => exact Fin.ext (by show 512 * ((j (0 : Fin 2)).val / 512) + (j (0 : Fin 2)).val % 512 = (j (0 : Fin 2)).val; omega)
  | ⟨1, _⟩ => rfl

theorem emb5 (t : Fin cfg0.N) (r : Fin 512) (d : Fin 128) (hr : 512 * t.val + r.val < 16384) :
    ((cfg0.win 5).blk t).view.emb (ix2 r d) = (ix2 ⟨512 * t.val + r.val, hr⟩ d : S16384x128.Idx) := by
  funext a
  refine Fin.ext ?_
  refine ((cfg0.win 5).rect_emb_val t (ix2 r d) a rfl).trans ?_
  rw [index5]
  match a with
  | ⟨0, _⟩ => exact congrArg (· + r.val) (Nat.mul_comm t.val 512)
  | ⟨1, _⟩ => exact (congrArg (· + d.val) (Nat.zero_mul _)).trans (Nat.zero_add _)

theorem cover5 (j : S16384x128.Idx) : ∃ t y, (cfg0.win 5).flush t = true ∧ ((cfg0.win 5).blk t).view.emb y = j := by
  have h0 : (j (0 : Fin 2)).val < 16384 := (j (0 : Fin 2)).isLt
  have ht : (j (0 : Fin 2)).val / 512 < cfg0.N := lt_of_lt_of_eq (by omega) N_0.symm
  have e := emb5 ⟨(j (0 : Fin 2)).val / 512, ht⟩ ⟨(j (0 : Fin 2)).val % 512, by omega⟩ (j (1 : Fin 2))
    (by show 512 * ((j (0 : Fin 2)).val / 512) + (j (0 : Fin 2)).val % 512 < 16384; omega)
  refine ⟨_, _, flush0_5 _, e.trans ?_⟩
  funext a
  match a with
  | ⟨0, _⟩ => exact Fin.ext (by show 512 * ((j (0 : Fin 2)).val / 512) + (j (0 : Fin 2)).val % 512 = (j (0 : Fin 2)).val; omega)
  | ⟨1, _⟩ => rfl

/-! ## The results after the run -/

/-- The logits from the launch's arguments. -/
abbrev scores (R : Fin 16384) : Fin 32 → EReal := logitAt (rows m c) (scale m c) (weight m c) (bias m c) R

/-- The experts of every row from the launch's arguments. -/
def expertArr : IVec S16384x128 32 := fun j => expertOf (scores m c (j 0)) (j 1)

/-- Their weights. -/
def shareArr : FVec Ideal S16384x128 .f32 := fun j => shareOf (scores m c (j 0)) (j 1)

theorem expertArr_at (R : Fin 16384) (l : Fin 128) : expertArr m c (ix2 R l) = expertOf (scores m c R) l := rfl

theorem shareArr_at (R : Fin 16384) (l : Fin 128) : shareArr m c (ix2 R l) = shareOf (scores m c R) l := rfl

variable (hw : ∀ d, IsReal (scale m c (ix2 0 d)))
  (hW : ∀ d e, IsReal (weight m c (ix2 d e))) (hb : ∀ e, ⊥ < bias m c (ix2 0 e))

/-- A block's logits. -/
abbrev blockLogits (t : Fin cfg0.N) : FVec Ideal S512x128 .f32 := k0_pay2 (F := Ideal) (iblk m c 0 t) (iblk m c 1 t) (iblk m c 2 t) (iblk m c 3 t)

include hw hW in
theorem block_logit (t : Fin cfg0.N) (r : Fin 512) (e : Fin 32) (hr : 512 * t.val + r.val < 16384) :
    blockLogits m c t (ix2 r (lane e)) = scores m c ⟨512 * t.val + r.val, hr⟩ e := by
  have e0 : (fun d => (iblk m c 0 t : Vec Ideal S512x4096 .f32) (ix2 r d)) = fun d => rows m c (ix2 ⟨512 * t.val + r.val, hr⟩ d) :=
    funext fun d => rows_read m c t r d hr
  have e1 : (fun d => (iblk m c 1 t : Vec Ideal S1x4096 .f32) (ix2 0 d)) = fun d => scale m c (ix2 0 d) :=
    funext fun d => scale_read m c t 0 d
  have e2 : (fun d => (iblk m c 2 t : Vec Ideal S4096x128 .f32) (ix2 d (lane e))) = fun d => weight m c (ix2 d e) :=
    funext fun d => weight_read m c t d e
  refine (pay2_at _ _ _ _ r (lane e) (fun d => ?_) (fun d => ?_)).trans ?_
  · rw [scale_read m c t 0 d]; exact hw d
  · rw [weight_read m c t d e]; exact hW d e
  · unfold scores logitAt
    rw [bias_read m c t 0 e]
    exact congrArg₂ (fun p q => logit p q (bias m c (ix2 0 e))) (congrArg₂ normed e0 e1) e2

include hw hW hb in
theorem scores_real (R : Fin 16384) (e : Fin 32) : ⊥ < scores m c R e :=
  logit_low (fun d => normed_real hw d) (fun d => hW d e) (hb e)

include hw hW hb in
theorem final4 : (dats (F := Ideal) m 0 c).arrAt 4 cfg0.N = expertArr m c := by
  refine Pipeline.Dat.arrAt_eq_of_cover (dats (F := Ideal) m 0 c) 4 _ ?_ ?_
  · intro t _
    have e : (dats (F := Ideal) m 0 c).flushed 4 t = (cfg0.win 4).cut (grid0.coords t) (experts (blockLogits m c t)) := by
      by_cases h0 : t.val % 32 = 0
      · rw [Cert.RouterIdeal.Value.flushed4_A m c t h0, outA4]
      · rw [Cert.RouterIdeal.Value.flushed4_B m c t h0, outB4]
    rw [e]
    have ht := lt_N t
    funext y
    obtain ⟨r, C, rfl⟩ : ∃ (r : Fin 512) (C : Fin 128), y = ix2 r C := ⟨y 0, y 1, eq_ix2 y⟩
    show experts (blockLogits m c t) (ix2 r C) = expertArr m c (((cfg0.win 4).blk t).view.emb (ix2 r C))
    rw [emb4 t r C (by omega)]
    exact (experts_at (blockLogits m c t) r (scores m c ⟨512 * t.val + r.val, by omega⟩) (scores_real m c hw hW hb _) (fun e => block_logit m c hw hW t r e (by omega)) C).trans (expertArr_at m c _ C).symm
  · intro j
    obtain ⟨t, y, hf, e⟩ := cover4 j
    refine ⟨t, hf, ?_⟩
    have := View.emb_mem_set ((cfg0.win 4).blk t).view y
    rw [e] at this
    exact this

include hw hW hb in
theorem final5 : (dats (F := Ideal) m 0 c).arrAt 5 cfg0.N = shareArr m c := by
  refine Pipeline.Dat.arrAt_eq_of_cover (dats (F := Ideal) m 0 c) 5 _ ?_ ?_
  · intro t _
    have e : (dats (F := Ideal) m 0 c).flushed 5 t = (cfg0.win 5).cut (grid0.coords t) (shares (blockLogits m c t)) := by
      by_cases h0 : t.val % 32 = 0
      · rw [Cert.RouterIdeal.Value.flushed5_A m c t h0, outA5]
      · rw [Cert.RouterIdeal.Value.flushed5_B m c t h0, outB5]
    rw [e]
    have ht := lt_N t
    funext y
    obtain ⟨r, C, rfl⟩ : ∃ (r : Fin 512) (C : Fin 128), y = ix2 r C := ⟨y 0, y 1, eq_ix2 y⟩
    show shares (blockLogits m c t) (ix2 r C) = shareArr m c (((cfg0.win 5).blk t).view.emb (ix2 r C))
    rw [emb5 t r C (by omega)]
    exact (shares_at (blockLogits m c t) r (scores m c ⟨512 * t.val + r.val, by omega⟩) (scores_real m c hw hW hb _) (fun e => block_logit m c hw hW t r e (by omega)) C).trans (shareArr_at m c _ C).symm
  · intro j
    obtain ⟨t, y, hf, e⟩ := cover5 j
    refine ⟨t, hf, ?_⟩
    have := View.emb_mem_set ((cfg0.win 5).blk t).view y
    rw [e] at this
    exact this

end

end Cert.RouterIdeal.Val

end
-- ==== Proof.RouterRank.lean ====
/- What the router's body leaves in its last two outputs and carries between the grid points: each row's places
   among the rows of its experts, and the experts' counts. -/
module

public import proofs.«01_k».proof.Proof.RouterRun

@[expose] public section

set_option maxRecDepth 16384

noncomputable section

namespace Cert.RouterIdeal.Val

open Cert.RouterIdeal Cert.RouterIdeal.Gen Cert.TopFour
open Idealize.ShloMosaic Idealize.ShloMosaic.TcCoe

/-! ## What the body leaves -/

/-- The four rounds' marks added up. -/
def marks (Z : FVec Ideal S512x128 .f32) : FVec Ideal S512x128 .f32 :=
  k0_pay31 (F := Ideal) (k0_pay12 Z lanes k0_pay3 k0_pay4) (k0_pay17 Z lanes k0_pay3 k0_pay4)
    (k0_pay21 (F := Ideal) lanes (k0_pay14 Z lanes k0_pay3 k0_pay4) (k0_pay17 Z lanes k0_pay3 k0_pay4)) (k0_pay28 (k0_pay8 (F := Ideal) Z lanes k0_pay3 k0_pay4))

/-- How many rows before came to each expert: those of the block and those carried in. -/
def ahead (Z : FVec Ideal S512x128 .f32) (T : FVec Ideal S1x128 .f32) : FVec Ideal S512x128 .f32 :=
  k0_pay32 (F := Ideal) (k0_pay12 Z lanes k0_pay3 k0_pay4) (k0_pay17 Z lanes k0_pay3 k0_pay4)
    (k0_pay21 (F := Ideal) lanes (k0_pay14 Z lanes k0_pay3 k0_pay4) (k0_pay17 Z lanes k0_pay3 k0_pay4)) (k0_pay28 (k0_pay8 (F := Ideal) Z lanes k0_pay3 k0_pay4)) T

/-- A block's places from its logits and what is carried in. -/
def ranks (Z : FVec Ideal S512x128 .f32) (T : FVec Ideal S1x128 .f32) : IVec S512x128 32 :=
  k0_pay36 (F := Ideal) lanes (k0_pay17 Z lanes k0_pay3 k0_pay4)
    (k0_pay21 (F := Ideal) lanes (k0_pay14 Z lanes k0_pay3 k0_pay4) (k0_pay17 Z lanes k0_pay3 k0_pay4)) (ahead Z T)
    (k0_pay33 lanes (k0_pay8 (F := Ideal) Z lanes k0_pay3 k0_pay4) (k0_pay12 Z lanes k0_pay3 k0_pay4) (k0_pay17 Z lanes k0_pay3 k0_pay4)
      (k0_pay21 (F := Ideal) lanes (k0_pay14 Z lanes k0_pay3 k0_pay4) (k0_pay17 Z lanes k0_pay3 k0_pay4)) (k0_pay28 (k0_pay8 (F := Ideal) Z lanes k0_pay3 k0_pay4)) T)
    (k0_pay34 (k0_pay12 Z lanes k0_pay3 k0_pay4) (k0_pay17 Z lanes k0_pay3 k0_pay4)
      (k0_pay21 (F := Ideal) lanes (k0_pay14 Z lanes k0_pay3 k0_pay4) (k0_pay17 Z lanes k0_pay3 k0_pay4)) (k0_pay28 (k0_pay8 (F := Ideal) Z lanes k0_pay3 k0_pay4)) T)
    (k0_pay35 lanes)

/-- What is carried out. -/
def tally (Z : FVec Ideal S512x128 .f32) (T : FVec Ideal S1x128 .f32) : FVec Ideal S1x128 .f32 := k0_pay37 (marks Z) T

section
variable (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S512x128 .i32) (harg5 : arg5.IsWhole) (arg6 : Memref sig .tc .vmem S512x128 .f32) (harg6 : arg6.IsWhole)
  (arg7 : Memref sig .tc .vmem S512x128 .i32) (harg7 : arg7.IsWhole) (arg8 : Memref sig .tc .vmem S1x128 .f32) (harg8 : arg8.IsWhole) (arg9 : Memref sig .tc .vmem S1x128 .f32) (harg9 : arg9.IsWhole)
  (x0 : Vec Ideal S512x4096 .f32) (x1 : Vec Ideal S1x4096 .f32) (x2 : Vec Ideal S4096x128 .f32) (x3 : Vec Ideal S1x128 .f32) (xs : Vec Ideal S1x128 .f32)

theorem outB6 (hc : ¬cond0_0 i) :
    out0_B_6 (F := Ideal) c i arg1 harg1 arg2 harg2 arg3 harg3 arg4 harg4 arg5 harg5 arg6 harg6 arg7 harg7 arg8 harg8 arg9 harg9 hc x0 x1 x2 x3 xs = ranks (k0_pay2 x0 x1 x2 x3) xs := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 hc x0 x1 x2 x3 xs)]
  unfold kernelRun0_B
  dsimp only
  rw [View.canon_unit_zero (S := S512x128) z4]
  sl_unfold_words
  simp only [View.readAt_eq_ld, harg1.read_unread, harg2.read_unread, harg3.read_unread, harg4.read_unread, harg9.read_unread, View.ld_unit_zero (S := S512x4096) z0, View.ld_unit_zero (S := S1x4096) z1,
    View.ld_unit_zero (S := S4096x128) z2, View.ld_unit_zero (S := S1x128) z3]
  rfl

theorem soutB (hc : ¬cond0_0 i) :
    sout0_B_0 (F := Ideal) c i arg1 harg1 arg2 harg2 arg3 harg3 arg4 harg4 arg5 harg5 arg6 harg6 arg7 harg7 arg8 harg8 arg9 harg9 hc x0 x1 x2 x3 xs = tally (k0_pay2 x0 x1 x2 x3) xs := by
  unfold sout0_B_0
  rw [View.read_writes_eq_canon _ _ _ (scover0_B_0 (F := Ideal) c i arg1 harg1 arg2 harg2 arg3 harg3 arg4 harg4 arg5 harg5 arg6 harg6 arg7 harg7 arg8 harg8 arg9 harg9 hc x0 x1 x2 x3 xs)]
  unfold kernelRun0_B
  dsimp only
  sl_unfold_words
  rw [View.canon_cons_unit_zero (S := S1x128) z3]
  simp only [View.readAt_eq_ld, harg1.read_unread, harg2.read_unread, harg3.read_unread, harg4.read_unread, harg9.read_unread, View.ld_unit_zero (S := S512x4096) z0, View.ld_unit_zero (S := S1x4096) z1,
    View.ld_unit_zero (S := S4096x128) z2, View.ld_unit_zero (S := S1x128) z3]
  rfl

theorem outB7 (hc : ¬cond0_0 i) :
    out0_B_7 (F := Ideal) c i arg1 harg1 arg2 harg2 arg3 harg3 arg4 harg4 arg5 harg5 arg6 harg6 arg7 harg7 arg8 harg8 arg9 harg9 hc x0 x1 x2 x3 xs = tally (k0_pay2 x0 x1 x2 x3) xs := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 hc x0 x1 x2 x3 xs)]
  unfold kernelRun0_B
  dsimp only
  rw [View.canon_unit_zero (S := S1x128) z3]
  sl_unfold_words
  simp only [View.readAt_eq_ld, harg1.read_unread, harg2.read_unread, harg3.read_unread, harg4.read_unread, harg9.read_unread, View.ld_unit_zero (S := S512x4096) z0, View.ld_unit_zero (S := S1x4096) z1,
    View.ld_unit_zero (S := S4096x128) z2, View.ld_unit_zero (S := S1x128) z3]
  exact View.readCov_unit_zero (S := S1x128) _ z3 _ _

theorem outA6 (hc : cond0_0 i) :
    out0_A_6 (F := Ideal) c i arg1 harg1 arg2 harg2 arg3 harg3 arg4 harg4 arg5 harg5 arg6 harg6 arg7 harg7 arg8 harg8 arg9 harg9 hc x0 x1 x2 x3 = ranks (k0_pay2 x0 x1 x2 x3) k0_pay1 := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 hc x0 x1 x2 x3)]
  unfold kernelRun0_A
  dsimp only
  rw [View.canon_unit_zero (S := S512x128) z4]
  sl_unfold_words
  simp only [View.readAt_eq_ld, harg1.read_unread, harg2.read_unread, harg3.read_unread, harg4.read_unread, harg9.read_unread, View.ld_unit_zero (S := S512x4096) z0, View.ld_unit_zero (S := S1x4096) z1,
    View.ld_unit_zero (S := S4096x128) z2, View.ld_unit_zero (S := S1x128) z3]
  rw [View.readCov_unit_zero (S := S1x128) _ z3]
  rfl

theorem soutA (hc : cond0_0 i) :
    sout0_A_0 (F := Ideal) c i arg1 harg1 arg2 harg2 arg3 harg3 arg4 harg4 arg5 harg5 arg6 harg6 arg7 harg7 arg8 harg8 arg9 harg9 hc x0 x1 x2 x3 = tally (k0_pay2 x0 x1 x2 x3) k0_pay1 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 hc x0 x1 x2 x3)]
  unfold kernelRun0_A
  dsimp only
  sl_unfold_words
  rw [View.canon_cons_unit_zero (S := S1x128) z3]
  simp only [View.readAt_eq_ld, harg1.read_unread, harg2.read_unread, harg3.read_unread, harg4.read_unread, harg9.read_unread, View.ld_unit_zero (S := S512x4096) z0, View.ld_unit_zero (S := S1x4096) z1,
    View.ld_unit_zero (S := S4096x128) z2, View.ld_unit_zero (S := S1x128) z3]
  rw [View.readCov_unit_zero (S := S1x128) _ z3]
  rfl

end

/-! ## One row's marks -/

/-- A round's mark: the lane named. -/
abbrev sel (I : IVec S512x1 32) : IVec S512x128 1 := cmpi .eq lanes (broadcastTo S512x128 I broadcasts_S512x1_S512x128)

/-- A mark as a number. -/
def num (b : BitVec 1) : EReal := FloatOps.sitofp (F := Ideal) .f32 (b.setWidth 32)

theorem num_eq (a b : BitVec 32) : num (IntOp.cmpi .eq a b) = if a = b then 1 else 0 := by
  unfold num
  by_cases h : a = b
  · rw [if_pos h, IntOp.cmpi_eq.mpr h]
    show ((((1#1 : BitVec 1).setWidth 32).toInt : ℝ) : EReal) = 1
    norm_num
  · have h0 : IntOp.cmpi .eq a b = 0#1 := by
      have := mt IntOp.cmpi_eq.mp h
      revert this
      generalize IntOp.cmpi .eq a b = q
      revert q
      decide
    rw [if_neg h, h0]
    show ((((0#1 : BitVec 1).setWidth 32).toInt : ℝ) : EReal) = 0
    norm_num

theorem marks_of (i0 i1 i2 i3 : IVec S512x1 32) (r : Fin 512) (l : Fin 128) :
    k0_pay31 (F := Ideal) (sel i1) (sel i2) (sel i3) (k0_pay28 (F := Ideal) (sel i0)) (ix2 r l)
      = num (IntOp.cmpi .eq (BitVec.ofNat 32 l.val) (i0 (ix2 r 0))) + num (IntOp.cmpi .eq (BitVec.ofNat 32 l.val) (i1 (ix2 r 0)))
        + num (IntOp.cmpi .eq (BitVec.ofNat 32 l.val) (i2 (ix2 r 0))) + num (IntOp.cmpi .eq (BitVec.ofNat 32 l.val) (i3 (ix2 r 0))) := by
  unfold num
  pointwise [k0_pay31, k0_pay28, sel, lanes]

theorem ahead_of (i1 i2 i3 : IVec S512x128 1) (M : FVec Ideal S512x128 .f32) (T : FVec Ideal S1x128 .f32) (r : Fin 512) (l : Fin 128) :
    k0_pay32 (F := Ideal) i1 i2 i3 M T (ix2 r l)
      = ∑ s : Fin 512, num (IntOp.cmpi .slt (BitVec.ofNat 32 s.val) (BitVec.ofNat 32 r.val)) * k0_pay31 (F := Ideal) i1 i2 i3 M (ix2 s l) + T (ix2 0 l) := by
  unfold num k0_pay32
  generalize k0_pay31 (F := Ideal) i1 i2 i3 M = Q
  pointwise []

theorem sum_of (I : IVec S512x1 32) (A : FVec Ideal S512x128 .f32) (r : Fin 512) :
    (shapeCast S512x1 (multiReduction (F := Ideal) .add [1] S512 (select (sel I) A (broadcast S512x128 (Scalar.ofBits .f32 0x00000000#32))) 0x00000000#32 reduces_S512x128_S512 (.inl rfl) rfl) shapeCasts_S512_S512x1 : FVec Ideal S512x1 .f32) (ix2 r 0)
      = ∑ l : Fin 128, Scalar.select (IntOp.cmpi .eq (BitVec.ofNat 32 l.val) (I (ix2 r 0))) (A (ix2 r l)) 0 := by
  pointwise [sel, lanes]

theorem tally_of (M : FVec Ideal S512x128 .f32) (T : FVec Ideal S1x128 .f32) (l : Fin 128) :
    k0_pay37 (F := Ideal) M T (ix2 0 l) = T (ix2 0 l) + ∑ s : Fin 512, M (ix2 s l) := by
  pointwise [k0_pay37]

/-- How many of a row's four are in a lane. -/
def hotOf (g : Fin 32 → EReal) (l : Fin 128) : EReal := ∑ k : Fin 4, if (order g ⟨k.val, by omega⟩).val = l.val then 1 else 0

theorem lane_at (e : Fin 32) (l : Fin 128) : BitVec.ofNat 32 l.val = BitVec.ofNat 32 e.val ↔ e.val = l.val :=
  (lane_inj l (lane e)).trans ⟨fun h => (congrArg Fin.val h).symm, fun h => Fin.ext h.symm⟩

/-- One of two rows of a block is before the other. -/
theorem before_num (s r : Fin 512) : num (IntOp.cmpi .slt (BitVec.ofNat 32 s.val) (BitVec.ofNat 32 r.val)) = if s.val < r.val then 1 else 0 := by
  have hc : IntOp.cmpi .slt (BitVec.ofNat 32 s.val) (BitVec.ofNat 32 r.val) = 1#1 ↔ s.val < r.val := by
    refine IntOp.cmpi_slt.trans ?_
    rw [BitVec.toInt_ofNat', BitVec.toInt_ofNat']
    simp only [Int.bmod_def]
    have := s.isLt
    have := r.isLt
    split <;> split <;> omega
  unfold num
  by_cases h : s.val < r.val
  · rw [if_pos h, hc.mpr h]
    show ((((1#1 : BitVec 1).setWidth 32).toInt : ℝ) : EReal) = 1
    norm_num
  · have h0 : IntOp.cmpi .slt (BitVec.ofNat 32 s.val) (BitVec.ofNat 32 r.val) = 0#1 := by
      have := mt hc.mp h
      revert this
      generalize IntOp.cmpi .slt (BitVec.ofNat 32 s.val) (BitVec.ofNat 32 r.val) = q
      revert q
      decide
    rw [if_neg h, h0]
    show ((((0#1 : BitVec 1).setWidth 32).toInt : ℝ) : EReal) = 0
    norm_num

section
variable (Z : FVec Ideal S512x128 .f32) (T : FVec Ideal S1x128 .f32) (g : Fin 512 → Fin 32 → EReal) (hg : ∀ r e, ⊥ < g r e)
  (hZ : ∀ r (e : Fin 32), Z (ix2 r (lane e)) = g r e)
include hg hZ

theorem marks_at (r : Fin 512) (l : Fin 128) : marks Z (ix2 r l) = hotOf (g r) l := by
  refine (marks_of _ _ _ _ r l).trans ?_
  rw [idx0 Z r (g r) (hg r) (hZ r), idx1 Z r (g r) (hg r) (hZ r), idx2 Z r (g r) (hg r) (hZ r), idx3 Z r (g r) (hg r) (hZ r)]
  unfold hotOf
  rw [Fin.sum_univ_four]
  simp only [num_eq, lane_at]
  rfl

theorem ahead_at (r : Fin 512) (l : Fin 128) : ahead Z T (ix2 r l) = ∑ s : Fin 512, (if s.val < r.val then hotOf (g s) l else 0) + T (ix2 0 l) := by
  refine (ahead_of _ _ _ _ _ r l).trans ?_
  refine congrArg (· + T (ix2 0 l)) (Finset.sum_congr rfl fun s _ => ?_)
  rw [before_num]
  refine (congrArg (_ * ·) (marks_at Z g hg hZ s l)).trans ?_
  split
  · rw [one_mul]
  · rw [zero_mul]

theorem tally_at (l : Fin 128) : tally Z T (ix2 0 l) = T (ix2 0 l) + ∑ s : Fin 512, hotOf (g s) l :=
  (tally_of _ _ l).trans (congrArg (T (ix2 0 l) + ·) (Finset.sum_congr rfl fun s _ => marks_at Z g hg hZ s l))

theorem place_at (I : IVec S512x1 32) (r : Fin 512) (e : Fin 32) (h : I (ix2 r 0) = BitVec.ofNat 32 e.val) :
    ∑ l : Fin 128, Scalar.select (IntOp.cmpi .eq (BitVec.ofNat 32 l.val) (I (ix2 r 0))) (ahead Z T (ix2 r l)) 0 = ahead Z T (ix2 r (lane e)) := by
  rw [h]
  refine (Finset.sum_eq_single (lane e) (fun l _ hl => ?_) fun hn => absurd (Finset.mem_univ _) hn).trans ?_
  · rw [pick_eq]; exact if_neg fun q => hl ((lane_inj l (lane e)).mp q)
  · rw [pick_eq]; exact if_pos rfl

theorem ranks_at (r : Fin 512) (l : Fin 128) :
    ranks Z T (ix2 r l) = FloatOps.fptosi (F := Ideal) (φ := .f32) 32
      (if h : l.val < 4 then ahead Z T (ix2 r (lane (order (g r) ⟨l.val, by omega⟩))) else 0) := by
  refine congrArg (FloatOps.fptosi (F := Ideal) (φ := .f32) 32) ((numbers_at _ _ _ _ r l).trans ?_)
  split
  · rename_i h
    have s0 := (sum_of _ (ahead Z T) r).trans (place_at Z T g hg hZ _ r _ (idx0 Z r (g r) (hg r) (hZ r)))
    have s1 := (sum_of _ (ahead Z T) r).trans (place_at Z T g hg hZ _ r _ (idx1 Z r (g r) (hg r) (hZ r)))
    have s2 := (sum_of _ (ahead Z T) r).trans (place_at Z T g hg hZ _ r _ (idx2 Z r (g r) (hg r) (hZ r)))
    have s3 := (sum_of _ (ahead Z T) r).trans (place_at Z T g hg hZ _ r _ (idx3 Z r (g r) (hg r) (hZ r)))
    obtain ⟨n, hn⟩ := l
    dsimp only at h ⊢
    interval_cases n
    · exact s0
    · exact s1
    · exact s2
    · exact s3
  · rfl

end

/-! ## From point to point -/

theorem index6 : ∀ t : Fin cfg0.N, (cfg0.win 6).index t = ![t.val, 0] :=
  (by decide +kernel : ∀ t : Fin grid0.N, win0_6.index t = ![t.val, 0])

theorem index7 : ∀ t : Fin cfg0.N, (cfg0.win 7).index t = ![0, 0] :=
  (by decide +kernel : ∀ t : Fin grid0.N, win0_7.index t = ![0, 0])

theorem flush7 : ∀ t : Fin cfg0.N, (cfg0.win 7).flush t = true ↔ t.val = 31 :=
  (by decide +kernel : ∀ t : Fin grid0.N, win0_7.flush t = true ↔ t.val = 31)

theorem emb6 (t : Fin cfg0.N) (r : Fin 512) (d : Fin 128) (hr : 512 * t.val + r.val < 16384) :
    ((cfg0.win 6).blk t).view.emb (ix2 r d) = (ix2 ⟨512 * t.val + r.val, hr⟩ d : S16384x128.Idx) := by
  funext a
  refine Fin.ext ?_
  refine ((cfg0.win 6).rect_emb_val t (ix2 r d) a rfl).trans ?_
  rw [index6]
  match a with
  | ⟨0, _⟩ => exact congrArg (· + r.val) (Nat.mul_comm t.val 512)
  | ⟨1, _⟩ => exact (congrArg (· + d.val) (Nat.zero_mul _)).trans (Nat.zero_add _)

theorem cover6 (j : S16384x128.Idx) : ∃ t y, (cfg0.win 6).flush t = true ∧ ((cfg0.win 6).blk t).view.emb y = j := by
  have h0 : (j (0 : Fin 2)).val < 16384 := (j (0 : Fin 2)).isLt
  have ht : (j (0 : Fin 2)).val / 512 < cfg0.N := lt_of_lt_of_eq (by omega) N_0.symm
  have e := emb6 ⟨(j (0 : Fin 2)).val / 512, ht⟩ ⟨(j (0 : Fin 2)).val % 512, by omega⟩ (j (1 : Fin 2))
    (by show 512 * ((j (0 : Fin 2)).val / 512) + (j (0 : Fin 2)).val % 512 < 16384; omega)
  refine ⟨_, _, flush0_6 _, e.trans ?_⟩
  funext a
  match a with
  | ⟨0, _⟩ => exact Fin.ext (by show 512 * ((j (0 : Fin 2)).val / 512) + (j (0 : Fin 2)).val % 512 = (j (0 : Fin 2)).val; omega)
  | ⟨1, _⟩ => rfl

theorem emb7 (t : Fin cfg0.N) (r : Fin 1) (d : Fin 128) : ((cfg0.win 7).blk t).view.emb (ix2 r d) = (ix2 r d : S1x128.Idx) := by
  funext a
  refine Fin.ext ?_
  refine ((cfg0.win 7).rect_emb_val t (ix2 r d) a rfl).trans ?_
  rw [index7]
  match a with
  | ⟨0, _⟩ => exact (congrArg (· + r.val) (Nat.zero_mul _)).trans (Nat.zero_add _)
  | ⟨1, _⟩ => exact (congrArg (· + d.val) (Nat.zero_mul _)).trans (Nat.zero_add _)

section
variable (m : (ℓ : Loc nD τ sig) → Buf (Elt Ideal) ℓ) (c : Dev nD)

/-- A row's marks, of a row in or out of the launch's. -/
def rowHot (l : Fin 128) (n : ℕ) : EReal := if h : n < 16384 then hotOf (scores m c ⟨n, h⟩) l else 0

/-- How many of the first rows came to a lane's expert. -/
def seen (n : ℕ) (l : Fin 128) : EReal := ∑ i ∈ Finset.range n, rowHot m c l i

/-- A row's places. -/
def rankArr : IVec S16384x128 32 := fun j => FloatOps.fptosi (F := Ideal) (φ := .f32) 32
  (if h : (j (1 : Fin 2)).val < 4 then seen m c (j (0 : Fin 2)).val (lane (order (scores m c (j 0)) ⟨(j (1 : Fin 2)).val, by omega⟩)) else 0)

/-- The counts. -/
def countArr : FVec Ideal S1x128 .f32 := fun j => seen m c 16384 (j 1)

theorem countArr_at (r : Fin 1) (l : Fin 128) : countArr m c (ix2 r l) = seen m c 16384 l := by
  unfold countArr
  generalize 16384 = q
  rfl

attribute [irreducible] countArr

variable (hw : ∀ d, IsReal (scale m c (ix2 0 d)))
  (hW : ∀ d e, IsReal (weight m c (ix2 d e))) (hb : ∀ e, ⊥ < bias m c (ix2 0 e))

/-- A block's rows' logits. -/
def blockScores (t : Fin cfg0.N) (r : Fin 512) : Fin 32 → EReal := scores m c ⟨512 * t.val + r.val, by have := lt_N t; omega⟩

theorem rowHot_block (t : Fin cfg0.N) (l : Fin 128) (s : Fin 512) : hotOf (blockScores m c t s) l = rowHot m c l (512 * t.val + s.val) := by
  have := lt_N t
  unfold rowHot
  rw [dif_pos (by omega)]
  rfl

theorem seen_block (t : Fin cfg0.N) (r : ℕ) (hr : r ≤ 512) (l : Fin 128) :
    ∑ s : Fin 512, (if s.val < r then hotOf (blockScores m c t s) l else 0) + seen m c (512 * t.val) l = seen m c (512 * t.val + r) l := by
  have e : ∑ s : Fin 512, (if s.val < r then hotOf (blockScores m c t s) l else 0) = ∑ s ∈ Finset.range r, rowHot m c l (512 * t.val + s) := by
    rw [Finset.sum_congr rfl fun s _ => by rw [rowHot_block], Fin.sum_univ_eq_sum_range (fun s => if s < r then rowHot m c l (512 * t.val + s) else 0) 512, ← Finset.sum_filter]
    refine Finset.sum_congr (Finset.ext fun n => ?_) fun _ _ => rfl
    rw [Finset.mem_filter, Finset.mem_range, Finset.mem_range]
    omega
  unfold seen
  rw [e, Finset.sum_range_add, add_comm]

/-- What the points so far carry out. -/
theorem carried_zero (hn : 0 < cfg0.N) : (outsAt0 m c 0 hn).2.2.2.2 = tally (blockLogits m c ⟨0, hn⟩) k0_pay1 := by
  have e := congrArg (fun p => p.2.2.2.2) (outsAt0_A m c ⟨0, hn⟩ (Nat.zero_mod _))
  dsimp only at e
  rw [soutA] at e
  exact e

theorem carried_succ (n : ℕ) (hn : n + 1 < cfg0.N) :
    (outsAt0 m c (n + 1) hn).2.2.2.2 = tally (blockLogits m c ⟨n + 1, hn⟩) (outsAt0 m c n (Nat.lt_of_succ_lt hn)).2.2.2.2 := by
  have h0 : ¬(⟨n + 1, hn⟩ : Fin cfg0.N).val % 32 = 0 := by
    have := lt_N ⟨n + 1, hn⟩
    dsimp only at this ⊢
    omega
  have e := congrArg (fun p => p.2.2.2.2) (outsAt0_B m c ⟨n + 1, hn⟩ h0)
  dsimp only at e
  rw [soutB] at e
  exact e

theorem pay1_at (l : Fin 128) : k0_pay1 (F := Ideal) (ix2 0 l) = 0 := by
  pointwise [k0_pay1]

include hw hW hb

theorem block_low (t : Fin cfg0.N) (r : Fin 512) (e : Fin 32) : ⊥ < blockScores m c t r e := scores_real m c hw hW hb _ e

theorem block_scores (t : Fin cfg0.N) (r : Fin 512) (e : Fin 32) : blockLogits m c t (ix2 r (lane e)) = blockScores m c t r e :=
  block_logit m c hw hW t r e _

theorem tally_seen (t : Fin cfg0.N) (T : FVec Ideal S1x128 .f32) (hT : ∀ l, T (ix2 0 l) = seen m c (512 * t.val) l) (l : Fin 128) :
    tally (blockLogits m c t) T (ix2 0 l) = seen m c (512 * (t.val + 1)) l := by
  rw [tally_at (blockLogits m c t) T (blockScores m c t) (block_low m c hw hW hb t) (block_scores m c hw hW hb t) l, hT, add_comm,
    show 512 * (t.val + 1) = 512 * t.val + 512 by ring, ← seen_block m c t 512 le_rfl l]
  exact congrArg (· + seen m c (512 * t.val) l) (Finset.sum_congr rfl fun s _ => (if_pos s.isLt).symm)

theorem ranks_seen (t : Fin cfg0.N) (T : FVec Ideal S1x128 .f32) (hT : ∀ l, T (ix2 0 l) = seen m c (512 * t.val) l) (r : Fin 512) (l : Fin 128)
    (hr : 512 * t.val + r.val < 16384) :
    ranks (blockLogits m c t) T (ix2 r l) = rankArr m c (ix2 ⟨512 * t.val + r.val, hr⟩ l) := by
  rw [ranks_at (blockLogits m c t) T (blockScores m c t) (block_low m c hw hW hb t) (block_scores m c hw hW hb t) r l]
  refine congrArg (FloatOps.fptosi (F := Ideal) (φ := .f32) 32) (dite_congr rfl (fun h => ?_) fun _ => rfl)
  rw [ahead_at (blockLogits m c t) T (blockScores m c t) (block_low m c hw hW hb t) (block_scores m c hw hW hb t), hT]
  exact seen_block m c t r.val (le_of_lt r.isLt) _

theorem carried : ∀ (n : ℕ) (hn : n < cfg0.N) (l : Fin 128), (outsAt0 m c n hn).2.2.2.2 (ix2 0 l) = seen m c (512 * (n + 1)) l := by
  intro n
  induction n with
  | zero =>
    intro hn l
    rw [carried_zero]
    exact tally_seen m c hw hW hb ⟨0, hn⟩ _ (fun l => (pay1_at l).trans (Finset.sum_range_zero _).symm) l
  | succ n ih =>
    intro hn l
    rw [carried_succ]
    exact tally_seen m c hw hW hb ⟨n + 1, hn⟩ _ (fun l => ih _ l) l

theorem final6 : (dats (F := Ideal) m 0 c).arrAt 6 cfg0.N = rankArr m c := by
  refine Pipeline.Dat.arrAt_eq_of_cover (dats (F := Ideal) m 0 c) 6 _ ?_ ?_
  · intro t _
    have ht := lt_N t
    obtain ⟨T, hT, e⟩ : ∃ T : FVec Ideal S1x128 .f32, (∀ l, T (ix2 0 l) = seen m c (512 * t.val) l)
        ∧ (dats (F := Ideal) m 0 c).flushed 6 t = (cfg0.win 6).cut (grid0.coords t) (ranks (blockLogits m c t) T) := by
      by_cases h0 : t.val % 32 = 0
      · refine ⟨k0_pay1, fun l => ?_, ?_⟩
        · have e0 : t.val = 0 := by omega
          rw [e0]
          exact (pay1_at l).trans (Finset.sum_range_zero _).symm
        · rw [Cert.RouterIdeal.Value.flushed6_A m c t h0, outA6]
      · refine ⟨(outsAt0 m c (t.val - 1) (Nat.lt_of_le_of_lt (Nat.sub_le _ _) t.isLt)).2.2.2.2, fun l => ?_, ?_⟩
        · rw [carried m c hw hW hb]
          exact congrArg (fun q => seen m c (512 * q) l) (by omega)
        · rw [Cert.RouterIdeal.Value.flushed6_B m c t h0, outB6]
    rw [e]
    funext y
    obtain ⟨r, C, rfl⟩ : ∃ (r : Fin 512) (C : Fin 128), y = ix2 r C := ⟨y 0, y 1, eq_ix2 y⟩
    show ranks (blockLogits m c t) T (ix2 r C) = rankArr m c (((cfg0.win 6).blk t).view.emb (ix2 r C))
    rw [emb6 t r C (by omega)]
    exact ranks_seen m c hw hW hb t T hT r C (by omega)
  · intro j
    obtain ⟨t, y, hf, e⟩ := cover6 j
    refine ⟨t, hf, ?_⟩
    have := View.emb_mem_set ((cfg0.win 6).blk t).view y
    rw [e] at this
    exact this

theorem final7 : (dats (F := Ideal) m 0 c).arrAt 7 cfg0.N = countArr m c := by
  refine Pipeline.Dat.arrAt_eq_of_cover (dats (F := Ideal) m 0 c) 7 _ ?_ ?_
  · intro t hf
    have ht : t.val = 31 := (flush7 t).mp hf
    obtain ⟨T, hT, e⟩ : ∃ T : FVec Ideal S1x128 .f32, (∀ l, T (ix2 0 l) = seen m c (512 * t.val) l)
        ∧ (dats (F := Ideal) m 0 c).flushed 7 t = (cfg0.win 7).cut (grid0.coords t) (tally (blockLogits m c t) T) := by
      refine ⟨(outsAt0 m c (t.val - 1) (Nat.lt_of_le_of_lt (Nat.sub_le _ _) t.isLt)).2.2.2.2, fun l => ?_, ?_⟩
      · rw [carried m c hw hW hb]
        exact congrArg (fun q => seen m c (512 * q) l) (by omega)
      · rw [Cert.RouterIdeal.Value.flushed7_B m c t (by omega), outB7]
    have e2 : 512 * (t.val + 1) = 16384 := by omega
    rw [e]
    funext y
    obtain ⟨r, C, rfl⟩ : ∃ (r : Fin 1) (C : Fin 128), y = ix2 r C := ⟨y 0, y 1, eq_ix2 y⟩
    obtain rfl : r = 0 := Subsingleton.elim _ _
    show tally (blockLogits m c t) T (ix2 0 C) = countArr m c (((cfg0.win 7).blk t).view.emb (ix2 0 C))
    rw [emb7 t 0 C, countArr_at, tally_seen m c hw hW hb t T hT C, e2]
  · intro j
    obtain ⟨r, C, rfl⟩ : ∃ (r : Fin 1) (C : Fin 128), j = ix2 r C := ⟨j 0, j 1, eq_ix2 j⟩
    have ht : 31 < cfg0.N := lt_of_lt_of_eq (by omega) N_0.symm
    refine ⟨⟨31, ht⟩, (flush7 _).mpr rfl, ?_⟩
    have := View.emb_mem_set ((cfg0.win 7).blk ⟨31, ht⟩).view (ix2 r C)
    rw [emb7] at this
    exact this

end

end Cert.RouterIdeal.Val

end
-- ==== Proof.RouterRef.lean ====
/- The router's reference, one element at a time: the logits, the four greatest of a row in order, their weights, the
   rows' places and the counts; the precondition read back; and the four results' equality. -/
module

public import proofs.«01_k».proof.Defs
public import proofs.«01_k».proof.Proof.RouterRank
public import proofs.«01_k».proof.Proof.Gen.Router.Frame
public import proofs.«01_k».proof.Proof.Gen.RouterRefIdeal.Run
public import proofs.«01_k».proof.Proof.Gen.Pre_finite
public import Idealize.ShloMosaic.Lib.ReduceAll

@[expose] public section

set_option maxRecDepth 16384

noncomputable section

namespace Cert.Finite

open Idealize.ShloMosaic Cert.Pre_finite Cert.RouterIdeal.Val

instance : Subsingleton S_.Idx := ⟨fun a b => funext fun i => i.elim0⟩

theorem both {x y : BitVec 1} : IntOp.andi x y = 1#1 → x = 1#1 ∧ y = 1#1 := by
  revert x y; decide

theorem high_bits : Ideal.ofBits FTy.f32 0x7F800000#32 = (⊤ : EReal) := by
  simp [Ideal.ofBits, Ideal.ieee]

/-- A number of which the absolute value is below infinity is real. -/
theorem real_of {x : EReal} (h : FloatOps.cmpf (F := Ideal) (φ := .f32) .olt (FloatOps.hostAbsf (F := Ideal) (φ := .f32) x) (FloatOps.ofBits (F := Ideal) .f32 0x7F800000#32) = 1#1) : IsReal x := by
  have h' : max x (-x) < (⊤ : EReal) := by
    rw [← high_bits]
    by_contra hc
    revert h
    show ¬ (Ideal.cmp .olt (max x (-x)) (Ideal.ofBits .f32 0x7F800000#32) = 1#1)
    simp [Ideal.cmp, hc]
  induction x with
  | bot => simp at h'
  | top => simp at h'
  | coe a => exact ⟨a, rfl⟩

/-- A number above minus infinity. -/
theorem above_of {x : EReal} (h : FloatOps.cmpf (F := Ideal) (φ := .f32) .ogt x (FloatOps.ofBits (F := Ideal) .f32 0xFF800000#32) = 1#1) : ⊥ < x := by
  rw [← low_bits]
  by_contra hc
  revert h
  show ¬ (Ideal.cmp .ogt x (Ideal.ofBits .f32 0xFF800000#32) = 1#1)
  simp [Ideal.cmp, hc]

/-- The precondition gives that the two weights are real and the bias is above minus infinity. -/
theorem decode [Facts] (a0 : FVec Ideal S16384x4096 .f32) (a1 : FVec Ideal S1x4096 .f32) (a2 : FVec Ideal S4096x32 .f32) (a3 : FVec Ideal S1x32 .f32)
    (h : fn a0 a1 a2 a3 = fun _ => 1#1) : (∀ i, IsReal (a1 i)) ∧ (∀ i, IsReal (a2 i)) ∧ (∀ i, ⊥ < a3 i) := by
  have h0 := congrFun h (fun i => i.elim0)
  obtain ⟨h12, h3⟩ := both h0
  obtain ⟨h1, h2⟩ := both h12
  exact ⟨fun i => real_of (Host.reduce_andi_all _ _ _ _ _ h1 i), fun i => real_of (Host.reduce_andi_all _ _ _ _ _ h2 i),
    fun i => above_of (Host.reduce_andi_all _ _ _ _ _ h3 i)⟩

end Cert.Finite

namespace Cert.RouterRefIdeal.Val

open Cert.RouterRefIdeal Cert.RouterRefIdeal.Gen Cert.TopFour Cert.RouterIdeal.Val
open Idealize.ShloMosaic Idealize.ShloMosaic.TcCoe

/-- The reference's logits. -/
def logitRef (X : FVec Ideal S16384x4096 .f32) (w : FVec Ideal S1x4096 .f32) (W : FVec Ideal S4096x32 .f32) (b : FVec Ideal S1x32 .f32) : FVec Ideal S16384x32 .f32 :=
  addf (Host.dotGeneral dot_S16384x4096_S4096x32_S16384x32_1_0_0_1_n_n none (mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 (shapeCast _ w shapeCasts_S1x4096_S4096)))) W) (broadcastInDim S16384x32 ![0, 1] bcast_S1x32_S16384x32_0_1 (broadcastInDim S1x32 ![1] bcast_S32_S1x32_1 (shapeCast _ b shapeCasts_S1x32_S32)))

theorem logitRef_at (X : FVec Ideal S16384x4096 .f32) (w : FVec Ideal S1x4096 .f32) (W : FVec Ideal S4096x32 .f32) (b : FVec Ideal S1x32 .f32) (R : Fin 16384) (e : Fin 32) :
    logitRef X w W b (ix2 R e) = logitAt X w W b R e := by
  unfold logitRef logitAt logit normed
  pointwise []

/-- One row of the logits. -/
abbrev row (Z : FVec Ideal S16384x32 .f32) (R : Fin 16384) : Fin 32 → EReal := fun e => Z (ix2 R e)

/-- The four greatest with their places. -/
abbrev best (Z : FVec Ideal S16384x32 .f32) : FVec Ideal S16384x4 .f32 × IVec S16384x4 32 :=
  Host.topK S16384x4 1 (FloatOps.cmpfTotal (F := Ideal) (φ := .f32) .gt) Z sliceFits_S16384x32_S16384x4

theorem before_eq (g : Fin 32 → EReal) : (fun k k' : Fin 32 => FloatOps.cmpfTotal (F := Ideal) (φ := .f32) .gt (g k) (g k') == 1#1) = greater g := by
  funext k k'
  show (Ideal.cmp .ogt (g k) (g k') == 1#1) = decide (g k' < g k)
  by_cases h : g k' < g k <;> simp [Ideal.cmp, h]

theorem along_eq (R : Fin 16384) (l k : Fin 32) : Shape.Idx.along (s := S16384x32) (ix2 R l) 1 k = ix2 R k := by
  funext a
  match a with
  | ⟨0, _⟩ => rfl
  | ⟨1, _⟩ => rfl

theorem sort_fst {α β : Type} (cmp : α × β → α × β → BitVec 1) (x : S16384x32.Idx → α) (y : S16384x32.Idx → β) (R : Fin 16384) (l : Fin 32) :
    (Host.sort2 S16384x32 1 cmp x y).1 (ix2 R l) = x (ix2 R (sortedFrom (fun k k' : Fin 32 => cmp (x (ix2 R k), y (ix2 R k)) (x (ix2 R k'), y (ix2 R k')) == 1#1) l)) := by
  unfold Host.sort2
  rw [dif_pos (by decide : 1 < S16384x32.rank)]
  show x (Shape.Idx.along (s := S16384x32) (ix2 R l) 1 (sortedFrom (n := 32) (fun k k' => cmp (x (Shape.Idx.along (s := S16384x32) (ix2 R l) 1 k), y (Shape.Idx.along (s := S16384x32) (ix2 R l) 1 k)) (x (Shape.Idx.along (s := S16384x32) (ix2 R l) 1 k'), y (Shape.Idx.along (s := S16384x32) (ix2 R l) 1 k')) == 1#1) l)) = _
  simp only [along_eq]

theorem sort_snd {α β : Type} (cmp : α × β → α × β → BitVec 1) (x : S16384x32.Idx → α) (y : S16384x32.Idx → β) (R : Fin 16384) (l : Fin 32) :
    (Host.sort2 S16384x32 1 cmp x y).2 (ix2 R l) = y (ix2 R (sortedFrom (fun k k' : Fin 32 => cmp (x (ix2 R k), y (ix2 R k)) (x (ix2 R k'), y (ix2 R k')) == 1#1) l)) := by
  unfold Host.sort2
  rw [dif_pos (by decide : 1 < S16384x32.rank)]
  show y (Shape.Idx.along (s := S16384x32) (ix2 R l) 1 (sortedFrom (n := 32) (fun k k' => cmp (x (Shape.Idx.along (s := S16384x32) (ix2 R l) 1 k), y (Shape.Idx.along (s := S16384x32) (ix2 R l) 1 k)) (x (Shape.Idx.along (s := S16384x32) (ix2 R l) 1 k'), y (Shape.Idx.along (s := S16384x32) (ix2 R l) 1 k')) == 1#1) l)) = _
  simp only [along_eq]

/-- The lanes' numbers, a row of 32. -/
def places : IVec S16384x32 32 := fun i => if hd : 1 < S16384x32.rank then iotaInDim S16384x32 32 ⟨1, hd⟩ i else 0#32

theorem places_at (R : Fin 16384) (e : Fin 32) : places (ix2 R e) = BitVec.ofNat 32 e.val := by
  unfold places
  rw [dif_pos (by decide : 1 < S16384x32.rank)]
  rfl

/-- The whole row in order, with the places. -/
def sorted (Z : FVec Ideal S16384x32 .f32) : FVec Ideal S16384x32 .f32 × IVec S16384x32 32 :=
  Host.sort2 S16384x32 1 (fun l r => FloatOps.cmpfTotal (F := Ideal) (φ := .f32) .gt l.1 r.1) Z places

theorem best_eq (Z : FVec Ideal S16384x32 .f32) :
    best Z = (extractStridedSlice S16384x4 (fun _ => 0) (sorted Z).1 sliceFits_S16384x32_S16384x4,
      extractStridedSlice S16384x4 (fun _ => 0) (sorted Z).2 sliceFits_S16384x32_S16384x4) := rfl

theorem cut_at {α : Type} (x : S16384x32.Idx → α) (R : Fin 16384) (k : Fin 4) :
    extractStridedSlice S16384x4 (fun _ => 0) x sliceFits_S16384x32_S16384x4 (ix2 R k) = x (ix2 R ⟨k.val, by omega⟩) := by
  unfold extractStridedSlice
  refine congrArg x ?_
  funext a
  match a with
  | ⟨0, _⟩ => exact Fin.ext (Nat.zero_add _)
  | ⟨1, _⟩ => exact Fin.ext (Nat.zero_add _)

theorem best_place (Z : FVec Ideal S16384x32 .f32) (R : Fin 16384) (k : Fin 4) :
    (best Z).2 (ix2 R k) = BitVec.ofNat 32 (order (row Z R) ⟨k.val, by omega⟩).val := by
  rw [best_eq]
  refine (cut_at (sorted Z).2 R k).trans ?_
  unfold sorted
  rw [sort_snd, places_at, order_def, ← before_eq]

theorem best_value (Z : FVec Ideal S16384x32 .f32) (R : Fin 16384) (k : Fin 4) :
    (best Z).1 (ix2 R k) = row Z R (order (row Z R) ⟨k.val, by omega⟩) := by
  rw [best_eq]
  refine (cut_at (sorted Z).1 R k).trans ?_
  unfold sorted
  rw [sort_fst, order_def, ← before_eq]

/-- The four weights from the four greatest. -/
def soft (T : FVec Ideal S16384x4 .f32) : FVec Ideal S16384x4 .f32 :=
  Host.exp (subf T (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf T (constant S_ .f32 0xFF800000#32) reducesTo_S16384x4_S16384_d1 h_S_)))))

def shareRef (T : FVec Ideal S16384x4 .f32) : FVec Ideal S16384x4 .f32 :=
  Host.divf (soft T) (broadcastInDim S16384x4 ![0, 1] bcast_S16384x1_S16384x4_0_1 (broadcastInDim S16384x1 ![0] bcast_S16384_S16384x1_0 (Host.reduceAdd (soft T) (constant S_ .f32 0x00000000#32) reducesTo_S16384x4_S16384_d1 h_S_)))

/-- The greatest of four of which the first is not below the others. -/
theorem peak (T : FVec Ideal S16384x4 .f32) (R : Fin 16384) (h : ∀ k : Fin 4, T (ix2 R k) ≤ T (ix2 R 0)) :
    Host.reduce FloatOps.maximumf T (constant S_ .f32 0xFF800000#32) reducesTo_S16384x4_S16384_d1 h_S_ (ix1 R) = T (ix2 R 0) := by
  rw [Host.reduce_eq_fold_single (a := 1) FloatOps.maximumf T _ _ (by decide : S16384x4.Reduces [1] S16384) _ _]
  show (Finset.univ : Finset (Fin 4)).fold max (Ideal.ofBits FTy.f32 0xFF800000#32) (fun k => T _) = _
  rw [low_bits]
  have e : ∀ k : Fin 4, (by decide : S16384x4.Reduces [1] S16384).lift (ix1 R) k = ix2 R k := fun k => by
    funext a
    match a with
    | ⟨0, _⟩ => rfl
    | ⟨1, _⟩ => rfl
  refine le_antisymm ?_ ?_
  · exact (Finset.fold_max_le _).mpr ⟨bot_le, fun k _ => (congrArg T (e k)).trans_le (h k)⟩
  · exact (Finset.le_fold_max _).mpr (Or.inr ⟨0, Finset.mem_univ _, (congrArg T (e 0)).ge⟩)

theorem soft_at (T : FVec Ideal S16384x4 .f32) (R : Fin 16384) (h : ∀ k : Fin 4, T (ix2 R k) ≤ T (ix2 R 0)) (k : Fin 4) :
    soft T (ix2 R k) = Ideal.exp (T (ix2 R k) - T (ix2 R 0)) := by
  have e : max (Ideal.ofBits FTy.f32 0xFF800000#32) (T (ix2 R 0)) = T (ix2 R 0) := by rw [low_bits]; exact max_eq_right bot_le
  rw [← e]
  conv_rhs => rw [← peak T R h]
  unfold soft
  generalize Host.reduce FloatOps.maximumf T (constant S_ .f32 0xFF800000#32) reducesTo_S16384x4_S16384_d1 h_S_ = M
  pointwise []

theorem shareRef_at (T : FVec Ideal S16384x4 .f32) (R : Fin 16384) (k : Fin 4) :
    shareRef T (ix2 R k) = Ideal.div (soft T (ix2 R k)) (∑ i, soft T (ix2 R i)) := by
  unfold shareRef
  generalize soft T = E
  pointwise []

theorem share_best (Z : FVec Ideal S16384x32 .f32) (R : Fin 16384) (k : Fin 4) :
    shareRef (best Z).1 (ix2 R k) = Ideal.div (weightOf (row Z R) k) (∑ i, weightOf (row Z R) i) := by
  have h : ∀ k : Fin 4, (best Z).1 (ix2 R k) ≤ (best Z).1 (ix2 R 0) := fun k => by
    rw [best_value, best_value]
    by_cases hk : k = 0
    · rw [hk]
    · have hlt : (⟨(0 : Fin 4).val, by omega⟩ : Fin 32) < ⟨k.val, by omega⟩ := by
        rw [Fin.lt_def]
        exact Nat.pos_of_ne_zero fun e => hk (Fin.ext e)
      rcases order_le (row Z R) _ _ hlt with h | h
      · exact le_of_lt h
      · exact le_of_eq h.1
  have e : ∀ k : Fin 4, soft (best Z).1 (ix2 R k) = weightOf (row Z R) k := fun k => by
    rw [soft_at _ R h k, best_value, best_value]
    rfl
  rw [shareRef_at, e]
  simp only [e]

/-- Four lanes out to 128. -/
theorem pad_at {α : Type} (x : S16384x4.Idx → α) (v : S_.Idx → α) (R : Fin 16384) (l : Fin 128) :
    pad S16384x128 ![0, 0] ![0, 124] ![0, 0] x v pads_S16384x4_S16384x128_000_01240 h_S_ (ix2 R l)
      = if h : l.val < 4 then x (ix2 R ⟨l.val, h⟩) else v (Shape.Idx.first h_S_) := by
  by_cases h : l.val < 4
  · rw [dif_pos h, pad_apply, dif_pos]
    · refine congrArg x ?_
      funext a
      match a with
      | ⟨0, _⟩ => exact Fin.ext (by show (R.val - 0) / (0 + 1) = R.val; omega)
      | ⟨1, _⟩ => exact Fin.ext (by show (l.val - 0) / (0 + 1) = l.val; omega)
    · intro a
      match a with
      | ⟨0, _⟩ => exact ⟨Nat.zero_le _, Nat.mod_one _, by show (R.val - 0) / (0 + 1) < 16384; omega⟩
      | ⟨1, _⟩ => exact ⟨Nat.zero_le _, Nat.mod_one _, by show (l.val - 0) / (0 + 1) < 4; omega⟩
  · rw [dif_neg h, pad_apply, dif_neg]
    intro hc
    have := (hc 1).2.2
    have h2 : (l.val - 0) / (0 + 1) < 4 := this
    omega

theorem ref_experts (X : FVec Ideal S16384x4096 .f32) (w : FVec Ideal S1x4096 .f32) (W : FVec Ideal S4096x32 .f32) (b : FVec Ideal S1x32 .f32) (R : Fin 16384) (l : Fin 128) :
    pad S16384x128 ![0, 0] ![0, 124] ![0, 0] (best (logitRef X w W b)).2 (id (constantI S_ 32 0#32)) pads_S16384x4_S16384x128_000_01240 h_S_ (ix2 R l)
      = expertOf (logitAt X w W b R) l := by
  have e : row (logitRef X w W b) R = logitAt X w W b R := funext fun e => logitRef_at X w W b R e
  rw [pad_at]
  unfold expertOf
  split
  · rw [best_place, e]
  · rfl

theorem ref_shares (X : FVec Ideal S16384x4096 .f32) (w : FVec Ideal S1x4096 .f32) (W : FVec Ideal S4096x32 .f32) (b : FVec Ideal S1x32 .f32) (R : Fin 16384) (l : Fin 128) :
    pad S16384x128 ![0, 0] ![0, 124] ![0, 0] (shareRef (best (logitRef X w W b)).1) (sitofp (F := Ideal) .f32 (constantI S_ 32 0#32)) pads_S16384x4_S16384x128_000_01240 h_S_ (ix2 R l)
      = shareOf (logitAt X w W b R) l := by
  have e : row (logitRef X w W b) R = logitAt X w W b R := funext fun e => logitRef_at X w W b R e
  rw [pad_at]
  unfold shareOf
  split
  · rw [share_best, e]
  · show ((((0#32 : BitVec 32).toInt : ℤ) : ℝ) : EReal) = 0
    simp

/-! ## The places and the counts -/

/-- A one in the lane of each of a row's four. -/
def picks (P : IVec S16384x4 32) : FVec Ideal S16384x4x32 .f32 :=
  uitofp .f32 (cmpi .eq (broadcastInDim S16384x4x32 ![0, 1, 2] bcast_S16384x4x1_S16384x4x32_0_1_2 (broadcastInDim S16384x4x1 ![0, 1] bcast_S16384x4_S16384x4x1_0_1 P)) (broadcastInDim S16384x4x32 ![0, 1, 2] bcast_S1x1x32_S16384x4x32_0_1_2 (iotaInDim S1x1x32 32 2)))

/-- A bit as a number. -/
def unit (b : BitVec 1) : EReal := FloatOps.uitofp (F := Ideal) .f32 b

theorem unit_eq (a b : BitVec 32) : unit (IntOp.cmpi .eq a b) = if a = b then 1 else 0 := by
  unfold unit
  by_cases h : a = b
  · rw [if_pos h, IntOp.cmpi_eq.mpr h]
    show ((((1#1 : BitVec 1).toNat : ℝ)) : EReal) = 1
    norm_num
  · have h0 : IntOp.cmpi .eq a b = 0#1 := by
      have := mt IntOp.cmpi_eq.mp h
      revert this
      generalize IntOp.cmpi .eq a b = q
      revert q
      decide
    rw [if_neg h, h0]
    show ((((0#1 : BitVec 1).toNat : ℝ)) : EReal) = 0
    norm_num

theorem picks_at (P : IVec S16384x4 32) (R : Fin 16384) (k : Fin 4) (e : Fin 32) :
    picks P (ix3 R k e) = if P (ix2 R k) = BitVec.ofNat 32 e.val then 1 else 0 := by
  rw [← unit_eq]
  unfold unit
  pointwise [picks]

/-- How many of a row's four are an expert's. -/
def chosen (P : IVec S16384x4 32) : FVec Ideal S16384x32 .f32 :=
  Host.reduceAdd (picks P) (constant S_ .f32 0x00000000#32) reducesTo_S16384x4x32_S16384x32_d1 h_S_

theorem chosen_at (P : IVec S16384x4 32) (R : Fin 16384) (e : Fin 32) : chosen P (ix2 R e) = ∑ k : Fin 4, picks P (ix3 R k e) := by
  unfold chosen
  generalize picks P = Q
  pointwise []

/-- Running sums down the columns. -/
def running (C : FVec Ideal S16384x32 .f32) : FVec Ideal S16384x32 .f32 :=
  Host.reduceWindowAdd ![16384, 1] ![1, 1] ![16383, 0] ![0, 0] C (broadcastInDim S_ ![] bcast_S_S_ (constant S_ .f32 0x00000000#32)) reduceWindows_S16384x32_S16384x32_w16384s1p16383_0_w1s1p0_0 h_S_

/-- Sums of a list's terms, one at a time. -/
theorem foldl_total {ι : Type} (f : ι → EReal) (l : List ι) (a : EReal) : l.foldl (fun r n => r + f n) a = a + (l.map f).sum := by
  induction l generalizing a with
  | nil => exact (add_zero a).symm
  | cons n l ih => rw [List.foldl_cons, ih, List.map_cons, List.sum_cons, add_assoc]

/-- A window that ends at row `r`, of rows that begin at row zero. -/
theorem sum_shift (G : ℕ → EReal) (q r : ℕ) (h : r ≤ q) :
    ∑ w ∈ Finset.range (q + 1), (if q ≤ r + w then G (r + w - q) else 0) = ∑ i ∈ Finset.range (r + 1), G i := by
  obtain ⟨d, rfl⟩ : ∃ d, q = d + r := ⟨q - r, by omega⟩
  rw [show d + r + 1 = d + (r + 1) by omega, Finset.sum_range_add]
  refine (congrArg₂ (· + ·) (Finset.sum_eq_zero fun w hw => if_neg ?_) (Finset.sum_congr rfl fun w _ => ?_)).trans (zero_add _)
  · have := Finset.mem_range.mp hw
    omega
  · rw [if_pos (by omega)]
    exact congrArg G (by omega)

/-- A column's entries, of rows in or out of the matrix. -/
def entry {N M : ℕ} (C : FVec Ideal ⟨2, ![N, M]⟩ .f32) (e : Fin M) (n : ℕ) : EReal := if h : n < N then C (ix2 ⟨n, h⟩ e) else 0

/-- A column of a window. -/
abbrev Col (N : ℕ) : Shape := ⟨2, ![N, 1]⟩

theorem col_bij (N : ℕ) : Function.Bijective (fun w : Fin N => (ix2 w 0 : (Col N).Idx)) := by
  refine ⟨fun a b h => congrFun h (0 : Fin 2), fun w => ⟨w (0 : Fin 2), ?_⟩⟩
  have e : w = (ix2 (w (0 : Fin 2)) (w (1 : Fin 2)) : (Col N).Idx) := eq_ix2 w
  refine Eq.trans ?_ e.symm
  exact congrArg (ix2 (w (0 : Fin 2))) (Subsingleton.elim (α := Fin 1) _ _)

theorem column_sums {N M q : ℕ} (hN : N = q + 1) (C : FVec Ideal ⟨2, ![N, M]⟩ .f32) (v : FVec Ideal S_ .f32) (hv : v (Shape.Idx.first h_S_) = (0 : EReal))
    (h : (⟨2, ![N, M]⟩ : Shape).ReduceWindows (![N, 1] : Fin 2 → ℕ) ![1, 1] ![q, 0] ![0, 0] ⟨2, ![N, M]⟩) (R : Fin N) (e : Fin M) :
    Host.reduceWindowAdd (F := Ideal) (φ := .f32) (s := ⟨2, ![N, M]⟩) (t := ⟨2, ![N, M]⟩) ![N, 1] ![1, 1] ![q, 0] ![0, 0] C v h h_S_ (ix2 R e)
      = ∑ i ∈ Finset.range (R.val + 1), entry C e i := by
  have hR := R.isLt
  unfold Host.reduceWindowAdd
  rw [Ideal.hostReduceWindowAdd_def]
  unfold Ideal.hostReduceWindowAdd Host.reduceWindow
  dsimp only
  refine (foldl_total _ _ _).trans ?_
  refine (congrArg₂ (· + ·) hv (Fin.sum_univ_def _).symm).trans ((zero_add _).trans ?_)
  refine (Finset.sum_congr rfl fun n _ => ?_).trans ((Equiv.sum_comp (Col N).rowMajor.symm
    (fun w : (Col N).Idx => if q ≤ R.val + (w (0 : Fin 2)).val then entry C e (R.val + (w (0 : Fin 2)).val - q) else 0)).trans ?_)
  · dsimp only
    have h0 : ((Col N).rowMajor.symm n (0 : Fin 2)).val < N := ((Col N).rowMajor.symm n (0 : Fin 2)).isLt
    have h1 : ((Col N).rowMajor.symm n (1 : Fin 2)).val = 0 := Nat.lt_one_iff.mp ((Col N).rowMajor.symm n (1 : Fin 2)).isLt
    have he := e.isLt
    by_cases h : q ≤ R.val + ((Col N).rowMajor.symm n (0 : Fin 2)).val
    · rw [if_pos h]
      unfold entry
      rw [dif_pos (show R.val + ((Col N).rowMajor.symm n (0 : Fin 2)).val - q < N by omega)]
      refine (dif_pos ?_).trans ?_
      · intro a
        match a with
        | ⟨0, _⟩ =>
          show q ≤ R.val * 1 + ((Col N).rowMajor.symm n (0 : Fin 2)).val ∧ R.val * 1 + ((Col N).rowMajor.symm n (0 : Fin 2)).val - q < N
          omega
        | ⟨1, _⟩ =>
          show 0 ≤ e.val * 1 + ((Col N).rowMajor.symm n (1 : Fin 2)).val ∧ e.val * 1 + ((Col N).rowMajor.symm n (1 : Fin 2)).val - 0 < M
          omega
      · refine congrArg C (funext fun a => Fin.ext ?_)
        match a with
        | ⟨0, _⟩ =>
          show R.val * 1 + ((Col N).rowMajor.symm n (0 : Fin 2)).val - q = R.val + ((Col N).rowMajor.symm n (0 : Fin 2)).val - q
          omega
        | ⟨1, _⟩ =>
          show e.val * 1 + ((Col N).rowMajor.symm n (1 : Fin 2)).val - 0 = e.val
          omega
    · rw [if_neg h]
      refine (dif_neg fun hin => h ?_).trans hv
      have := (hin (0 : Fin 2)).1
      change q ≤ R.val * 1 + ((Col N).rowMajor.symm n (0 : Fin 2)).val at this
      omega
  · refine (Fintype.sum_bijective _ (col_bij N) (fun w : Fin N => if q ≤ R.val + w.val then entry C e (R.val + w.val - q) else 0) _ fun w => rfl).symm.trans ?_
    refine (Fin.sum_univ_eq_sum_range (fun n => if q ≤ R.val + n then entry C e (R.val + n - q) else 0) N).trans ?_
    refine (congrArg (fun T => ∑ i ∈ Finset.range T, if q ≤ R.val + i then entry C e (R.val + i - q) else 0) hN).trans ?_
    exact sum_shift (entry C e) q R.val (by omega)

theorem running_at (C : FVec Ideal S16384x32 .f32) (R : Fin 16384) (e : Fin 32) :
    running C (ix2 R e) = ∑ i ∈ Finset.range (R.val + 1), entry C e i :=
  column_sums rfl C _ (Ideal.ofBits_zero .f32) _ R e

/-- A whole column. -/
theorem column_all {N M : ℕ} (C : FVec Ideal ⟨2, ![N, M]⟩ .f32) (e : Fin M) : ∑ R : Fin N, C (ix2 R e) = ∑ i ∈ Finset.range N, entry C e i :=
  (Finset.sum_congr rfl fun R _ => by unfold entry; rw [dif_pos R.isLt]).trans (Fin.sum_univ_eq_sum_range (entry C e) N)

/-- The places. -/
def placeRef (P : IVec S16384x4 32) : FVec Ideal S16384x4 .f32 :=
  Host.reduceAdd (mulf (picks P) (broadcastInDim S16384x4x32 ![0, 1, 2] bcast_S16384x1x32_S16384x4x32_0_1_2 (broadcastInDim S16384x1x32 ![0, 2] bcast_S16384x32_S16384x1x32_0_2 (subf (running (chosen P)) (chosen P))))) (constant S_ .f32 0x00000000#32) reducesTo_S16384x4x32_S16384x4_d2 h_S_

theorem placeRef_at (P : IVec S16384x4 32) (R : Fin 16384) (k : Fin 4) :
    placeRef P (ix2 R k) = ∑ e : Fin 32, picks P (ix3 R k e) * (running (chosen P) (ix2 R e) - chosen P (ix2 R e)) := by
  unfold placeRef
  generalize running (chosen P) = A
  generalize chosen P = C
  generalize picks P = Q
  pointwise []

/-- The counts. -/
def countRef (C : FVec Ideal S16384x32 .f32) : FVec Ideal S1x32 .f32 :=
  broadcastInDim S1x32 ![1] bcast_S32_S1x32_1 (Host.reduceAdd C (constant S_ .f32 0x00000000#32) reducesTo_S16384x32_S32_d0 h_S_)

theorem countRef_at (C : FVec Ideal S16384x32 .f32) (e : Fin 32) : countRef C (ix2 0 e) = ∑ R : Fin 16384, C (ix2 R e) := by
  unfold countRef
  pointwise []

section
variable (S : Fin 16384 → Fin 32 → EReal)

/-- How many of the first rows came to a lane's expert. -/
def met (n : ℕ) (l : Fin 128) : EReal := ∑ i ∈ Finset.range n, if h : i < 16384 then hotOf (S ⟨i, h⟩) l else 0

variable (P : IVec S16384x4 32) (hP : ∀ R (k : Fin 4), P (ix2 R k) = BitVec.ofNat 32 (order (S R) ⟨k.val, by omega⟩).val)
include hP

theorem picks_order (R : Fin 16384) (k : Fin 4) (e : Fin 32) : picks P (ix3 R k e) = if (order (S R) ⟨k.val, by omega⟩).val = e.val then 1 else 0 := by
  rw [picks_at, hP]
  generalize order (S R) ⟨k.val, by omega⟩ = o
  have h : BitVec.ofNat 32 o.val = BitVec.ofNat 32 e.val ↔ o.val = e.val := ⟨fun q => ((lane_at o (lane e)).mp q.symm), fun q => congrArg _ q⟩
  simp only [h]

theorem chosen_hot (R : Fin 16384) (e : Fin 32) : chosen P (ix2 R e) = hotOf (S R) (lane e) := by
  rw [chosen_at]
  exact Finset.sum_congr rfl fun k _ => picks_order S P hP R k e

theorem entry_hot (e : Fin 32) (n : ℕ) : entry (chosen P) e n = if h : n < 16384 then hotOf (S ⟨n, h⟩) (lane e) else 0 := by
  unfold entry
  split
  · exact chosen_hot S P hP _ e
  · rfl

theorem earlier_met (R : Fin 16384) (e : Fin 32) : running (chosen P) (ix2 R e) - chosen P (ix2 R e) = met S R.val (lane e) := by
  have hr : IsReal (hotOf (S R) (lane e)) := IsReal.sum fun k => by
    split
    · exact ⟨1, rfl⟩
    · exact ⟨0, rfl⟩
  obtain ⟨r, hr⟩ := hr
  rw [running_at, Finset.sum_range_succ, entry_hot S P hP, dif_pos R.isLt, chosen_hot S P hP]
  refine (congrArg (fun q => _ + q - q) hr).trans (EReal.add_sub_cancel_right.trans ?_)
  exact Finset.sum_congr rfl fun i _ => entry_hot S P hP e i

theorem placeRef_met (R : Fin 16384) (k : Fin 4) : placeRef P (ix2 R k) = met S R.val (lane (order (S R) ⟨k.val, by omega⟩)) := by
  rw [placeRef_at]
  refine (Finset.sum_eq_single (order (S R) ⟨k.val, by omega⟩) (fun e _ he => ?_) fun hn => absurd (Finset.mem_univ _) hn).trans ?_
  · rw [picks_order S P hP, if_neg fun q => he (Fin.ext q.symm), zero_mul]
  · rw [picks_order S P hP, if_pos rfl, one_mul, earlier_met S P hP]

theorem count_met (e : Fin 32) : countRef (chosen P) (ix2 0 e) = met S 16384 (lane e) := by
  rw [countRef_at]
  exact (column_all (chosen P) e).trans (Finset.sum_congr rfl fun i _ => entry_hot S P hP e i)

omit hP in
/-- No row comes to a lane past the experts. -/
theorem met_past (n : ℕ) (l : Fin 128) (hl : ¬ l.val < 32) : met S n l = 0 :=
  Finset.sum_eq_zero fun i _ => by
    split
    · refine Finset.sum_eq_zero fun k _ => if_neg fun q => hl ?_
      rw [← q]
      exact Fin.isLt _
    · rfl

/-- The places of the padded table. -/
theorem ref_ranks (R : Fin 16384) (l : Fin 128) :
    pad S16384x128 ![0, 0] ![0, 124] ![0, 0] (fptosi 32 (placeRef P)) (id (constantI S_ 32 0#32)) pads_S16384x4_S16384x128_000_01240 h_S_ (ix2 R l)
      = FloatOps.fptosi (F := Ideal) (φ := .f32) 32 (if h : l.val < 4 then met S R.val (lane (order (S R) ⟨l.val, by omega⟩)) else 0) := by
  rw [pad_at]
  split
  · exact congrArg (FloatOps.fptosi (F := Ideal) (φ := .f32) 32) (placeRef_met S P hP R _)
  · show (0#32 : BitVec 32) = Ideal.fptosi 32 ((0 : ℝ) : EReal)
    rw [Ideal.fptosi, Ideal.toIntClamped_coe]
    simp

omit hP in
/-- Thirty-two lanes out to 128. -/
theorem pad_row (x : S1x32.Idx → EReal) (v : S_.Idx → EReal) (l : Fin 128) :
    pad S1x128 ![0, 0] ![0, 96] ![0, 0] x v pads_S1x32_S1x128_000_0960 h_S_ (ix2 0 l)
      = if h : l.val < 32 then x (ix2 0 ⟨l.val, h⟩) else v (Shape.Idx.first h_S_) := by
  by_cases h : l.val < 32
  · rw [dif_pos h, pad_apply, dif_pos]
    · refine congrArg x ?_
      funext a
      match a with
      | ⟨0, _⟩ => exact Fin.ext (by show (0 - 0) / (0 + 1) = 0; omega)
      | ⟨1, _⟩ => exact Fin.ext (by show (l.val - 0) / (0 + 1) = l.val; omega)
    · intro a
      match a with
      | ⟨0, _⟩ => exact ⟨Nat.zero_le _, Nat.mod_one _, by show (0 - 0) / (0 + 1) < 1; omega⟩
      | ⟨1, _⟩ => exact ⟨Nat.zero_le _, Nat.mod_one _, by show (l.val - 0) / (0 + 1) < 32; omega⟩
  · rw [dif_neg h, pad_apply, dif_neg]
    intro hc
    have := (hc 1).2.2
    have h2 : (l.val - 0) / (0 + 1) < 32 := this
    omega

/-- The counts of the padded row. -/
theorem ref_counts (l : Fin 128) :
    pad S1x128 ![0, 0] ![0, 96] ![0, 0] (countRef (chosen P)) (sitofp (F := Ideal) .f32 (constantI S_ 32 0#32)) pads_S1x32_S1x128_000_0960 h_S_ (ix2 0 l)
      = met S 16384 l := by
  rw [pad_row]
  split
  · exact count_met S P hP _
  · rename_i h
    rw [met_past S _ l h]
    show ((((0#32 : BitVec 32).toInt : ℤ) : ℝ) : EReal) = 0
    simp

end

/-- The reference's four of a row, in order. -/
theorem best_order (X : FVec Ideal S16384x4096 .f32) (w : FVec Ideal S1x4096 .f32) (W : FVec Ideal S4096x32 .f32) (b : FVec Ideal S1x32 .f32) (R : Fin 16384) (k : Fin 4) :
    (best (logitRef X w W b)).2 (ix2 R k) = BitVec.ofNat 32 (order (logitAt X w W b R) ⟨k.val, by omega⟩).val := by
  have e : row (logitRef X w W b) R = logitAt X w W b R := funext fun e => logitRef_at X w W b R e
  rw [best_place, e]

theorem seen_scores (m : (ℓ : Loc Cert.RouterIdeal.nD Cert.RouterIdeal.τ Cert.RouterIdeal.sig) → Buf (Elt Ideal) ℓ) (c : Dev Cert.RouterIdeal.nD) (n : ℕ) (l : Fin 128) :
    Cert.RouterIdeal.Val.seen m c n l = met (Cert.RouterIdeal.Val.scores m c) n l := rfl

theorem rank_scores (m : (ℓ : Loc Cert.RouterIdeal.nD Cert.RouterIdeal.τ Cert.RouterIdeal.sig) → Buf (Elt Ideal) ℓ) (c : Dev Cert.RouterIdeal.nD) (R : Fin 16384) (l : Fin 128) :
    Cert.RouterIdeal.Val.rankArr m c (ix2 R l) = FloatOps.fptosi (F := Ideal) (φ := .f32) 32
      (if h : l.val < 4 then met (Cert.RouterIdeal.Val.scores m c) R.val (lane (order (Cert.RouterIdeal.Val.scores m c R) ⟨l.val, by omega⟩)) else 0) := rfl

theorem count_scores (m : (ℓ : Loc Cert.RouterIdeal.nD Cert.RouterIdeal.τ Cert.RouterIdeal.sig) → Buf (Elt Ideal) ℓ) (c : Dev Cert.RouterIdeal.nD) (l : Fin 128) :
    Cert.RouterIdeal.Val.countArr m c (ix2 0 l) = met (Cert.RouterIdeal.Val.scores m c) 16384 l :=
  (Cert.RouterIdeal.Val.countArr_at m c 0 l).trans (seen_scores m c _ l)

end Cert.RouterRefIdeal.Val

namespace Cert.Proof

open Idealize.ShloMosaic Idealize.ShloMosaic.TcCoe Idealize.SL.Sem

theorem frame_router : quiescent_Router := fun m g _ => Cert.Router.Gen.frame m g
theorem frame_router_ideal : quiescent_RouterIdeal := fun m g _ => Cert.RouterIdeal.Gen.frame m g
theorem frame_router_reference : quiescent_RouterRefIdeal := fun m g _ =>
  θ_run_mono (Cert.RouterRefIdeal.Value.run m g) fun r h => ⟨fun c => (h c).2.2.2.2, sem_eq_zero_of_no_sems (by decide) r.2⟩

theorem frame_router_ideal_pre : quiescent_RouterIdeal_pre_finite := fun m g _ => Cert.RouterIdeal.Gen.frame m g
theorem frame_router_reference_pre : quiescent_RouterRefIdeal_pre_finite := fun m g _ =>
  θ_run_mono (Cert.RouterRefIdeal.Value.run m g) fun r h => ⟨fun c => (h c).2.2.2.2, sem_eq_zero_of_no_sems (by decide) r.2⟩

/-- The experts a row is sent to, their weights, the rows' places and the counts are the reference's, whatever rows come in. -/
theorem algebraic_router : algebraic_RouterIdeal_RouterRefIdeal_pre_finite := fun m g m' g' hp hm => by
  have hr := fun c => Cert.Finite.decode _ _ _ _ (hp c)
  refine ⟨fun c => Cert.RouterIdeal.Val.expertArr m c, fun c => Cert.RouterIdeal.Val.shareArr m c,
    fun c => Cert.RouterIdeal.Val.rankArr m c, fun c => Cert.RouterIdeal.Val.countArr m c, ?_, ?_⟩
  · refine θ_run_mono (Cert.RouterIdeal.Value.run_blocks m g) fun r h c => ?_
    obtain ⟨r1, r2, r3⟩ := hr c
    exact ⟨(h c).1.trans (Cert.RouterIdeal.Val.final4 m c (fun d => r1 _) (fun d e => r2 _) (fun e => r3 _)),
      (h c).2.1.trans (Cert.RouterIdeal.Val.final5 m c (fun d => r1 _) (fun d e => r2 _) (fun e => r3 _)),
      (h c).2.2.1.trans (Cert.RouterIdeal.Val.final6 m c (fun d => r1 _) (fun d e => r2 _) (fun e => r3 _)),
      (h c).2.2.2.1.trans (Cert.RouterIdeal.Val.final7 m c (fun d => r1 _) (fun d e => r2 _) (fun e => r3 _)), (h c).2.2.2.2⟩
  · refine θ_run_mono (Cert.RouterRefIdeal.Value.run m' g') fun r h c =>
      ⟨(h c).1.trans ?_, (h c).2.1.trans ?_, (h c).2.2.1.trans ?_, (h c).2.2.2.1.trans ?_, (h c).2.2.2.2⟩
    · obtain ⟨h0, h1, h2, h3⟩ := hm c
      rw [h0, h1, h2, h3]
      funext j
      have hj : j = ix2 (j (0 : Fin 2)) (j (1 : Fin 2)) := eq_ix2 j
      rw [hj]
      exact Cert.RouterRefIdeal.Val.ref_experts _ _ _ _ _ _
    · obtain ⟨h0, h1, h2, h3⟩ := hm c
      unfold Cert.RouterRefIdeal.Value.res_main_v42
      rw [h0, h1, h2, h3]
      funext j
      have hj : j = ix2 (j (0 : Fin 2)) (j (1 : Fin 2)) := eq_ix2 j
      rw [hj]
      exact Cert.RouterRefIdeal.Val.ref_shares _ _ _ _ _ _
    · obtain ⟨h0, h1, h2, h3⟩ := hm c
      unfold Cert.RouterRefIdeal.Value.res_main_v43
      rw [h0, h1, h2, h3]
      funext j
      have hj : j = ix2 (j (0 : Fin 2)) (j (1 : Fin 2)) := eq_ix2 j
      rw [hj]
      exact (Cert.RouterRefIdeal.Val.ref_ranks _ _ (Cert.RouterRefIdeal.Val.best_order _ _ _ _) _ _).trans (Cert.RouterRefIdeal.Val.rank_scores m c _ _).symm
    · obtain ⟨h0, h1, h2, h3⟩ := hm c
      rw [h0, h1, h2, h3]
      funext j
      obtain ⟨l, rfl⟩ : ∃ l : Fin 128, j = ix2 0 l := ⟨j (1 : Fin 2), (eq_ix2 j).trans (congrArg (fun q => ix2 q (j (1 : Fin 2))) (Subsingleton.elim (α := Fin 1) _ _))⟩
      exact (Cert.RouterRefIdeal.Val.ref_counts _ _ (Cert.RouterRefIdeal.Val.best_order _ _ _ _) _).trans (Cert.RouterRefIdeal.Val.count_scores m c _).symm

end Cert.Proof

end
-- ==== Proof.lean ====
/- The certificate's claims, put together from the modules under `Proof/`. For each of the five calls (the grouped
   experts, the input projection, the output projection with its residual, the first norm with the low-rank decay gate,
   the router): the frames of the call as run, of its ideal
   reading and of its reference, the rewrites between the first two, and the equality of the results of the last two
   over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_routed
public import proofs.«01_k».proof.Proof.Gen.ReferenceIdeal.Run
public import proofs.«01_k».proof.Proof.Gen.InProjIdeal.Value
public import proofs.«01_k».proof.Proof.Gen.OutProjIdeal.Value
public import proofs.«01_k».proof.Proof.Gen.InRefIdeal.Run
public import proofs.«01_k».proof.Proof.Gen.OutRefIdeal.Run
public import proofs.«01_k».proof.Proof.Gen.InProj
public import proofs.«01_k».proof.Proof.Gen.InProjIdeal
public import proofs.«01_k».proof.Proof.Gen.InProj.Skeleton
public import proofs.«01_k».proof.Proof.Gen.InProjIdeal.Skeleton
public import proofs.«01_k».proof.Proof.Gen.InProj.Launch
public import proofs.«01_k».proof.Proof.Gen.InProjIdeal.Launch
public import proofs.«01_k».proof.Proof.Gen.InProj.Points
public import proofs.«01_k».proof.Proof.Gen.InProjIdeal.Points
public import proofs.«01_k».proof.Proof.Gen.InProj.Frame
public import proofs.«01_k».proof.Proof.Gen.InProjIdeal.Frame
public import proofs.«01_k».proof.Proof.Gen.OutProj
public import proofs.«01_k».proof.Proof.Gen.OutProjIdeal
public import proofs.«01_k».proof.Proof.Gen.OutProj.Skeleton
public import proofs.«01_k».proof.Proof.Gen.OutProjIdeal.Skeleton
public import proofs.«01_k».proof.Proof.Gen.OutProj.Launch
public import proofs.«01_k».proof.Proof.Gen.OutProjIdeal.Launch
public import proofs.«01_k».proof.Proof.Gen.OutProj.Points
public import proofs.«01_k».proof.Proof.Gen.OutProjIdeal.Points
public import proofs.«01_k».proof.Proof.Gen.OutProj.Frame
public import proofs.«01_k».proof.Proof.Gen.OutProjIdeal.Frame
public import proofs.«01_k».proof.Proof.Sides
public import proofs.«01_k».proof.Proof.Equal
public import proofs.«01_k».proof.Proof.InProjection
public import proofs.«01_k».proof.Proof.OutProjection
public import proofs.«01_k».proof.Proof.Gen.NormGateIdeal.Value
public import proofs.«01_k».proof.Proof.Gen.NormGate.Frame
public import proofs.«01_k».proof.Proof.Gen.NormRefIdeal.Run
public import proofs.«01_k».proof.Proof.NormGate
public import proofs.«01_k».proof.Proof.Gen.Pre_finite
public import proofs.«01_k».proof.Proof.Gen.RouterIdeal.Value
public import proofs.«01_k».proof.Proof.Gen.Router.Frame
public import proofs.«01_k».proof.Proof.Gen.RouterRefIdeal.Run
public import proofs.«01_k».proof.Proof.RouterRef

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.InProj.Gen.facts, Cert.InProjIdeal.Gen.facts, Cert.InRefIdeal.Gen.facts,
  Cert.OutProj.Gen.facts, Cert.OutProjIdeal.Gen.facts, Cert.OutRefIdeal.Gen.facts,
  Cert.NormGate.Gen.facts, Cert.NormGateIdeal.Gen.facts, Cert.NormRefIdeal.Gen.facts,
  Cert.Router.Gen.facts, Cert.RouterIdeal.Gen.facts, Cert.RouterRefIdeal.Gen.facts, Cert.Pre_routed.Gen.facts, Cert.Pre_finite.Gen.facts,
  frame_kernel, frame_ideal, frame_reference, frame_in, frame_in_ideal, frame_in_reference, frame_out, frame_out_ideal, frame_out_reference,
  frame_norm, frame_norm_ideal, frame_norm_reference,
  frame_router, frame_router_ideal, frame_router_ideal_pre, frame_router_reference, frame_router_reference_pre,
  preserves, algebraic, trivial, algebraic_in, trivial, algebraic_out, trivial, algebraic_norm, trivial, algebraic_router⟩

end Cert.Proof

end
